-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 1024, 8, 128]⟩ ⟨4, ![1, 8192, 8, 128]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 1024, 8, 128]⟩ ⟨4, ![1, 8192, 8, 128]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v42) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x1024x1024 : Shape := ⟨3, ![1, 1024, 1024]⟩
abbrev S1024x1024 : Shape := ⟨2, ![1024, 1024]⟩
abbrev S1x1024x8x128 : Shape := ⟨4, ![1, 1024, 8, 128]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1024x8x128 : S_.BroadcastsInDim S1x1024x8x128 (![] : Fin 0 → Fin S1x1024x8x128.rank)
  reducesTo_S1x1024x8x128_S_d0_1_2_3 : S1x1024x8x128.ReducesTo [0, 1, 2, 3] S_

variable [Facts]

def fn {F : FTy → Type} [FloatOps F] (main_arg0 : FVec F S1x1024x1024 .bf16) (main_arg1 : FVec F S1024x1024 .bf16) (main_arg2 : FVec F S1x1024x8x128 .bf16) (main_arg3 : FVec F S1x1024x8x128 .bf16) (main_arg4 : FVec F S1024x1024 .bf16) : IVec S_ 1 :=
  let main_v0 : FVec F S1x1024x1024 .bf16 := Host.absf main_arg0
  let main_cst : FVec F S_ .bf16 := constant S_ .bf16 0x7F80#16
  let main_v1 : FVec F S1x1024x1024 .bf16 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  let main_v4 : FVec F S1024x1024 .bf16 := Host.absf main_arg1
  let main_cst_0 : FVec F S_ .bf16 := constant S_ .bf16 0x7F80#16
  let main_v5 : FVec F S1024x1024 .bf16 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x1024x8x128 .bf16 := Host.absf main_arg2
  let main_cst_2 : FVec F S_ .bf16 := constant S_ .bf16 0x7F80#16
  let main_v10 : FVec F S1x1024x8x128 .bf16 := broadcastInDim S1x1024x8x128 ![] bcast_S_S1x1024x8x128 main_cst_2
  let main_v11 : IVec S1x1024x8x128 1 := cmpf .olt main_v9 main_v10
  let main_c_3 : IVec S_ 1 := constantI S_ 1 1#1
  let main_v12 : IVec S_ 1 := (fun x v => Host.reduce IntOp.andi x v reducesTo_S1x1024x8x128_S_d0_1_2_3 h_S_) main_v11 main_c_3
  let main_v13 : IVec S_ 1 := andi main_v8 main_v12
  main_v13
-- ==== Pre_finite_ReferenceIdeal.lean ====
abbrev S1x1024x1024 : Shape := ⟨3, ![1, 1024, 1024]⟩
abbrev S1024x1024 : Shape := ⟨2, ![1024, 1024]⟩
abbrev S1x8192x8x128 : Shape := ⟨4, ![1, 8192, 8, 128]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x8192x8x128 : S_.BroadcastsInDim S1x8192x8x128 (![] : Fin 0 → Fin S1x8192x8x128.rank)
  reducesTo_S1x8192x8x128_S_d0_1_2_3 : S1x8192x8x128.ReducesTo [0, 1, 2, 3] S_

variable [Facts]

def fn {F : FTy → Type} [FloatOps F] (main_arg0 : FVec F S1x1024x1024 .bf16) (main_arg1 : FVec F S1024x1024 .bf16) (main_arg2 : FVec F S1x8192x8x128 .bf16) (main_arg3 : FVec F S1x8192x8x128 .bf16) (main_arg4 : FVec F S1024x1024 .bf16) : IVec S_ 1 :=
  let main_v0 : FVec F S1x1024x1024 .bf16 := Host.absf main_arg0
  let main_cst : FVec F S_ .bf16 := constant S_ .bf16 0x7F80#16
  let main_v1 : FVec F S1x1024x1024 .bf16 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  let main_v4 : FVec F S1024x1024 .bf16 := Host.absf main_arg1
  let main_cst_0 : FVec F S_ .bf16 := constant S_ .bf16 0x7F80#16
  let main_v5 : FVec F S1024x1024 .bf16 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x8192x8x128 .bf16 := Host.absf main_arg2
  let main_cst_2 : FVec F S_ .bf16 := constant S_ .bf16 0x7F80#16
  let main_v10 : FVec F S1x8192x8x128 .bf16 := broadcastInDim S1x8192x8x128 ![] bcast_S_S1x8192x8x128 main_cst_2
  let main_v11 : IVec S1x8192x8x128 1 := cmpf .olt main_v9 main_v10
  let main_c_3 : IVec S_ 1 := constantI S_ 1 1#1
  let main_v12 : IVec S_ 1 := (fun x v => Host.reduce IntOp.andi x v reducesTo_S1x8192x8x128_S_d0_1_2_3 h_S_) main_v11 main_c_3
  let main_v13 : IVec S_ 1 := andi main_v8 main_v12
  main_v13
-- ==== Kernel.lean ====
abbrev S1x1024x1024 : Shape := ⟨3, ![1, 1024, 1024]⟩
abbrev S1024x1024 : Shape := ⟨2, ![1024, 1024]⟩
abbrev S1x1024x8x128 : Shape := ⟨4, ![1, 1024, 8, 128]⟩
abbrev S8x128x1024 : Shape := ⟨3, ![8, 128, 1024]⟩
abbrev S3x8 : Shape := ⟨2, ![3, 8]⟩
abbrev S8 : Shape := ⟨1, ![8]⟩
abbrev S_ : Shape := ⟨0, ![]⟩
abbrev S1024x8x128 : Shape := ⟨3, ![1024, 8, 128]⟩
abbrev S1x128x1024 : Shape := ⟨3, ![1, 128, 1024]⟩
abbrev S128x1024 : Shape := ⟨2, ![128, 1024]⟩
abbrev S128x128 : Shape := ⟨2, ![128, 128]⟩
abbrev S128 : Shape := ⟨1, ![128]⟩
abbrev S128x1 : Shape := ⟨2, ![128, 1]⟩
abbrev S1x1 : Shape := ⟨2, ![1, 1]⟩
abbrev S1 : Shape := ⟨1, ![1]⟩
abbrev S128x256 : Shape := ⟨2, ![128, 256]⟩
abbrev S256x128 : Shape := ⟨2, ![256, 128]⟩
abbrev S128x384 : Shape := ⟨2, ![128, 384]⟩
abbrev S384x128 : Shape := ⟨2, ![384, 128]⟩
abbrev S128x512 : Shape := ⟨2, ![128, 512]⟩
abbrev S512x128 : Shape := ⟨2, ![512, 128]⟩
abbrev S128x640 : Shape := ⟨2, ![128, 640]⟩
abbrev S640x128 : Shape := ⟨2, ![640, 128]⟩
abbrev S128x768 : Shape := ⟨2, ![128, 768]⟩
abbrev S768x128 : Shape := ⟨2, ![768, 128]⟩
abbrev S128x896 : Shape := ⟨2, ![128, 896]⟩
abbrev S896x128 : Shape := ⟨2, ![896, 128]⟩
abbrev S1024x128 : Shape := ⟨2, ![1024, 128]⟩

abbrev nBuf : Space → Nat
  | .hbm => 6
  | .vmem => 7
  | .smem => 0
  | _ => 0

abbrev bufTy : (tb : Table) → Fin (tcTables nBuf tb) → BufTy
  | .hbm, ⟨0, _⟩ => ⟨S1x1024x1024, .bf16⟩
  | .hbm, ⟨1, _⟩ => ⟨S1024x1024, .bf16⟩
  | .hbm, ⟨2, _⟩ => ⟨S1x1024x8x128, .bf16⟩
  | .hbm, ⟨3, _⟩ => ⟨S1x1024x8x128, .bf16⟩
  | .hbm, ⟨4, _⟩ => ⟨S1024x1024, .bf16⟩
  | .hbm, ⟨5, _⟩ => ⟨S1x1024x1024, .f32⟩
  | .local _ .vmem, ⟨0, _⟩ => ⟨S1x1024x1024, .bf16⟩
  | .local _ .vmem, ⟨1, _⟩ => ⟨S1024x1024, .bf16⟩
  | .local _ .vmem, ⟨2, _⟩ => ⟨S1x1024x8x128, .bf16⟩
  | .local _ .vmem, ⟨3, _⟩ => ⟨S1x1024x8x128, .bf16⟩
  | .local _ .vmem, ⟨4, _⟩ => ⟨S1024x1024, .bf16⟩
  | .local _ .vmem, ⟨5, _⟩ => ⟨S1x1024x1024, .f32⟩
  | .local _ .vmem, ⟨6, _⟩ => ⟨S8x128x1024, .bf16⟩
  | _, _ => ⟨S1x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 2 → Bool
  | ⟨0, _⟩ => false
  | ⟨1, _⟩ => true
  | _ => false

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  (ofTc nBuf bufTy 2 46 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 1 := Scalar.cmpi .eq v2 c1_i32_0
  let v5 : BitVec 32 := Scalar.extui v4
  let c0_i32 : BitVec 32 := 0#32
  let v6 : BitVec 1 := Scalar.cmpi .ne v5 c0_i32
  v6

def k0_dev1 : Nat :=
  let c0_i32_241 : BitVec 32 := 0#32
  let c0_i32_239 : BitVec 32 := 0#32
  let c1_i32_240 : BitVec 32 := 1#32
  let v82 : BitVec 32 := Scalar.muli c0_i32_239 c1_i32_240
  let v83 : BitVec 32 := Scalar.addi c0_i32_241 v82
  v83.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v7 : BitVec 1 := Scalar.cmpi .eq v2 c2_i32
  let v8 : BitVec 32 := Scalar.extui v7
  let c0_i32_1 : BitVec 32 := 0#32
  let v9 : BitVec 1 := Scalar.cmpi .ne v8 c0_i32_1
  v9

def k0_dev2 : Nat :=
  let c0_i32_241 : BitVec 32 := 0#32
  let c1_i32_239 : BitVec 32 := 1#32
  let c1_i32_240 : BitVec 32 := 1#32
  let v82 : BitVec 32 := Scalar.muli c1_i32_239 c1_i32_240
  let v83 : BitVec 32 := Scalar.addi c0_i32_241 v82
  v83.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v10 : BitVec 1 := Scalar.cmpi .eq v2 c3_i32
  let v11 : BitVec 32 := Scalar.extui v10
  let c0_i32_2 : BitVec 32 := 0#32
  let v12 : BitVec 1 := Scalar.cmpi .ne v11 c0_i32_2
  v12

def k0_dev3 : Nat :=
  let c0_i32_241 : BitVec 32 := 0#32
  let c0_i32_239 : BitVec 32 := 0#32
  let c1_i32_240 : BitVec 32 := 1#32
  let v82 : BitVec 32 := Scalar.muli c0_i32_239 c1_i32_240
  let v83 : BitVec 32 := Scalar.addi c0_i32_241 v82
  v83.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v13 : BitVec 1 := Scalar.cmpi .eq v2 c4_i32
  let v14 : BitVec 32 := Scalar.extui v13
  let c0_i32_3 : BitVec 32 := 0#32
  let v15 : BitVec 1 := Scalar.cmpi .ne v14 c0_i32_3
  v15

def k0_dev4 : Nat :=
  let c0_i32_241 : BitVec 32 := 0#32
  let c0_i32_239 : BitVec 32 := 0#32
  let c1_i32_240 : BitVec 32 := 1#32
  let v82 : BitVec 32 := Scalar.muli c0_i32_239 c1_i32_240
  let v83 : BitVec 32 := Scalar.addi c0_i32_241 v82
  v83.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v16 : BitVec 1 := Scalar.cmpi .eq v2 c5_i32
  let v17 : BitVec 32 := Scalar.extui v16
  let c0_i32_4 : BitVec 32 := 0#32
  let v18 : BitVec 1 := Scalar.cmpi .ne v17 c0_i32_4
  v18

def k0_dev5 : Nat :=
  let c0_i32_241 : BitVec 32 := 0#32
  let c4_i32_239 : BitVec 32 := 4#32
  let c1_i32_240 : BitVec 32 := 1#32
  let v82 : BitVec 32 := Scalar.muli c4_i32_239 c1_i32_240
  let v83 : BitVec 32 := Scalar.addi c0_i32_241 v82
  v83.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v19 : BitVec 1 := Scalar.cmpi .eq v2 c6_i32
  let v20 : BitVec 32 := Scalar.extui v19
  let c0_i32_5 : BitVec 32 := 0#32
  let v21 : BitVec 1 := Scalar.cmpi .ne v20 c0_i32_5
  v21

def k0_dev6 : Nat :=
  let c0_i32_241 : BitVec 32 := 0#32
  let c2_i32_239 : BitVec 32 := 2#32
  let c1_i32_240 : BitVec 32 := 1#32
  let v82 : BitVec 32 := Scalar.muli c2_i32_239 c1_i32_240
  let v83 : BitVec 32 := Scalar.addi c0_i32_241 v82
  v83.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v22 : BitVec 1 := Scalar.cmpi .eq v2 c7_i32
  let v23 : BitVec 32 := Scalar.extui v22
  let c0_i32_6 : BitVec 32 := 0#32
  let v24 : BitVec 1 := Scalar.cmpi .ne v23 c0_i32_6
  v24

def k0_dev7 : Nat :=
  let c0_i32_241 : BitVec 32 := 0#32
  let c3_i32_239 : BitVec 32 := 3#32
  let c1_i32_240 : BitVec 32 := 1#32
  let v82 : BitVec 32 := Scalar.muli c3_i32_239 c1_i32_240
  let v83 : BitVec 32 := Scalar.addi c0_i32_241 v82
  v83.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v25 : BitVec 1 := Scalar.cmpi .eq v2 c0_i32_7
  let v26 : BitVec 32 := Scalar.extui v25
  let c0_i32_8 : BitVec 32 := 0#32
  let v27 : BitVec 1 := Scalar.cmpi .ne v26 c0_i32_8
  v27

def k0_dev8 : Nat :=
  let c0_i32_241 : BitVec 32 := 0#32
  let c1_i32_239 : BitVec 32 := 1#32
  let c1_i32_240 : BitVec 32 := 1#32
  let v82 : BitVec 32 := Scalar.muli c1_i32_239 c1_i32_240
  let v83 : BitVec 32 := Scalar.addi c0_i32_241 v82
  v83.toNat
def k0_dev9 : Nat :=
  let c0_i32_245 : BitVec 32 := 0#32
  let c3_i32_243 : BitVec 32 := 3#32
  let c1_i32_244 : BitVec 32 := 1#32
  let v84 : BitVec 32 := Scalar.muli c3_i32_243 c1_i32_244
  let v85 : BitVec 32 := Scalar.addi c0_i32_245 v84
  v85.toNat
def k0_dev10 : Nat :=
  let c0_i32_249 : BitVec 32 := 0#32
  let c4_i32_247 : BitVec 32 := 4#32
  let c1_i32_248 : BitVec 32 := 1#32
  let v86 : BitVec 32 := Scalar.muli c4_i32_247 c1_i32_248
  let v87 : BitVec 32 := Scalar.addi c0_i32_249 v86
  v87.toNat
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_9 : BitVec 32 := 1#32
  let v28 : BitVec 1 := Scalar.cmpi .eq v2 c1_i32_9
  let v29 : BitVec 32 := Scalar.extui v28
  let c0_i32_10 : BitVec 32 := 0#32
  let v30 : BitVec 1 := Scalar.cmpi .ne v29 c0_i32_10
  v30

def k0_dev11 : Nat :=
  let c0_i32_241 : BitVec 32 := 0#32
  let c2_i32_239 : BitVec 32 := 2#32
  let c1_i32_240 : BitVec 32 := 1#32
  let v82 : BitVec 32 := Scalar.muli c2_i32_239 c1_i32_240
  let v83 : BitVec 32 := Scalar.addi c0_i32_241 v82
  v83.toNat
def k0_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_11 : BitVec 32 := 2#32
  let v31 : BitVec 1 := Scalar.cmpi .eq v2 c2_i32_11
  let v32 : BitVec 32 := Scalar.extui v31
  let c0_i32_12 : BitVec 32 := 0#32
  let v33 : BitVec 1 := Scalar.cmpi .ne v32 c0_i32_12
  v33

def k0_dev12 : Nat :=
  let c0_i32_241 : BitVec 32 := 0#32
  let c6_i32_239 : BitVec 32 := 6#32
  let c1_i32_240 : BitVec 32 := 1#32
  let v82 : BitVec 32 := Scalar.muli c6_i32_239 c1_i32_240
  let v83 : BitVec 32 := Scalar.addi c0_i32_241 v82
  v83.toNat
def k0_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_13 : BitVec 32 := 3#32
  let v34 : BitVec 1 := Scalar.cmpi .eq v2 c3_i32_13
  let v35 : BitVec 32 := Scalar.extui v34
  let c0_i32_14 : BitVec 32 := 0#32
  let v36 : BitVec 1 := Scalar.cmpi .ne v35 c0_i32_14
  v36

def k0_dev13 : Nat :=
  let c0_i32_241 : BitVec 32 := 0#32
  let c7_i32_239 : BitVec 32 := 7#32
  let c1_i32_240 : BitVec 32 := 1#32
  let v82 : BitVec 32 := Scalar.muli c7_i32_239 c1_i32_240
  let v83 : BitVec 32 := Scalar.addi c0_i32_241 v82
  v83.toNat
def k0_cond12 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_15 : BitVec 32 := 4#32
  let v37 : BitVec 1 := Scalar.cmpi .eq v2 c4_i32_15
  let v38 : BitVec 32 := Scalar.extui v37
  let c0_i32_16 : BitVec 32 := 0#32
  let v39 : BitVec 1 := Scalar.cmpi .ne v38 c0_i32_16
  v39

def k0_dev14 : Nat :=
  let c0_i32_241 : BitVec 32 := 0#32
  let c5_i32_239 : BitVec 32 := 5#32
  let c1_i32_240 : BitVec 32 := 1#32
  let v82 : BitVec 32 := Scalar.muli c5_i32_239 c1_i32_240
  let v83 : BitVec 32 := Scalar.addi c0_i32_241 v82
  v83.toNat
def k0_cond16 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_50 : BitVec 32 := 0#32
  let v76 : BitVec 1 := Scalar.cmpi .eq v2 c0_i32_50
  let v77 : BitVec 32 := Scalar.extui v76
  let c0_i32_171 : BitVec 32 := 0#32
  let v78 : BitVec 1 := Scalar.cmpi .ne v77 c0_i32_171
  v78

def k0_dev15 : Nat :=
  let c0_i32_324 : BitVec 32 := 0#32
  let c1_i32_322 : BitVec 32 := 1#32
  let c1_i32_323 : BitVec 32 := 1#32
  let v320 : BitVec 32 := Scalar.muli c1_i32_322 c1_i32_323
  let v321 : BitVec 32 := Scalar.addi c0_i32_324 v320
  v321.toNat
def k0_dev16 : Nat :=
  let c0_i32_331 : BitVec 32 := 0#32
  let c3_i32_329 : BitVec 32 := 3#32
  let c1_i32_330 : BitVec 32 := 1#32
  let v330 : BitVec 32 := Scalar.muli c3_i32_329 c1_i32_330
  let v331 : BitVec 32 := Scalar.addi c0_i32_331 v330
  v331.toNat
def k0_dev17 : Nat :=
  let c0_i32_338 : BitVec 32 := 0#32
  let c4_i32_336 : BitVec 32 := 4#32
  let c1_i32_337 : BitVec 32 := 1#32
  let v340 : BitVec 32 := Scalar.muli c4_i32_336 c1_i32_337
  let v341 : BitVec 32 := Scalar.addi c0_i32_338 v340
  v341.toNat
def k0_dev18 : Nat :=
  let c0_i32_418 : BitVec 32 := 0#32
  let c1_i32_416 : BitVec 32 := 1#32
  let c1_i32_417 : BitVec 32 := 1#32
  let v578 : BitVec 32 := Scalar.muli c1_i32_416 c1_i32_417
  let v579 : BitVec 32 := Scalar.addi c0_i32_418 v578
  v579.toNat
def k0_dev19 : Nat :=
  let c0_i32_425 : BitVec 32 := 0#32
  let c3_i32_423 : BitVec 32 := 3#32
  let c1_i32_424 : BitVec 32 := 1#32
  let v588 : BitVec 32 := Scalar.muli c3_i32_423 c1_i32_424
  let v589 : BitVec 32 := Scalar.addi c0_i32_425 v588
  v589.toNat
def k0_dev20 : Nat :=
  let c0_i32_432 : BitVec 32 := 0#32
  let c4_i32_430 : BitVec 32 := 4#32
  let c1_i32_431 : BitVec 32 := 1#32
  let v598 : BitVec 32 := Scalar.muli c4_i32_430 c1_i32_431
  let v599 : BitVec 32 := Scalar.addi c0_i32_432 v598
  v599.toNat
def k0_dev21 : Nat :=
  let c0_i32_512 : BitVec 32 := 0#32
  let c1_i32_510 : BitVec 32 := 1#32
  let c1_i32_511 : BitVec 32 := 1#32
  let v836 : BitVec 32 := Scalar.muli c1_i32_510 c1_i32_511
  let v837 : BitVec 32 := Scalar.addi c0_i32_512 v836
  v837.toNat
def k0_dev22 : Nat :=
  let c0_i32_519 : BitVec 32 := 0#32
  let c3_i32_517 : BitVec 32 := 3#32
  let c1_i32_518 : BitVec 32 := 1#32
  let v846 : BitVec 32 := Scalar.muli c3_i32_517 c1_i32_518
  let v847 : BitVec 32 := Scalar.addi c0_i32_519 v846
  v847.toNat
def k0_dev23 : Nat :=
  let c0_i32_526 : BitVec 32 := 0#32
  let c4_i32_524 : BitVec 32 := 4#32
  let c1_i32_525 : BitVec 32 := 1#32
  let v856 : BitVec 32 := Scalar.muli c4_i32_524 c1_i32_525
  let v857 : BitVec 32 := Scalar.addi c0_i32_526 v856
  v857.toNat
def k0_dev24 : Nat :=
  let c0_i32_606 : BitVec 32 := 0#32
  let c1_i32_604 : BitVec 32 := 1#32
  let c1_i32_605 : BitVec 32 := 1#32
  let v1094 : BitVec 32 := Scalar.muli c1_i32_604 c1_i32_605
  let v1095 : BitVec 32 := Scalar.addi c0_i32_606 v1094
  v1095.toNat
def k0_dev25 : Nat :=
  let c0_i32_613 : BitVec 32 := 0#32
  let c3_i32_611 : BitVec 32 := 3#32
  let c1_i32_612 : BitVec 32 := 1#32
  let v1104 : BitVec 32 := Scalar.muli c3_i32_611 c1_i32_612
  let v1105 : BitVec 32 := Scalar.addi c0_i32_613 v1104
  v1105.toNat
def k0_dev26 : Nat :=
  let c0_i32_620 : BitVec 32 := 0#32
  let c4_i32_618 : BitVec 32 := 4#32
  let c1_i32_619 : BitVec 32 := 1#32
  let v1114 : BitVec 32 := Scalar.muli c4_i32_618 c1_i32_619
  let v1115 : BitVec 32 := Scalar.addi c0_i32_620 v1114
  v1115.toNat
def k0_dev27 : Nat :=
  let c0_i32_700 : BitVec 32 := 0#32
  let c1_i32_698 : BitVec 32 := 1#32
  let c1_i32_699 : BitVec 32 := 1#32
  let v1352 : BitVec 32 := Scalar.muli c1_i32_698 c1_i32_699
  let v1353 : BitVec 32 := Scalar.addi c0_i32_700 v1352
  v1353.toNat
def k0_dev28 : Nat :=
  let c0_i32_707 : BitVec 32 := 0#32
  let c3_i32_705 : BitVec 32 := 3#32
  let c1_i32_706 : BitVec 32 := 1#32
  let v1362 : BitVec 32 := Scalar.muli c3_i32_705 c1_i32_706
  let v1363 : BitVec 32 := Scalar.addi c0_i32_707 v1362
  v1363.toNat
def k0_dev29 : Nat :=
  let c0_i32_714 : BitVec 32 := 0#32
  let c4_i32_712 : BitVec 32 := 4#32
  let c1_i32_713 : BitVec 32 := 1#32
  let v1372 : BitVec 32 := Scalar.muli c4_i32_712 c1_i32_713
  let v1373 : BitVec 32 := Scalar.addi c0_i32_714 v1372
  v1373.toNat
def k0_dev30 : Nat :=
  let c0_i32_793 : BitVec 32 := 0#32
  let c1_i32_791 : BitVec 32 := 1#32
  let c1_i32_792 : BitVec 32 := 1#32
  let v1610 : BitVec 32 := Scalar.muli c1_i32_791 c1_i32_792
  let v1611 : BitVec 32 := Scalar.addi c0_i32_793 v1610
  v1611.toNat
def k0_dev31 : Nat :=
  let c0_i32_800 : BitVec 32 := 0#32
  let c3_i32_798 : BitVec 32 := 3#32
  let c1_i32_799 : BitVec 32 := 1#32
  let v1620 : BitVec 32 := Scalar.muli c3_i32_798 c1_i32_799
  let v1621 : BitVec 32 := Scalar.addi c0_i32_800 v1620
  v1621.toNat
def k0_dev32 : Nat :=
  let c0_i32_807 : BitVec 32 := 0#32
  let c4_i32_805 : BitVec 32 := 4#32
  let c1_i32_806 : BitVec 32 := 1#32
  let v1630 : BitVec 32 := Scalar.muli c4_i32_805 c1_i32_806
  let v1631 : BitVec 32 := Scalar.addi c0_i32_807 v1630
  v1631.toNat
def k0_dev33 : Nat :=
  let c0_i32_886 : BitVec 32 := 0#32
  let c1_i32_884 : BitVec 32 := 1#32
  let c1_i32_885 : BitVec 32 := 1#32
  let v1868 : BitVec 32 := Scalar.muli c1_i32_884 c1_i32_885
  let v1869 : BitVec 32 := Scalar.addi c0_i32_886 v1868
  v1869.toNat
def k0_dev34 : Nat :=
  let c0_i32_893 : BitVec 32 := 0#32
  let c3_i32_891 : BitVec 32 := 3#32
  let c1_i32_892 : BitVec 32 := 1#32
  let v1878 : BitVec 32 := Scalar.muli c3_i32_891 c1_i32_892
  let v1879 : BitVec 32 := Scalar.addi c0_i32_893 v1878
  v1879.toNat
def k0_dev35 : Nat :=
  let c0_i32_900 : BitVec 32 := 0#32
  let c4_i32_898 : BitVec 32 := 4#32
  let c1_i32_899 : BitVec 32 := 1#32
  let v1888 : BitVec 32 := Scalar.muli c4_i32_898 c1_i32_899
  let v1889 : BitVec 32 := Scalar.addi c0_i32_900 v1888
  v1889.toNat
def k0_dev36 : Nat :=
  let c0_i32_979 : BitVec 32 := 0#32
  let c1_i32_977 : BitVec 32 := 1#32
  let c1_i32_978 : BitVec 32 := 1#32
  let v2126 : BitVec 32 := Scalar.muli c1_i32_977 c1_i32_978
  let v2127 : BitVec 32 := Scalar.addi c0_i32_979 v2126
  v2127.toNat
def k0_dev37 : Nat :=
  let c0_i32_986 : BitVec 32 := 0#32
  let c3_i32_984 : BitVec 32 := 3#32
  let c1_i32_985 : BitVec 32 := 1#32
  let v2136 : BitVec 32 := Scalar.muli c3_i32_984 c1_i32_985
  let v2137 : BitVec 32 := Scalar.addi c0_i32_986 v2136
  v2137.toNat
def k0_dev38 : Nat :=
  let c0_i32_993 : BitVec 32 := 0#32
  let c4_i32_991 : BitVec 32 := 4#32
  let c1_i32_992 : BitVec 32 := 1#32
  let v2146 : BitVec 32 := Scalar.muli c4_i32_991 c1_i32_992
  let v2147 : BitVec 32 := Scalar.addi c0_i32_993 v2146
  v2147.toNat
def k0_cond17 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_172 : BitVec 32 := 0#32
  let v79 : BitVec 1 := Scalar.cmpi .sgt v2 c0_i32_172
  let v80 : BitVec 32 := Scalar.extui v79
  let c0_i32_237 : BitVec 32 := 0#32
  let v81 : BitVec 1 := Scalar.cmpi .ne v80 c0_i32_237
  v81

def k0_cond18 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_39 : BitVec 32 := 1#32
  let v65 : BitVec 1 := Scalar.cmpi .sge v2 c1_i32_39
  let c4_i32_40 : BitVec 32 := 4#32
  let v66 : BitVec 1 := Scalar.cmpi .sle v2 c4_i32_40
  let v67 : BitVec 1 := Scalar.andi v65 v66
  let v90 : BitVec 32 := Scalar.extui v67
  let c0_i32_244 : BitVec 32 := 0#32
  let v91 : BitVec 1 := Scalar.cmpi .ne v90 c0_i32_244
  v91

def k0_dev39 (d0 : Dev nD) : Nat :=
  let c0_i32_329 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_48 : BitVec 32 := 4#32
  let v74 : BitVec 1 := Scalar.cmpi .eq v2 c4_i32_48
  let c5_i32_49 : BitVec 32 := 5#32
  let c3_i32_46 : BitVec 32 := 3#32
  let v72 : BitVec 1 := Scalar.cmpi .eq v2 c3_i32_46
  let c7_i32_47 : BitVec 32 := 7#32
  let c2_i32_44 : BitVec 32 := 2#32
  let v70 : BitVec 1 := Scalar.cmpi .eq v2 c2_i32_44
  let c6_i32_45 : BitVec 32 := 6#32
  let c1_i32_41 : BitVec 32 := 1#32
  let v68 : BitVec 1 := Scalar.cmpi .eq v2 c1_i32_41
  let c2_i32_42 : BitVec 32 := 2#32
  let c0_i32_43 : BitVec 32 := 0#32
  let v69 : BitVec 32 := Scalar.select v68 c2_i32_42 c0_i32_43
  let v71 : BitVec 32 := Scalar.select v70 c6_i32_45 v69
  let v73 : BitVec 32 := Scalar.select v72 c7_i32_47 v71
  let v75 : BitVec 32 := Scalar.select v74 c5_i32_49 v73
  let c1_i32_328 : BitVec 32 := 1#32
  let v212 : BitVec 32 := Scalar.muli v75 c1_i32_328
  let v213 : BitVec 32 := Scalar.addi c0_i32_329 v212
  v213.toNat
def k0_cond19 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_39 : BitVec 32 := 1#32
  let v65 : BitVec 1 := Scalar.cmpi .sge v2 c1_i32_39
  let c4_i32_40 : BitVec 32 := 4#32
  let v66 : BitVec 1 := Scalar.cmpi .sle v2 c4_i32_40
  let v67 : BitVec 1 := Scalar.andi v65 v66
  let v106 : BitVec 32 := Scalar.extui v67
  let c0_i32_256 : BitVec 32 := 0#32
  let v107 : BitVec 1 := Scalar.cmpi .ne v106 c0_i32_256
  v107

def k0_dev40 (d0 : Dev nD) : Nat :=
  let c0_i32_329 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_48 : BitVec 32 := 4#32
  let v74 : BitVec 1 := Scalar.cmpi .eq v2 c4_i32_48
  let c5_i32_49 : BitVec 32 := 5#32
  let c3_i32_46 : BitVec 32 := 3#32
  let v72 : BitVec 1 := Scalar.cmpi .eq v2 c3_i32_46
  let c7_i32_47 : BitVec 32 := 7#32
  let c2_i32_44 : BitVec 32 := 2#32
  let v70 : BitVec 1 := Scalar.cmpi .eq v2 c2_i32_44
  let c6_i32_45 : BitVec 32 := 6#32
  let c1_i32_41 : BitVec 32 := 1#32
  let v68 : BitVec 1 := Scalar.cmpi .eq v2 c1_i32_41
  let c2_i32_42 : BitVec 32 := 2#32
  let c0_i32_43 : BitVec 32 := 0#32
  let v69 : BitVec 32 := Scalar.select v68 c2_i32_42 c0_i32_43
  let v71 : BitVec 32 := Scalar.select v70 c6_i32_45 v69
  let v73 : BitVec 32 := Scalar.select v72 c7_i32_47 v71
  let v75 : BitVec 32 := Scalar.select v74 c5_i32_49 v73
  let c1_i32_328 : BitVec 32 := 1#32
  let v212 : BitVec 32 := Scalar.muli v75 c1_i32_328
  let v213 : BitVec 32 := Scalar.addi c0_i32_329 v212
  v213.toNat
def k0_cond20 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_39 : BitVec 32 := 1#32
  let v65 : BitVec 1 := Scalar.cmpi .sge v2 c1_i32_39
  let c4_i32_40 : BitVec 32 := 4#32
  let v66 : BitVec 1 := Scalar.cmpi .sle v2 c4_i32_40
  let v67 : BitVec 1 := Scalar.andi v65 v66
  let v122 : BitVec 32 := Scalar.extui v67
  let c0_i32_267 : BitVec 32 := 0#32
  let v123 : BitVec 1 := Scalar.cmpi .ne v122 c0_i32_267
  v123

def k0_dev41 (d0 : Dev nD) : Nat :=
  let c0_i32_329 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_48 : BitVec 32 := 4#32
  let v74 : BitVec 1 := Scalar.cmpi .eq v2 c4_i32_48
  let c5_i32_49 : BitVec 32 := 5#32
  let c3_i32_46 : BitVec 32 := 3#32
  let v72 : BitVec 1 := Scalar.cmpi .eq v2 c3_i32_46
  let c7_i32_47 : BitVec 32 := 7#32
  let c2_i32_44 : BitVec 32 := 2#32
  let v70 : BitVec 1 := Scalar.cmpi .eq v2 c2_i32_44
  let c6_i32_45 : BitVec 32 := 6#32
  let c1_i32_41 : BitVec 32 := 1#32
  let v68 : BitVec 1 := Scalar.cmpi .eq v2 c1_i32_41
  let c2_i32_42 : BitVec 32 := 2#32
  let c0_i32_43 : BitVec 32 := 0#32
  let v69 : BitVec 32 := Scalar.select v68 c2_i32_42 c0_i32_43
  let v71 : BitVec 32 := Scalar.select v70 c6_i32_45 v69
  let v73 : BitVec 32 := Scalar.select v72 c7_i32_47 v71
  let v75 : BitVec 32 := Scalar.select v74 c5_i32_49 v73
  let c1_i32_328 : BitVec 32 := 1#32
  let v212 : BitVec 32 := Scalar.muli v75 c1_i32_328
  let v213 : BitVec 32 := Scalar.addi c0_i32_329 v212
  v213.toNat
def k0_cond21 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_39 : BitVec 32 := 1#32
  let v65 : BitVec 1 := Scalar.cmpi .sge v2 c1_i32_39
  let c4_i32_40 : BitVec 32 := 4#32
  let v66 : BitVec 1 := Scalar.cmpi .sle v2 c4_i32_40
  let v67 : BitVec 1 := Scalar.andi v65 v66
  let v138 : BitVec 32 := Scalar.extui v67
  let c0_i32_278 : BitVec 32 := 0#32
  let v139 : BitVec 1 := Scalar.cmpi .ne v138 c0_i32_278
  v139

def k0_dev42 (d0 : Dev nD) : Nat :=
  let c0_i32_329 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_48 : BitVec 32 := 4#32
  let v74 : BitVec 1 := Scalar.cmpi .eq v2 c4_i32_48
  let c5_i32_49 : BitVec 32 := 5#32
  let c3_i32_46 : BitVec 32 := 3#32
  let v72 : BitVec 1 := Scalar.cmpi .eq v2 c3_i32_46
  let c7_i32_47 : BitVec 32 := 7#32
  let c2_i32_44 : BitVec 32 := 2#32
  let v70 : BitVec 1 := Scalar.cmpi .eq v2 c2_i32_44
  let c6_i32_45 : BitVec 32 := 6#32
  let c1_i32_41 : BitVec 32 := 1#32
  let v68 : BitVec 1 := Scalar.cmpi .eq v2 c1_i32_41
  let c2_i32_42 : BitVec 32 := 2#32
  let c0_i32_43 : BitVec 32 := 0#32
  let v69 : BitVec 32 := Scalar.select v68 c2_i32_42 c0_i32_43
  let v71 : BitVec 32 := Scalar.select v70 c6_i32_45 v69
  let v73 : BitVec 32 := Scalar.select v72 c7_i32_47 v71
  let v75 : BitVec 32 := Scalar.select v74 c5_i32_49 v73
  let c1_i32_328 : BitVec 32 := 1#32
  let v212 : BitVec 32 := Scalar.muli v75 c1_i32_328
  let v213 : BitVec 32 := Scalar.addi c0_i32_329 v212
  v213.toNat
def k0_cond22 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_39 : BitVec 32 := 1#32
  let v65 : BitVec 1 := Scalar.cmpi .sge v2 c1_i32_39
  let c4_i32_40 : BitVec 32 := 4#32
  let v66 : BitVec 1 := Scalar.cmpi .sle v2 c4_i32_40
  let v67 : BitVec 1 := Scalar.andi v65 v66
  let v154 : BitVec 32 := Scalar.extui v67
  let c0_i32_289 : BitVec 32 := 0#32
  let v155 : BitVec 1 := Scalar.cmpi .ne v154 c0_i32_289
  v155

def k0_dev43 (d0 : Dev nD) : Nat :=
  let c0_i32_329 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_48 : BitVec 32 := 4#32
  let v74 : BitVec 1 := Scalar.cmpi .eq v2 c4_i32_48
  let c5_i32_49 : BitVec 32 := 5#32
  let c3_i32_46 : BitVec 32 := 3#32
  let v72 : BitVec 1 := Scalar.cmpi .eq v2 c3_i32_46
  let c7_i32_47 : BitVec 32 := 7#32
  let c2_i32_44 : BitVec 32 := 2#32
  let v70 : BitVec 1 := Scalar.cmpi .eq v2 c2_i32_44
  let c6_i32_45 : BitVec 32 := 6#32
  let c1_i32_41 : BitVec 32 := 1#32
  let v68 : BitVec 1 := Scalar.cmpi .eq v2 c1_i32_41
  let c2_i32_42 : BitVec 32 := 2#32
  let c0_i32_43 : BitVec 32 := 0#32
  let v69 : BitVec 32 := Scalar.select v68 c2_i32_42 c0_i32_43
  let v71 : BitVec 32 := Scalar.select v70 c6_i32_45 v69
  let v73 : BitVec 32 := Scalar.select v72 c7_i32_47 v71
  let v75 : BitVec 32 := Scalar.select v74 c5_i32_49 v73
  let c1_i32_328 : BitVec 32 := 1#32
  let v212 : BitVec 32 := Scalar.muli v75 c1_i32_328
  let v213 : BitVec 32 := Scalar.addi c0_i32_329 v212
  v213.toNat
def k0_cond23 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_39 : BitVec 32 := 1#32
  let v65 : BitVec 1 := Scalar.cmpi .sge v2 c1_i32_39
  let c4_i32_40 : BitVec 32 := 4#32
  let v66 : BitVec 1 := Scalar.cmpi .sle v2 c4_i32_40
  let v67 : BitVec 1 := Scalar.andi v65 v66
  let v170 : BitVec 32 := Scalar.extui v67
  let c0_i32_300 : BitVec 32 := 0#32
  let v171 : BitVec 1 := Scalar.cmpi .ne v170 c0_i32_300
  v171

def k0_dev44 (d0 : Dev nD) : Nat :=
  let c0_i32_329 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_48 : BitVec 32 := 4#32
  let v74 : BitVec 1 := Scalar.cmpi .eq v2 c4_i32_48
  let c5_i32_49 : BitVec 32 := 5#32
  let c3_i32_46 : BitVec 32 := 3#32
  let v72 : BitVec 1 := Scalar.cmpi .eq v2 c3_i32_46
  let c7_i32_47 : BitVec 32 := 7#32
  let c2_i32_44 : BitVec 32 := 2#32
  let v70 : BitVec 1 := Scalar.cmpi .eq v2 c2_i32_44
  let c6_i32_45 : BitVec 32 := 6#32
  let c1_i32_41 : BitVec 32 := 1#32
  let v68 : BitVec 1 := Scalar.cmpi .eq v2 c1_i32_41
  let c2_i32_42 : BitVec 32 := 2#32
  let c0_i32_43 : BitVec 32 := 0#32
  let v69 : BitVec 32 := Scalar.select v68 c2_i32_42 c0_i32_43
  let v71 : BitVec 32 := Scalar.select v70 c6_i32_45 v69
  let v73 : BitVec 32 := Scalar.select v72 c7_i32_47 v71
  let v75 : BitVec 32 := Scalar.select v74 c5_i32_49 v73
  let c1_i32_328 : BitVec 32 := 1#32
  let v212 : BitVec 32 := Scalar.muli v75 c1_i32_328
  let v213 : BitVec 32 := Scalar.addi c0_i32_329 v212
  v213.toNat
def k0_cond24 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_39 : BitVec 32 := 1#32
  let v65 : BitVec 1 := Scalar.cmpi .sge v2 c1_i32_39
  let c4_i32_40 : BitVec 32 := 4#32
  let v66 : BitVec 1 := Scalar.cmpi .sle v2 c4_i32_40
  let v67 : BitVec 1 := Scalar.andi v65 v66
  let v186 : BitVec 32 := Scalar.extui v67
  let c0_i32_311 : BitVec 32 := 0#32
  let v187 : BitVec 1 := Scalar.cmpi .ne v186 c0_i32_311
  v187

def k0_dev45 (d0 : Dev nD) : Nat :=
  let c0_i32_329 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_48 : BitVec 32 := 4#32
  let v74 : BitVec 1 := Scalar.cmpi .eq v2 c4_i32_48
  let c5_i32_49 : BitVec 32 := 5#32
  let c3_i32_46 : BitVec 32 := 3#32
  let v72 : BitVec 1 := Scalar.cmpi .eq v2 c3_i32_46
  let c7_i32_47 : BitVec 32 := 7#32
  let c2_i32_44 : BitVec 32 := 2#32
  let v70 : BitVec 1 := Scalar.cmpi .eq v2 c2_i32_44
  let c6_i32_45 : BitVec 32 := 6#32
  let c1_i32_41 : BitVec 32 := 1#32
  let v68 : BitVec 1 := Scalar.cmpi .eq v2 c1_i32_41
  let c2_i32_42 : BitVec 32 := 2#32
  let c0_i32_43 : BitVec 32 := 0#32
  let v69 : BitVec 32 := Scalar.select v68 c2_i32_42 c0_i32_43
  let v71 : BitVec 32 := Scalar.select v70 c6_i32_45 v69
  let v73 : BitVec 32 := Scalar.select v72 c7_i32_47 v71
  let v75 : BitVec 32 := Scalar.select v74 c5_i32_49 v73
  let c1_i32_328 : BitVec 32 := 1#32
  let v212 : BitVec 32 := Scalar.muli v75 c1_i32_328
  let v213 : BitVec 32 := Scalar.addi c0_i32_329 v212
  v213.toNat
def k0_cond25 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_39 : BitVec 32 := 1#32
  let v65 : BitVec 1 := Scalar.cmpi .sge v2 c1_i32_39
  let c4_i32_40 : BitVec 32 := 4#32
  let v66 : BitVec 1 := Scalar.cmpi .sle v2 c4_i32_40
  let v67 : BitVec 1 := Scalar.andi v65 v66
  let v202 : BitVec 32 := Scalar.extui v67
  let c0_i32_322 : BitVec 32 := 0#32
  let v203 : BitVec 1 := Scalar.cmpi .ne v202 c0_i32_322
  v203

def k0_dev46 (d0 : Dev nD) : Nat :=
  let c0_i32_329 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_48 : BitVec 32 := 4#32
  let v74 : BitVec 1 := Scalar.cmpi .eq v2 c4_i32_48
  let c5_i32_49 : BitVec 32 := 5#32
  let c3_i32_46 : BitVec 32 := 3#32
  let v72 : BitVec 1 := Scalar.cmpi .eq v2 c3_i32_46
  let c7_i32_47 : BitVec 32 := 7#32
  let c2_i32_44 : BitVec 32 := 2#32
  let v70 : BitVec 1 := Scalar.cmpi .eq v2 c2_i32_44
  let c6_i32_45 : BitVec 32 := 6#32
  let c1_i32_41 : BitVec 32 := 1#32
  let v68 : BitVec 1 := Scalar.cmpi .eq v2 c1_i32_41
  let c2_i32_42 : BitVec 32 := 2#32
  let c0_i32_43 : BitVec 32 := 0#32
  let v69 : BitVec 32 := Scalar.select v68 c2_i32_42 c0_i32_43
  let v71 : BitVec 32 := Scalar.select v70 c6_i32_45 v69
  let v73 : BitVec 32 := Scalar.select v72 c7_i32_47 v71
  let v75 : BitVec 32 := Scalar.select v74 c5_i32_49 v73
  let c1_i32_328 : BitVec 32 := 1#32
  let v212 : BitVec 32 := Scalar.muli v75 c1_i32_328
  let v213 : BitVec 32 := Scalar.addi c0_i32_329 v212
  v213.toNat
def k0_cond27 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_238_r0 : BitVec 32 := 1#32
  let v83_r0 : BitVec 1 := Scalar.cmpi .eq v2 c1_i32_238_r0
  let v84_r0 : BitVec 32 := Scalar.extui v83_r0
  let c0_i32_239_r0 : BitVec 32 := 0#32
  let v85_r0 : BitVec 1 := Scalar.cmpi .ne v84_r0 c0_i32_239_r0
  v85_r0

def k0_dev47 : Nat :=
  let c0_i32_272_r0 : BitVec 32 := 0#32
  let c0_i32_270_r0 : BitVec 32 := 0#32
  let c1_i32_271_r0 : BitVec 32 := 1#32
  let v130_r0 : BitVec 32 := Scalar.muli c0_i32_270_r0 c1_i32_271_r0
  let v131_r0 : BitVec 32 := Scalar.addi c0_i32_272_r0 v130_r0
  v131_r0.toNat
def k0_cond28 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_240_r0 : BitVec 32 := 2#32
  let v86_r0 : BitVec 1 := Scalar.cmpi .eq v2 c2_i32_240_r0
  let v87_r0 : BitVec 32 := Scalar.extui v86_r0
  let c0_i32_241_r0 : BitVec 32 := 0#32
  let v88_r0 : BitVec 1 := Scalar.cmpi .ne v87_r0 c0_i32_241_r0
  v88_r0

def k0_dev48 : Nat :=
  let c0_i32_272_r0 : BitVec 32 := 0#32
  let c1_i32_270_r0 : BitVec 32 := 1#32
  let c1_i32_271_r0 : BitVec 32 := 1#32
  let v130_r0 : BitVec 32 := Scalar.muli c1_i32_270_r0 c1_i32_271_r0
  let v131_r0 : BitVec 32 := Scalar.addi c0_i32_272_r0 v130_r0
  v131_r0.toNat
def k0_cond29 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_242_r0 : BitVec 32 := 3#32
  let v89_r0 : BitVec 1 := Scalar.cmpi .eq v2 c3_i32_242_r0
  let v90_r0 : BitVec 32 := Scalar.extui v89_r0
  let c0_i32_243_r0 : BitVec 32 := 0#32
  let v91_r0 : BitVec 1 := Scalar.cmpi .ne v90_r0 c0_i32_243_r0
  v91_r0

def k0_dev49 : Nat :=
  let c0_i32_272_r0 : BitVec 32 := 0#32
  let c0_i32_270_r0 : BitVec 32 := 0#32
  let c1_i32_271_r0 : BitVec 32 := 1#32
  let v130_r0 : BitVec 32 := Scalar.muli c0_i32_270_r0 c1_i32_271_r0
  let v131_r0 : BitVec 32 := Scalar.addi c0_i32_272_r0 v130_r0
  v131_r0.toNat
def k0_cond30 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_244_r0 : BitVec 32 := 4#32
  let v92_r0 : BitVec 1 := Scalar.cmpi .eq v2 c4_i32_244_r0
  let v93_r0 : BitVec 32 := Scalar.extui v92_r0
  let c0_i32_245_r0 : BitVec 32 := 0#32
  let v94_r0 : BitVec 1 := Scalar.cmpi .ne v93_r0 c0_i32_245_r0
  v94_r0

def k0_dev50 : Nat :=
  let c0_i32_272_r0 : BitVec 32 := 0#32
  let c0_i32_270_r0 : BitVec 32 := 0#32
  let c1_i32_271_r0 : BitVec 32 := 1#32
  let v130_r0 : BitVec 32 := Scalar.muli c0_i32_270_r0 c1_i32_271_r0
  let v131_r0 : BitVec 32 := Scalar.addi c0_i32_272_r0 v130_r0
  v131_r0.toNat
def k0_cond31 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_246_r0 : BitVec 32 := 5#32
  let v95_r0 : BitVec 1 := Scalar.cmpi .eq v2 c5_i32_246_r0
  let v96_r0 : BitVec 32 := Scalar.extui v95_r0
  let c0_i32_247_r0 : BitVec 32 := 0#32
  let v97_r0 : BitVec 1 := Scalar.cmpi .ne v96_r0 c0_i32_247_r0
  v97_r0

def k0_dev51 : Nat :=
  let c0_i32_272_r0 : BitVec 32 := 0#32
  let c4_i32_270_r0 : BitVec 32 := 4#32
  let c1_i32_271_r0 : BitVec 32 := 1#32
  let v130_r0 : BitVec 32 := Scalar.muli c4_i32_270_r0 c1_i32_271_r0
  let v131_r0 : BitVec 32 := Scalar.addi c0_i32_272_r0 v130_r0
  v131_r0.toNat
def k0_cond32 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_248_r0 : BitVec 32 := 6#32
  let v98_r0 : BitVec 1 := Scalar.cmpi .eq v2 c6_i32_248_r0
  let v99_r0 : BitVec 32 := Scalar.extui v98_r0
  let c0_i32_249_r0 : BitVec 32 := 0#32
  let v100_r0 : BitVec 1 := Scalar.cmpi .ne v99_r0 c0_i32_249_r0
  v100_r0

def k0_dev52 : Nat :=
  let c0_i32_272_r0 : BitVec 32 := 0#32
  let c2_i32_270_r0 : BitVec 32 := 2#32
  let c1_i32_271_r0 : BitVec 32 := 1#32
  let v130_r0 : BitVec 32 := Scalar.muli c2_i32_270_r0 c1_i32_271_r0
  let v131_r0 : BitVec 32 := Scalar.addi c0_i32_272_r0 v130_r0
  v131_r0.toNat
def k0_cond33 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_250_r0 : BitVec 32 := 7#32
  let v101_r0 : BitVec 1 := Scalar.cmpi .eq v2 c7_i32_250_r0
  let v102_r0 : BitVec 32 := Scalar.extui v101_r0
  let c0_i32_251_r0 : BitVec 32 := 0#32
  let v103_r0 : BitVec 1 := Scalar.cmpi .ne v102_r0 c0_i32_251_r0
  v103_r0

def k0_dev53 : Nat :=
  let c0_i32_272_r0 : BitVec 32 := 0#32
  let c3_i32_270_r0 : BitVec 32 := 3#32
  let c1_i32_271_r0 : BitVec 32 := 1#32
  let v130_r0 : BitVec 32 := Scalar.muli c3_i32_270_r0 c1_i32_271_r0
  let v131_r0 : BitVec 32 := Scalar.addi c0_i32_272_r0 v130_r0
  v131_r0.toNat
def k0_cond34 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_252_r0 : BitVec 32 := 0#32
  let v104_r0 : BitVec 1 := Scalar.cmpi .eq v2 c0_i32_252_r0
  let v105_r0 : BitVec 32 := Scalar.extui v104_r0
  let c0_i32_253_r0 : BitVec 32 := 0#32
  let v106_r0 : BitVec 1 := Scalar.cmpi .ne v105_r0 c0_i32_253_r0
  v106_r0

def k0_dev54 : Nat :=
  let c0_i32_272_r0 : BitVec 32 := 0#32
  let c1_i32_270_r0 : BitVec 32 := 1#32
  let c1_i32_271_r0 : BitVec 32 := 1#32
  let v130_r0 : BitVec 32 := Scalar.muli c1_i32_270_r0 c1_i32_271_r0
  let v131_r0 : BitVec 32 := Scalar.addi c0_i32_272_r0 v130_r0
  v131_r0.toNat
def k0_dev55 : Nat :=
  let c0_i32_276_r0 : BitVec 32 := 0#32
  let c3_i32_274_r0 : BitVec 32 := 3#32
  let c1_i32_275_r0 : BitVec 32 := 1#32
  let v132_r0 : BitVec 32 := Scalar.muli c3_i32_274_r0 c1_i32_275_r0
  let v133_r0 : BitVec 32 := Scalar.addi c0_i32_276_r0 v132_r0
  v133_r0.toNat
def k0_dev56 : Nat :=
  let c0_i32_280_r0 : BitVec 32 := 0#32
  let c4_i32_278_r0 : BitVec 32 := 4#32
  let c1_i32_279_r0 : BitVec 32 := 1#32
  let v134_r0 : BitVec 32 := Scalar.muli c4_i32_278_r0 c1_i32_279_r0
  let v135_r0 : BitVec 32 := Scalar.addi c0_i32_280_r0 v134_r0
  v135_r0.toNat
def k0_cond35 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_254_r0 : BitVec 32 := 1#32
  let v107_r0 : BitVec 1 := Scalar.cmpi .eq v2 c1_i32_254_r0
  let v108_r0 : BitVec 32 := Scalar.extui v107_r0
  let c0_i32_255_r0 : BitVec 32 := 0#32
  let v109_r0 : BitVec 1 := Scalar.cmpi .ne v108_r0 c0_i32_255_r0
  v109_r0

def k0_dev57 : Nat :=
  let c0_i32_272_r0 : BitVec 32 := 0#32
  let c2_i32_270_r0 : BitVec 32 := 2#32
  let c1_i32_271_r0 : BitVec 32 := 1#32
  let v130_r0 : BitVec 32 := Scalar.muli c2_i32_270_r0 c1_i32_271_r0
  let v131_r0 : BitVec 32 := Scalar.addi c0_i32_272_r0 v130_r0
  v131_r0.toNat
def k0_cond36 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_256_r0 : BitVec 32 := 2#32
  let v110_r0 : BitVec 1 := Scalar.cmpi .eq v2 c2_i32_256_r0
  let v111_r0 : BitVec 32 := Scalar.extui v110_r0
  let c0_i32_257_r0 : BitVec 32 := 0#32
  let v112_r0 : BitVec 1 := Scalar.cmpi .ne v111_r0 c0_i32_257_r0
  v112_r0

def k0_dev58 : Nat :=
  let c0_i32_272_r0 : BitVec 32 := 0#32
  let c6_i32_270_r0 : BitVec 32 := 6#32
  let c1_i32_271_r0 : BitVec 32 := 1#32
  let v130_r0 : BitVec 32 := Scalar.muli c6_i32_270_r0 c1_i32_271_r0
  let v131_r0 : BitVec 32 := Scalar.addi c0_i32_272_r0 v130_r0
  v131_r0.toNat
def k0_cond37 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_258_r0 : BitVec 32 := 3#32
  let v113_r0 : BitVec 1 := Scalar.cmpi .eq v2 c3_i32_258_r0
  let v114_r0 : BitVec 32 := Scalar.extui v113_r0
  let c0_i32_259_r0 : BitVec 32 := 0#32
  let v115_r0 : BitVec 1 := Scalar.cmpi .ne v114_r0 c0_i32_259_r0
  v115_r0

def k0_dev59 : Nat :=
  let c0_i32_272_r0 : BitVec 32 := 0#32
  let c7_i32_270_r0 : BitVec 32 := 7#32
  let c1_i32_271_r0 : BitVec 32 := 1#32
  let v130_r0 : BitVec 32 := Scalar.muli c7_i32_270_r0 c1_i32_271_r0
  let v131_r0 : BitVec 32 := Scalar.addi c0_i32_272_r0 v130_r0
  v131_r0.toNat
def k0_cond38 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_260_r0 : BitVec 32 := 4#32
  let v116_r0 : BitVec 1 := Scalar.cmpi .eq v2 c4_i32_260_r0
  let v117_r0 : BitVec 32 := Scalar.extui v116_r0
  let c0_i32_261_r0 : BitVec 32 := 0#32
  let v118_r0 : BitVec 1 := Scalar.cmpi .ne v117_r0 c0_i32_261_r0
  v118_r0

def k0_dev60 : Nat :=
  let c0_i32_272_r0 : BitVec 32 := 0#32
  let c5_i32_270_r0 : BitVec 32 := 5#32
  let c1_i32_271_r0 : BitVec 32 := 1#32
  let v130_r0 : BitVec 32 := Scalar.muli c5_i32_270_r0 c1_i32_271_r0
  let v131_r0 : BitVec 32 := Scalar.addi c0_i32_272_r0 v130_r0
  v131_r0.toNat
abbrev stage0_0 : Fin 1 → Memref sig .tc .vmem S1x1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024x8x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024x8x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1x1024x1024 : Shape := ⟨3, ![1, 1024, 1024]⟩
abbrev S1024x1024 : Shape := ⟨2, ![1024, 1024]⟩
abbrev S1x8192x8x128 : Shape := ⟨4, ![1, 8192, 8, 128]⟩
abbrev S1x1024x8x128 : Shape := ⟨4, ![1, 1024, 8, 128]⟩
abbrev S1024 : Shape := ⟨1, ![1024]⟩
abbrev S_ : Shape := ⟨0, ![]⟩
abbrev S1024x1 : Shape := ⟨2, ![1024, 1]⟩
abbrev S8192 : Shape := ⟨1, ![8192]⟩
abbrev S1x8192 : Shape := ⟨2, ![1, 8192]⟩
abbrev S1024x8192 : Shape := ⟨2, ![1024, 8192]⟩
abbrev S1x8x1024x8192 : Shape := ⟨4, ![1, 8, 1024, 8192]⟩
abbrev S1x1x1024x8192 : Shape := ⟨4, ![1, 1, 1024, 8192]⟩
abbrev S1x8x1024 : Shape := ⟨3, ![1, 8, 1024]⟩
abbrev S1x8x1024x1 : Shape := ⟨4, ![1, 8, 1024, 1]⟩
abbrev S1x1x1024x1 : Shape := ⟨4, ![1, 1, 1024, 1]⟩
abbrev S1x8x128x1024 : Shape := ⟨4, ![1, 8, 128, 1024]⟩

abbrev nBuf : Space → Nat
  | .hbm => 98
  | .vmem => 0
  | .smem => 0
  | _ => 0

abbrev bufTy : (tb : Table) → Fin (tcTables nBuf tb) → BufTy
  | .hbm, ⟨0, _⟩ => ⟨S1x1024x1024, .bf16⟩
  | .hbm, ⟨1, _⟩ => ⟨S1024x1024, .bf16⟩
  | .hbm, ⟨2, _⟩ => ⟨S1x8192x8x128, .bf16⟩
  | .hbm, ⟨3, _⟩ => ⟨S1x8192x8x128, .bf16⟩
  | .hbm, ⟨4, _⟩ => ⟨S1024x1024, .bf16⟩
  | .hbm, ⟨5, _⟩ => ⟨S1x1024x1024, .f32⟩
  | .hbm, ⟨6, _⟩ => ⟨S1024x1024, .f32⟩
  | .hbm, ⟨7, _⟩ => ⟨S1x1024x1024, .f32⟩
  | .hbm, ⟨8, _⟩ => ⟨S1x1024x1024, .bf16⟩
  | .hbm, ⟨9, _⟩ => ⟨S1x1024x1024, .f32⟩
  | .hbm, ⟨10, _⟩ => ⟨S1x1024x8x128, .f32⟩
  | .hbm, ⟨11, _⟩ => ⟨S1024, .i32⟩
  | .hbm, ⟨12, _⟩ => ⟨S_, .i32⟩
  | .hbm, ⟨13, _⟩ => ⟨S_, .i32⟩
  | .hbm, ⟨14, _⟩ => ⟨S1024, .i32⟩
  | .hbm, ⟨15, _⟩ => ⟨S1024, .i32⟩
  | .hbm, ⟨16, _⟩ => ⟨S1024, .i32⟩
  | .hbm, ⟨17, _⟩ => ⟨S_, .i32⟩
  | .hbm, ⟨18, _⟩ => ⟨S1024, .i32⟩
  | .hbm, ⟨19, _⟩ => ⟨S1024, .i1⟩
  | .hbm, ⟨20, _⟩ => ⟨S1024, .i32⟩
  | .hbm, ⟨21, _⟩ => ⟨S1024, .i32⟩
  | .hbm, ⟨22, _⟩ => ⟨S_, .i32⟩
  | .hbm, ⟨23, _⟩ => ⟨S1024, .i32⟩
  | .hbm, ⟨24, _⟩ => ⟨S1024, .i1⟩
  | .hbm, ⟨25, _⟩ => ⟨S1024, .i1⟩
  | .hbm, ⟨26, _⟩ => ⟨S_, .i32⟩
  | .hbm, ⟨27, _⟩ => ⟨S1024, .i32⟩
  | .hbm, ⟨28, _⟩ => ⟨S1024, .i32⟩
  | .hbm, ⟨29, _⟩ => ⟨S1024, .i32⟩
  | .hbm, ⟨30, _⟩ => ⟨S1024x1, .i32⟩
  | .hbm, ⟨31, _⟩ => ⟨S8192, .i32⟩
  | .hbm, ⟨32, _⟩ => ⟨S_, .i32⟩
  | .hbm, ⟨33, _⟩ => ⟨S_, .i32⟩
  | .hbm, ⟨34, _⟩ => ⟨S8192, .i32⟩
  | .hbm, ⟨35, _⟩ => ⟨S8192, .i32⟩
  | .hbm, ⟨36, _⟩ => ⟨S8192, .i32⟩
  | .hbm, ⟨37, _⟩ => ⟨S_, .i32⟩
  | .hbm, ⟨38, _⟩ => ⟨S8192, .i32⟩
  | .hbm, ⟨39, _⟩ => ⟨S8192, .i1⟩
  | .hbm, ⟨40, _⟩ => ⟨S8192, .i32⟩
  | .hbm, ⟨41, _⟩ => ⟨S8192, .i32⟩
  | .hbm, ⟨42, _⟩ => ⟨S_, .i32⟩
  | .hbm, ⟨43, _⟩ => ⟨S8192, .i32⟩
  | .hbm, ⟨44, _⟩ => ⟨S8192, .i1⟩
  | .hbm, ⟨45, _⟩ => ⟨S8192, .i1⟩
  | .hbm, ⟨46, _⟩ => ⟨S_, .i32⟩
  | .hbm, ⟨47, _⟩ => ⟨S8192, .i32⟩
  | .hbm, ⟨48, _⟩ => ⟨S8192, .i32⟩
  | .hbm, ⟨49, _⟩ => ⟨S8192, .i32⟩
  | .hbm, ⟨50, _⟩ => ⟨S1x8192, .i32⟩
  | .hbm, ⟨51, _⟩ => ⟨S1024x8192, .i32⟩
  | .hbm, ⟨52, _⟩ => ⟨S1024x8192, .i32⟩
  | .hbm, ⟨53, _⟩ => ⟨S1024x8192, .i1⟩
  | .hbm, ⟨54, _⟩ => ⟨S1x8192x8x128, .f32⟩
  | .hbm, ⟨55, _⟩ => ⟨S1x8x1024x8192, .f32⟩
  | .hbm, ⟨56, _⟩ => ⟨S1x8x1024x8192, .bf16⟩
  | .hbm, ⟨57, _⟩ => ⟨S1x8x1024x8192, .f32⟩
  | .hbm, ⟨58, _⟩ => ⟨S_, .f32⟩
  | .hbm, ⟨59, _⟩ => ⟨S1x8x1024x8192, .f32⟩
  | .hbm, ⟨60, _⟩ => ⟨S1x8x1024x8192, .f32⟩
  | .hbm, ⟨61, _⟩ => ⟨S1x1x1024x8192, .i1⟩
  | .hbm, ⟨62, _⟩ => ⟨S_, .f32⟩
  | .hbm, ⟨63, _⟩ => ⟨S_, .f32⟩
  | .hbm, ⟨64, _⟩ => ⟨S1x8x1024x8192, .i1⟩
  | .hbm, ⟨65, _⟩ => ⟨S1x8x1024x8192, .f32⟩
  | .hbm, ⟨66, _⟩ => ⟨S1x8x1024x8192, .f32⟩
  | .hbm, ⟨67, _⟩ => ⟨S_, .f32⟩
  | .hbm, ⟨68, _⟩ => ⟨S1x8x1024, .f32⟩
  | .hbm, ⟨69, _⟩ => ⟨S1x8x1024x1, .f32⟩
  | .hbm, ⟨70, _⟩ => ⟨S1x8x1024x8192, .f32⟩
  | .hbm, ⟨71, _⟩ => ⟨S1x8x1024x8192, .f32⟩
  | .hbm, ⟨72, _⟩ => ⟨S1x8x1024x8192, .f32⟩
  | .hbm, ⟨73, _⟩ => ⟨S_, .i1⟩
  | .hbm, ⟨74, _⟩ => ⟨S1024, .i1⟩
  | .hbm, ⟨75, _⟩ => ⟨S1x1x1024x1, .i1⟩
  | .hbm, ⟨76, _⟩ => ⟨S_, .f32⟩
  | .hbm, ⟨77, _⟩ => ⟨S1x8x1024, .f32⟩
  | .hbm, ⟨78, _⟩ => ⟨S1x8x1024x1, .f32⟩
  | .hbm, ⟨79, _⟩ => ⟨S_, .f32⟩
  | .hbm, ⟨80, _⟩ => ⟨S_, .f32⟩
  | .hbm, ⟨81, _⟩ => ⟨S1x8x1024x1, .i1⟩
  | .hbm, ⟨82, _⟩ => ⟨S1x8x1024x1, .f32⟩
  | .hbm, ⟨83, _⟩ => ⟨S1x8x1024x1, .f32⟩
  | .hbm, ⟨84, _⟩ => ⟨S1x8x1024x8192, .f32⟩
  | .hbm, ⟨85, _⟩ => ⟨S1x8x1024x8192, .f32⟩
  | .hbm, ⟨86, _⟩ => ⟨S1x1x1024x1, .i1⟩
  | .hbm, ⟨87, _⟩ => ⟨S_, .f32⟩
  | .hbm, ⟨88, _⟩ => ⟨S_, .f32⟩
  | .hbm, ⟨89, _⟩ => ⟨S1x8x1024x8192, .i1⟩
  | .hbm, ⟨90, _⟩ => ⟨S1x8x1024x8192, .f32⟩
  | .hbm, ⟨91, _⟩ => ⟨S1x8x1024x8192, .f32⟩
  | .hbm, ⟨92, _⟩ => ⟨S1x8192x8x128, .f32⟩
  | .hbm, ⟨93, _⟩ => ⟨S1x8x128x1024, .f32⟩
  | .hbm, ⟨94, _⟩ => ⟨S1x1024x8x128, .f32⟩
  | .hbm, ⟨95, _⟩ => ⟨S1x1024x1024, .f32⟩
  | .hbm, ⟨96, _⟩ => ⟨S1024x1024, .f32⟩
  | .hbm, ⟨97, _⟩ => ⟨S1x1024x1024, .f32⟩
  | _, _ => ⟨S1x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_c_0 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_c : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_0 : Ref sig .tc := ⟨.hbm, 46, rfl⟩
abbrev main_call1_v12 : Ref sig .tc := ⟨.hbm, 47, rfl⟩
abbrev main_call1_v13 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_cst : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_cst_1 : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_v22 : Ref sig .tc := ⟨.hbm, 66, rfl⟩
abbrev main_cst_2 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_c_3 : Ref sig .tc := ⟨.hbm, 73, rfl⟩
abbrev main_v28 : Ref sig .tc := ⟨.hbm, 74, rfl⟩
abbrev main_v29 : Ref sig .tc := ⟨.hbm, 75, rfl⟩
abbrev main_cst_4 : Ref sig .tc := ⟨.hbm, 76, rfl⟩
abbrev main_v30 : Ref sig .tc := ⟨.hbm, 77, rfl⟩
abbrev main_v31 : Ref sig .tc := ⟨.hbm, 78, rfl⟩
abbrev main_cst_5 : Ref sig .tc := ⟨.hbm, 79, rfl⟩
abbrev main_call3_v0 : Ref sig .tc := ⟨.hbm, 80, rfl⟩
abbrev main_call3_v1 : Ref sig .tc := ⟨.hbm, 81, rfl⟩
abbrev main_call3_v2 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_cst_6 : Ref sig .tc := ⟨.hbm, 87, rfl⟩
abbrev main_call4_v0 : Ref sig .tc := ⟨.hbm, 88, rfl⟩
abbrev main_call4_v1 : Ref sig .tc := ⟨.hbm, 89, rfl⟩
abbrev main_call4_v2 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩

abbrev nD : Nat := 1
abbrev τ : Topo := Topo.v7x

variable {F : FTy → Type} [FloatOps F]
-- ==== Proof.Ideal.Sched.lean ====
/-
# 01_k — `Ideal.Sched`, for the kernel with the named mask constant: the tree, its cells and the schedule of their rounds

The kernel sends eight chunks down a fixed tree of the eight devices: device 0 computes each chunk and sends it to
its children 1, 3 and 4; devices 1, 2, 3 and 4 forward what they receive to their one child. Both ends of every edge
signal each other at entry (on the barrier semaphore) and at exit (on a semaphore of the kernel's own).

This module names the devices' neighbours, the semaphore cells, and states who pays each cell, how much, and what it
hands over by paying.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Ring.Trips
public import Idealize.ShloMosaic.Lib.Tactic

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The resource algebra: the pipeline library's copy and the tree's, whose duties are named by their payer -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## The tree -/

/-- The device a device receives from. -/
def parent (c : Dev nD) : Dev nD := (![0, 0, 1, 0, 0, 4, 2, 3] : Fin 8 → Fin 8) c
/-- The device a forwarding device sends to. -/
def kid (c : Dev nD) : Dev nD := (![0, 2, 6, 7, 5, 0, 0, 0] : Fin 8 → Fin 8) c
/-- Whether a device forwards what it receives. -/
def fwds (c : Dev nD) : Bool := (![false, true, true, true, true, false, false, false] : Fin 8 → Bool) c
/-- Device 0's children, in the order it sends to them. -/
def rkid (j : Fin 3) : Dev nD := (![1, 3, 4] : Fin 3 → Fin 8) j
/-- How far a device is from device 0. -/
def depth (c : Dev nD) : ℕ := (![0, 1, 2, 1, 1, 2, 3, 2] : Fin 8 → ℕ) c
/-- The two directions of the tree's edges, in the order the kernel signals along them. -/
def edges : List (Dev nD × Dev nD) :=
  [(1, 0), (2, 1), (3, 0), (4, 0), (5, 4), (6, 2), (7, 3), (0, 1), (0, 3), (0, 4), (1, 2), (2, 6), (3, 7), (4, 5)]
/-- The neighbours device `c` still has to signal once the first `i` edges are done. -/
def rem (i : ℕ) (c : Dev nD) : List (Dev nD) := ((edges.drop i).filter (fun e => e.1 = c)).map Prod.snd
/-- The devices that signal device `c`. -/
def nbrs (c : Dev nD) : Finset (Dev nD) := Finset.univ.filter fun d => (d, c) ∈ edges

/-! ## The cells -/

/-- A device's cells: the barrier (`inl 0`), the exit semaphore (`inl 1`), and five rows of eight transfer semaphores:
    rows 0, 1, 2 the three of device 0's sends, row 3 a forwarder's, row 4 the receives; the column is the chunk. -/
abbrev CK : Type := Fin 2 ⊕ (Fin 5 × Fin 8)

def regOf (i : Fin 2) : Sem sig := ⟨i.val, i.isLt⟩
def dmaOf (p : Fin 5 × Fin 8) : DmaSem sig := ⟨6 + 8 * p.1.val + p.2.val, by
  have h1 := p.1.isLt; have h2 := p.2.isLt; show _ < 46; omega⟩

def csem : CK → SemLoc sig
  | .inl i => .reg (regOf i)
  | .inr p => .dma (dmaOf p)

/-- Which cell a semaphore is. -/
def kindOf : SemLoc sig → Option CK
  | .reg s => some (.inl ⟨s.val, s.isLt⟩)
  | .dma q => if h : q.val < 6 then none else
      some (.inr (⟨(q.val - 6) / 8, by have : q.val < 46 := q.isLt; omega⟩, ⟨(q.val - 6) % 8, by omega⟩))

/-- A cell's semaphore is recognised as that cell. -/
theorem kindOf_csem (k : CK) : kindOf (csem k) = some k := by
  rcases k with i | ⟨a, b⟩
  · rfl
  · have h1 := a.isLt; have h2 := b.isLt
    simp only [csem, kindOf, dmaOf]
    rw [dif_neg (by omega)]
    refine congrArg (fun x => some (Sum.inr x)) (Prod.ext (Fin.ext ?_) (Fin.ext ?_)) <;> simp only [] <;> omega

/-- Different cells have different semaphores. -/
theorem csem_injective : Function.Injective csem := fun a b h => by
  have := kindOf_csem a; rw [h, kindOf_csem] at this; exact (Option.some.inj this).symm

abbrev cell (c : Dev nD) (k : CK) : GSem nD τ sig := ((c : Thread nD τ), csem k)
abbrev kcell (ck : Dev nD × CK) : GSem nD τ sig := cell ck.1 ck.2

/-- Equal cells have equal devices and equal semaphores. -/
theorem cell_inj {c c' : Dev nD} {k k' : CK} (h : cell c k = cell c' k') : c = c' ∧ k = k' :=
  ⟨congrArg (fun g : GSem nD τ sig => g.1.1) h, csem_injective (congrArg Prod.snd h)⟩

/-- The same, for pairs of a device and a semaphore. -/
theorem kcell_injective : Function.Injective kcell := fun a b h =>
  Prod.ext (cell_inj h).1 (cell_inj h).2

/-- The kernel's own semaphores, as the launch indexes them: every cell but the barrier. -/
def osem (i : Fin 41) : SemLoc sig := if h : i.val = 0 then csem (.inl 1) else
  csem (.inr (⟨(i.val - 1) / 8, by have := i.isLt; omega⟩, ⟨(i.val - 1) % 8, by omega⟩))

/-! ## The memrefs -/

/-- Slot `k` is within the communication buffer. -/
theorem inb_slot (k : Fin 8) : ∀ d : Fin 3, (![k.val, 0, 0] : Fin 3 → Nat) d + S1x128x1024.size d ≤ S8x128x1024.size d := by
  revert k; decide
/-- Row block `k` is within the result. -/
theorem inb_row (k : Fin 8) : ∀ d : Fin 3, (![0, 128 * k.val, 0] : Fin 3 → Nat) d + S1x128x1024.size d ≤ S1x1024x1024.size d := by
  revert k; decide

/-- Slot `k` of the communication buffer, as a rectangle and as the memref the transfers name. -/
abbrev slotR (k : Fin 8) : Rect S8x128x1024 := Rect.unit (s := S8x128x1024) ![k.val, 0, 0] S1x128x1024.size (inb_slot k)
abbrev rowR (k : Fin 8) : Rect S1x1024x1024 := Rect.unit (s := S1x1024x1024) ![0, 128 * k.val, 0] S1x128x1024.size (inb_row k)
abbrev cM : Memref sig .tc .vmem S8x128x1024 .bf16 := Memref.whole cc0_scratch0
abbrev oM : Memref sig .tc .vmem S1x1024x1024 .f32 := Memref.whole cc0_stg5_0
abbrev slotM (k : Fin 8) : Memref sig .tc .vmem S128x1024 .bf16 :=
  (cM.slice (slotR k) (fun _ => rfl)).squeeze S128x1024 squeezes_S1x128x1024_S128x1024

/-- What one slot's transfer credits a semaphore with. -/
abbrev N : ℕ := (slotM 0).view.dmaCredit
/-- A transfer credits something. -/
theorem N_pos : 0 < N := View.dmaCredit_pos _ (by decide)
/-- All slots' transfers credit the same. -/
theorem credit_slot (k : Fin 8) : (slotM k).view.dmaCredit = N := rfl

/-- The elements of a slot's memref are those of its rectangle. -/
theorem slotM_set (k : Fin 8) : (slotM k).view.set = (slotR k).set := by
  show ((View.whole cc0_scratch0).slice (slotR k) |>.reshape S128x1024 _).set = _
  rw [View.set_reshape]
  exact View.set_slice_whole cc0_scratch0 (slotR k)

/-! ## Contents -/

/-- The communication buffer once every slot `k` holds its chunk `yv k`. -/
def commF (yv : Fin 8 → Vec F S1x128x1024 .bf16) : (cc0_scratch0 : Ref sig .tc).ty.Contents (Elt F) :=
  fun i => yv (i 0) (fun a => match a with | ⟨0, _⟩ => (0 : Fin 1) | ⟨1, _⟩ => (i 1 : Fin 128) | ⟨2, _⟩ => (i 2 : Fin 1024))

/-- The result once every row block `k` holds `xv k`. -/
def outF (xv : Fin 8 → Vec F S1x128x1024 .f32) : (cc0_stg5_0 : Ref sig .tc).ty.Contents (Elt F) :=
  fun i => xv (⟨(i 1).val / 128, by have h : (i 1).val < 1024 := (i 1).isLt; omega⟩)
    (fun a => match a with | ⟨0, _⟩ => (0 : Fin 1) | ⟨1, _⟩ => (⟨(i 1).val % 128, by omega⟩ : Fin 128) | ⟨2, _⟩ => (i 2 : Fin 1024))

/-- Slot `k` of device `d`'s communication buffer, held at share `q`. -/
def slotPts (d : Dev nD) (k : Fin 8) (q : PosShare TreeShare) (f : (cc0_scratch0 : Ref sig .tc).ty.Contents (Elt F)) : sProp 𝕄 :=
  (slotM k).view.loc (d : Thread nD τ) ↦[(slotM k).view.set]{q} (f : Buf (Elt F) ((slotM k).view.loc (d : Thread nD τ)))

instance slotPts_storable (d : Dev nD) (k : Fin 8) (q : PosShare TreeShare) (f) :
    BI.Storable (upEmb : UEmb _ 𝕄) (slotPts (F := F) d k q f) := by unfold slotPts; infer_instance

/-- All eight slots of device `d`, at some contents. -/
def slots (d : Dev nD) : sProp 𝕄 := bigSep Finset.univ fun k : Fin 8 => iprop(∃ f, slotPts (F := F) d k fullShare f)

instance slots_storable (d : Dev nD) : BI.Storable (upEmb : UEmb _ 𝕄) (slots (F := F) d) := by unfold slots; infer_instance

/-! ## The schedule -/

def dutiesK (c : Dev nD) : CK → Finset (Dev nD)
  | .inl _ => nbrs c
  | .inr (a, _) => if a.val < 3 then (if c = 0 then {0} else ∅) else if a.val = 3 then (if fwds c then {c} else ∅)
      else if c = 0 then ∅ else {parent c}

def amountK : CK → ℕ
  | .inl _ => 1
  | .inr _ => N

/-- What paying hands over: a child's barrier signal its eight slots; a chunk's arrival the slot holding the chunk; a
    send's completion the share of the source slot lent to it. -/
def payK (yv : Fin 8 → Vec F S1x128x1024 .bf16) (c : Dev nD) (d : Dev nD) : CK → sProp 𝕄
  | .inl i => if i = 0 ∧ d ≠ 0 ∧ parent d = c then slots d else iprop(emp)
  | .inr (a, k) => if h : a.val < 3 then slotPts c k (Ring.shares3 fullShare ⟨a.val, h⟩) (commF yv)
      else if a.val = 3 then slotPts c k (fullShare : PosShare TreeShare).left (commF yv)
      else slotPts c k fullShare (commF yv)

instance payK_storable (yv : Fin 8 → Vec F S1x128x1024 .bf16) (c d : Dev nD) (k : CK) :
    BI.Storable (upEmb : UEmb _ 𝕄) (payK yv c d k) := by
  unfold payK; (repeat' split) <;> infer_instance

/-- One round, round 0, on each core's cells. -/
def Rd (yv : Fin 8 → Vec F S1x128x1024 .bf16) : Rounds.Schedule (GSem nD τ sig) (Dev nD) 𝕄 where
  duties g r := if r = 0 ∧ g.1.2 = .tc then (match kindOf g.2 with | some k => dutiesK g.1.1 k | none => ∅) else ∅
  unitless _ := False
  amount g _ _ := match kindOf g.2 with | some k => amountK k | none => 1
  payload g _ d := match kindOf g.2 with | some k => payK yv g.1.1 d k | none => iprop(emp)
  amount_pos g _ _ _ := by
    rcases kindOf g.2 with _ | (_ | _)
    · exact Nat.one_pos
    · exact Nat.one_pos
    · exact N_pos

instance Rd_payload_storable (yv : Fin 8 → Vec F S1x128x1024 .bf16) (g : GSem nD τ sig) (r : ℕ) (d : Dev nD) :
    BI.Storable (upEmb : UEmb _ 𝕄) ((Rd (F := F) yv).payload g r d) := by
  show BI.Storable upEmb (match kindOf g.2 with | some k => payK yv g.1.1 d k | none => iprop(emp))
  split <;> infer_instance

section Sched
variable (yv : Fin 8 → Vec F S1x128x1024 .bf16) (c d : Dev nD) (k : CK)

/-- Who pays a cell in round 0. -/
theorem duties_cell : (Rd yv).duties (cell c k) 0 = dutiesK c k := by
  dsimp only [Rd]; rw [if_pos ⟨rfl, rfl⟩, kindOf_csem]
/-- How much each payer of a cell pays. -/
theorem amount_cell (r : ℕ) : (Rd yv).amount (cell c k) r d = amountK k := by
  dsimp only [Rd]; rw [kindOf_csem]
/-- What a payer of a cell hands over. -/
theorem payload_cell (r : ℕ) : (Rd yv).payload (cell c k) r d = payK yv c d k := by
  dsimp only [Rd]; rw [kindOf_csem]
/-- No round after round 0 has anything to pay. -/
theorem duties_later (g : GSem nD τ sig) : ∀ r, 1 ≤ r → (Rd yv).duties g r = ∅ :=
  fun r hr => by dsimp only [Rd]; rw [if_neg fun h => by omega]
/-- What a cell takes in over its round: the number of its payers times the amount. -/
theorem expect_cell : (Rd yv).expect (cell c k) 0 = (dutiesK c k).card * amountK k := by
  unfold Schedule.expect Schedule.amountOf
  rw [duties_cell, Finset.sum_congr rfl fun d _ => amount_cell yv c d k 0, Finset.sum_const, smul_eq_mul]
/-- What a cell's payers together hand over. -/
theorem rest_cell : bigSep ((Rd yv).duties (cell c k) 0 \ ∅) (fun d => (Rd yv).payload (cell c k) 0 d)
    = bigSep (dutiesK c k) (fun d => payK yv c d k) := by
  rw [Finset.sdiff_empty, duties_cell]
  exact bigSep_congr fun d _ => payload_cell yv c d k 0

end Sched

/-! ## Levels, and what each core owes at launch -/

/-- Only a TensorCore's cells are waited for. -/
def L (g : GSem nD τ sig) : Finset Unit := if g.1.2 = .tc then {()} else ∅

/-- The levels of the cells device `c` holds: the barrier below the receives, a receive below the receives one step
    further from device 0, the exit semaphore above them all, everything else at 0. -/
def levK (c : Dev nD) : CK → ℕ
  | .inl i => if i = 0 then 1 else 100
  | .inr (a, _) => if a.val = 4 then 2 + depth c else 0

def lv (g : GSem nD τ sig) (_ : Unit) : ℕ := match kindOf g.2 with | some k => levK g.1.1 k | none => 0

/-- Only a TensorCore's cells have a level. -/
theorem L_of_ne (g : GSem nD τ sig) (h : g.1.2 ≠ .tc) : L g = ∅ := if_neg h
/-- The level of a cell. -/
theorem lv_cell (c : Dev nD) (k : CK) (u : Unit) : lv (cell c k) u = levK c k := by
  unfold lv; rw [kindOf_csem]

/-- Everything `O` owes lies on a core's cell of a level above `n`. -/
def Above (n : ℕ) (O : CellTallies nD τ sig Unit) : Prop := ∀ g u, 0 < O g u → g.1.2 = .tc ∧ n < lv g u

/-- Owing nothing lies above every level. -/
theorem above_zero (n : ℕ) : Above n 0 := fun g u h => absurd h (Nat.lt_irrefl 0)
/-- If two debts lie above a level, so does their sum. -/
theorem above_add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
/-- A debt to one cell lies above every level below the cell's. -/
theorem above_tally {n : ℕ} (c : Dev nD) (k : CK) (v : ℕ) (h : n < levK c k) : Above n (tallyAt (cell c k) () v) := fun g u hg => by
  rw [tallyAt_apply] at hg
  by_cases hc : g = cell c k ∧ u = ()
  · rw [hc.1, lv_cell]; exact ⟨rfl, h⟩
  · rw [if_neg hc] at hg; exact absurd hg (Nat.lt_irrefl 0)
/-- A debt above a level lies above every lower one. -/
theorem above_mono {n n' : ℕ} {O : CellTallies nD τ sig Unit} (h : Above n O) (hn : n' ≤ n) : Above n' O := fun g u hg =>
  ⟨(h g u hg).1, lt_of_le_of_lt hn (h g u hg).2⟩

/-- A core may wait on a cell of its own while everything it owes lies above it. -/
theorem mayWait {c : Dev nD} {sm : SemLoc sig} {n : ℕ} {O : CellTallies nD τ sig Unit} (h : Above n O)
    (hn : lv ((c : Thread nD τ), sm) () ≤ n) : (levAts L lv : sProp 𝕄) ⊢ MayWait (c : Thread nD τ) sm () O :=
  MayOwe.of_cut (L := L) (lev := lv) n
    (fun p hp => by rw [Finset.mem_singleton.mp hp]; unfold L; rw [if_pos rfl]; exact Finset.mem_singleton_self _)
    (fun g u hg => by unfold L; rw [if_pos (h g u hg).1]; exact Finset.mem_singleton_self _)
    (fun p hp => by rw [Finset.mem_singleton.mp hp]; exact hn)
    (fun g u hg => (h g u hg).2)

/-- What the signals to the devices `l` owe. -/
def owesL (i : Fin 2) : List (Dev nD) → CellTallies nD τ sig Unit
  | [] => 0
  | t :: l => owesL i l + tallyAt (cell t (.inl i)) () 1

/-- What a device's sends owe from chunk `n` on, `8 - n` chunks remaining: device 0 each child's receive cell, a
    forwarder its child's. -/
def owesS (c : Dev nD) (k : Fin 8) : CellTallies nD τ sig Unit :=
  if c = 0 then tallyAt (cell 4 (.inr (4, k))) () N + tallyAt (cell 3 (.inr (4, k))) () N + tallyAt (cell 1 (.inr (4, k))) () N
  else if fwds c then tallyAt (cell (kid c) (.inr (4, k))) () N else 0
def owesC (c : Dev nD) : List (Fin 8) → CellTallies nD τ sig Unit
  | [] => 0
  | k :: l => owesC c l + owesS c k

/-- What device `c` owes once its barrier is passed, chunks `l` still to send. -/
def O₂ (c : Dev nD) (l : List (Fin 8)) : CellTallies nD τ sig Unit := owesL 1 (rem 0 c) + owesC c l
abbrev chunks : List (Fin 8) := [0, 1, 2, 3, 4, 5, 6, 7]
/-- What device `c` owes at launch. -/
def O₀ (c : Dev nD) : CellTallies nD τ sig Unit := O₂ c chunks + owesL 0 (rem 0 c)

/-- The debts of the signals lie above every level below the signal cells'. -/
theorem above_owesL (i : Fin 2) (l : List (Dev nD)) {n : ℕ} (h : n < if i = 0 then 1 else 100) : Above n (owesL i l) := by
  induction l with
  | nil => exact above_zero n
  | cons t l ih => exact above_add ih (above_tally t (.inl i) 1 h)

/-- A forwarding device's child is one step further from device 0. -/
theorem depth_kid (c : Dev nD) (h : fwds c = true) : depth (kid c) = depth c + 1 := by revert c; decide

/-- What a device owes by its sends lies above its own receive cells. -/
theorem above_owesS (c : Dev nD) (k : Fin 8) : Above (2 + depth c) (owesS c k) := by
  unfold owesS
  split
  · next h =>
      subst h
      refine above_add (above_add ?_ ?_) ?_
      · exact above_tally 4 _ _ (show 2 + depth 0 < 2 + depth 4 by decide)
      · exact above_tally 3 _ _ (show 2 + depth 0 < 2 + depth 3 by decide)
      · exact above_tally 1 _ _ (show 2 + depth 0 < 2 + depth 1 by decide)
  · split
    · next h => exact above_tally _ _ _ (by show _ < 2 + depth (kid c); rw [depth_kid c h]; omega)
    · exact above_zero _

/-- What a device owes past the barrier lies above its own receive cells. -/
theorem above_O₂ (c : Dev nD) (l : List (Fin 8)) : Above (2 + depth c) (O₂ c l) := by
  refine above_add (above_owesL 1 _ (show _ < 100 by have : depth c ≤ 3 := by revert c; decide
                                                     omega)) ?_
  induction l with
  | nil => exact above_zero _
  | cons k l ih => exact above_add ih (above_owesS c k)

/-- What a device owes at launch lies above level 0. -/
theorem above_O₀ (c : Dev nD) : Above 0 (O₀ c) :=
  above_add (above_mono (above_O₂ c _) (by omega)) (above_owesL 0 _ (by decide))

end Cert.KernelIdealProof

end
-- ==== Proof.Ideal.Values.lean ====
/-
# 01_k — `Ideal.Values`, for the kernel with the named mask constant: what device 0 computes

Chunk `k` of the queries (128 rows) attends to the first `w = 128 (k + 1)` keys, head by head; the eight heads' results
are laid side by side and multiplied by the output matrix. The printed payloads are eight copies of one computation, at
eight widths: here it is written once, over the width.
-/
module

public import proofs.«01_k».proof.Proof.Ideal.Sched

@[expose] public section

set_option maxRecDepth 16384

noncomputable section

namespace Cert.KernelIdealProof

open Cert.KernelIdeal Cert.KernelIdeal.Gen
open Idealize.ShloMosaic

variable {F : FTy → Type} [FloatOps F] [Named F]

/-- Scores of 128 queries against `w` keys, and `w` keys or values of one head. -/
abbrev Sm (w : ℕ) : Shape := ⟨2, ![128, w]⟩
abbrev Sk (w : ℕ) : Shape := ⟨2, ![w, 128]⟩

/-- The side conditions of the operations at width `w`. -/
structure Wd (w : ℕ) : Prop where
  io0 : (Sm w).Iotas .tc 32 [0]
  io1 : (Sm w).Iotas .tc 32 [1]
  qk : DotDims.WF S128x128 (Sk w) (Sm w) [1] [1] [0] [0] [] []
  av : DotDims.WF (Sm w) (Sk w) S128x128 [1] [0] [0] [1] [] []
  red : (Sm w).Reduces [1] S128
  br : S128x1.Broadcasts (Sm w)
  sl : ∀ h : Fin 8, S1024x1024.Slices ![0, 128 * h.val] (Sk w)

/-- Head `h`'s columns are within a chunk of queries. -/
theorem slq : ∀ h : Fin 8, S128x1024.Slices ![0, 128 * h.val] S128x128 := by decide

/-- The eight widths satisfy them. -/
theorem wd (k : Fin 8) : Wd (128 * (k.val + 1)) := by
  constructor
  · revert k; decide
  · revert k; decide
  · revert k; decide
  · revert k; decide
  · revert k; decide
  · revert k; decide
  · revert k; decide

section Width
variable {w : ℕ} (H : Wd w)

def dqk : DotDims S128x128 (Sk w) (Sm w) where
  lhsContracting := [1]
  rhsContracting := [1]
  lhsNonContracting := [0]
  rhsNonContracting := [0]
  lhsBatch := []
  rhsBatch := []
  wf := H.qk
def dav : DotDims (Sm w) (Sk w) S128x128 where
  lhsContracting := [1]
  rhsContracting := [0]
  lhsNonContracting := [0]
  rhsNonContracting := [1]
  lhsBatch := []
  rhsBatch := []
  wf := H.av

/-- `⌊v / 64⌋` as the program computes it, from the truncated quotient. -/
def div64 {s : Shape} (v : IVec s 32) : IVec s 32 :=
  select
    (andi
      (cmpi .ne (subi (extui 32 (cmpi .sgt v (broadcast s 0#32)) natLt_1_32) (extui 32 (cmpi .slt v (broadcast s 0#32)) natLt_1_32))
        (broadcast s (Scalar.subi (Scalar.extui (Scalar.cmpi .sgt 64#32 0#32)) (Scalar.extui (Scalar.cmpi .slt 64#32 0#32)))))
      (cmpi .ne (remsi v (broadcast s 64#32)) (broadcast s 0#32)))
    (subi (divsi v (broadcast s 64#32)) (broadcast s 1#32))
    (divsi v (broadcast s 64#32))

/-- The mask: key `j` is visible to query row `i` when `⌊j / 64⌋ ≤ ⌊i / 64⌋ + off`. -/
def maskW (off : BitVec 32) : IVec (Sm w) 1 :=
  cmpi .sle (div64 (iota .tc (Sm w) 32 [1] H.io1)) (addi (div64 (iota .tc (Sm w) 32 [0] H.io0)) (broadcast (Sm w) off))

/-- The fill of the masked scores. -/
abbrev negC : F .f32 := Named.named κ "mask" 0xCE6E6B28#32

/-- One head: the masked scores, -/
def scoresW (q : FVec F S128x1024 .bf16) (kk : FVec F S1024x1024 .bf16) (mask : IVec (Sm w) 1) (h : Fin 8) : FVec F (Sm w) .f32 :=
  select mask
    (matmul (dqk H) none (extractStridedSlice S128x128 ![0, 128 * h.val] q (slq h)) (extractStridedSlice (Sk w) ![0, 128 * h.val] kk (H.sl h))
      (constant (Sm w) .f32 0x00000000#32))
    (broadcast (Sm w) negC)

/-- their exponentials under the row's maximum, -/
def expW (sc : FVec F (Sm w) .f32) : FVec F (Sm w) .f32 :=
  exp (subf sc (broadcastTo (Sm w) (shapeCast S128x1 (multiReduction .maximumf [1] S128 sc 0xFF800000#32 H.red (.inl rfl) rfl) shapeCasts_S128_S128x1) H.br))

/-- and the values weighted by them over their sum. -/
def headW (q : FVec F S128x1024 .bf16) (kk vv : FVec F S1024x1024 .bf16) (mask : IVec (Sm w) 1) (h : Fin 8) : FVec F S128x128 .bf16 :=
  truncf .bf16
    (mulf
      (matmul (dav H) none (truncf .bf16 (expW H (scoresW H q kk mask h)) bitsLt_bf16_f32) (extractStridedSlice (Sk w) ![0, 128 * h.val] vv (H.sl h))
        (constant S128x128 .f32 0x00000000#32))
      (broadcastTo S128x128
        (divf (broadcast S128x1 (Scalar.ofBits .f32 0x3F800000#32))
          (shapeCast S128x1 (multiReduction .add [1] S128 (expW H (scoresW H q kk mask h)) 0x00000000#32 H.red (.inl rfl) rfl) shapeCasts_S128_S128x1))
        broadcasts_S128x1_S128x128))
    bitsLt_bf16_f32

/-- A chunk's queries, scaled. -/
def qW (wq : FVec F S1024x1024 .bf16) (x : Vec F S1x128x1024 .bf16) : FVec F S128x1024 .bf16 :=
  truncf .bf16
    (mulf (matmul dot_S128x1024_S1024x1024_S128x1024_1_0_0_1_n_n none (shapeCast S128x1024 x shapeCasts_S1x128x1024_S128x1024) wq
        (constant S128x1024 .f32 0x00000000#32))
      (broadcast S128x1024 (Scalar.ofBits .f32 0x3DB504F3#32)))
    bitsLt_bf16_f32

/-- The heads side by side, through the output matrix. -/
def mixW (wo : FVec F S1024x1024 .bf16) (hd : Fin 8 → FVec F S128x128 .bf16) : FVec F S128x1024 .f32 :=
  matmul dot_S128x1024_S1024x1024_S128x1024_1_0_0_1_n_n none
    (concatenate S128x1024 1 [⟨S128x128, hd 0⟩, ⟨S128x128, hd 1⟩, ⟨S128x128, hd 2⟩, ⟨S128x128, hd 3⟩, ⟨S128x128, hd 4⟩, ⟨S128x128, hd 5⟩, ⟨S128x128, hd 6⟩, ⟨S128x128, hd 7⟩]
      concatenates_S128x128_S128x128_S128x128_S128x128_S128x128_S128x128_S128x128_S128x128_S128x1024_d1)
    wo (constant S128x1024 .f32 0x00000000#32)

end Width

/-- The matrices the chunks share, as the program reads them. -/
def matW (m : Vec F S1024x1024 .bf16) : FVec F S1024x1024 .bf16 := shapeCast S1024x1024 m shapeCasts_S1024x1024_S1024x1024
def kvW (m : Vec F S1x1024x8x128 .bf16) : FVec F S1024x1024 .bf16 :=
  shapeCast S1024x1024 (shapeCast S1024x8x128 m shapeCasts_S1x1024x8x128_S1024x8x128) shapeCasts_S1024x8x128_S1024x1024

/-- Rows `128 k …` of the input. -/
def rowOf (x : Vec F S1x1024x1024 .bf16) (k : Fin 8) : Vec F S1x128x1024 .bf16 := fun i => x ((rowR k).emb i)

/-- Chunk `k` of the result, -/
def chunkW (x : Vec F S1x1024x1024 .bf16) (wq : Vec F S1024x1024 .bf16) (kk vv : Vec F S1x1024x8x128 .bf16) (wo : Vec F S1024x1024 .bf16)
    (k : Fin 8) : FVec F S128x1024 .f32 :=
  mixW (matW wo) fun h => headW (wd k) (qW (matW wq) (rowOf x k)) (kvW kk) (kvW vv) (maskW (wd k) (BitVec.ofNat 32 (2 * k.val))) h

/-- as device 0 stores it, -/
def xW (x : Vec F S1x1024x1024 .bf16) (wq : Vec F S1024x1024 .bf16) (kk vv : Vec F S1x1024x8x128 .bf16) (wo : Vec F S1024x1024 .bf16)
    (k : Fin 8) : Vec F S1x128x1024 .f32 := shapeCast S1x128x1024 (chunkW x wq kk vv wo k) shapeCasts_S128x1024_S1x128x1024

/-- as it sends it, -/
def yW (x : Vec F S1x1024x1024 .bf16) (wq : Vec F S1024x1024 .bf16) (kk vv : Vec F S1x1024x8x128 .bf16) (wo : Vec F S1024x1024 .bf16)
    (k : Fin 8) : Vec F S1x128x1024 .bf16 := shapeCast S1x128x1024 (truncf .bf16 (chunkW x wq kk vv wo k) bitsLt_bf16_f32) shapeCasts_S128x1024_S1x128x1024

/-- and as the others store it. -/
def zW (y : Fin 8 → Vec F S1x128x1024 .bf16) (k : Fin 8) : Vec F S1x128x1024 .f32 :=
  shapeCast S1x128x1024 (extf .f32 (shapeCast S128x1024 (y k) shapeCasts_S1x128x1024_S128x1024) bitsLt_bf16_f32) shapeCasts_S128x1024_S1x128x1024

end Cert.KernelIdealProof

end
-- ==== Proof.Ideal.Content.lean ====
/-
# 01_k — `Ideal.Content`, for the kernel with the named mask constant: what the stores, loads and transfers of one chunk do to the buffers
-/
module

public import proofs.«01_k».proof.Proof.Ideal.Values

@[expose] public section

set_option maxRecDepth 16384

noncomputable section

namespace Cert.KernelIdealProof

open Cert.KernelIdeal Cert.KernelIdeal.Gen
open Idealize.ShloMosaic

variable {F : FTy → Type} [FloatOps F] [Named F]
variable (yv : Fin 8 → Vec F S1x128x1024 .bf16) (xv : Fin 8 → Vec F S1x128x1024 .f32)

/-- In the communication buffer slot `k` holds chunk `k`. -/
theorem commF_emb (k : Fin 8) (x : S1x128x1024.Idx) : commF yv ((slotR k).emb x) = yv k x := by
  unfold commF
  have h0 : ((slotR k).emb x) 0 = k := Fin.ext (by
    show k.val + 1 * (x 0).val = k.val
    have : (x 0).val < 1 := (x 0).isLt
    omega)
  rw [h0]
  congr 1
  funext a
  match a with
  | ⟨0, _⟩ => exact Subsingleton.elim (α := Fin 1) _ _
  | ⟨1, _⟩ => exact Fin.ext (show 0 + 1 * (x 1).val = (x 1).val by omega)
  | ⟨2, _⟩ => exact Fin.ext (show 0 + 1 * (x 2).val = (x 2).val by omega)

/-- Reading slot `k` gives the chunk. -/
theorem read_slot (k : Fin 8) : (cM : Memref sig .tc .vmem S8x128x1024 .bf16).view.readAt (Elt F) (slotR k).toLoadRect (commF yv) = yv k :=
  funext fun x => commF_emb yv k x

/-- Storing the chunk makes the slot's contents the canonical ones. -/
theorem write_slot (k : Fin 8) (f : (cc0_scratch0 : Ref sig .tc).ty.Contents (Elt F)) (i) (hi : i ∈ (slotM k).view.set) :
    ((cM : Memref sig .tc .vmem S8x128x1024 .bf16).access (slotR k) : View sig .tc _ _ _).write (Elt F) f (yv k) Finset.univ i = commF yv i := by
  rw [slotM_set, ← Rect.map_emb_univ, Finset.mem_map] at hi
  obtain ⟨x, -, rfl⟩ := hi
  rw [commF_emb]
  exact View.write_emb_of_mem (v := ((cM : Memref sig .tc .vmem S8x128x1024 .bf16).access (slotR k))) f (yv k) (Finset.mem_univ x)

/-- A transfer from a slot holding its chunk to the same slot elsewhere leaves the canonical contents there. -/
theorem land_slot (k : Fin 8) (f : (cc0_scratch0 : Ref sig .tc).ty.Contents (Elt F)) (i) (hi : i ∈ (slotM k).view.set) :
    (slotM k).view.write (Elt F) f ((slotM k).view.read (Elt F) (commF yv)) Finset.univ i = commF yv i := by
  unfold View.set at hi
  rw [Finset.mem_map] at hi
  obtain ⟨x, -, rfl⟩ := hi
  rw [View.write_emb_of_mem (v := (slotM k).view) f _ (Finset.mem_univ x)]
  rfl

/-- In the result row block `k` holds block `k`. -/
theorem outF_emb (k : Fin 8) (x : S1x128x1024.Idx) : outF xv ((rowR k).emb x) = xv k x := by
  have h1 : (((rowR k).emb x) 1).val = 128 * k.val + (x 1).val := by
    show 128 * k.val + 1 * (x 1).val = _
    omega
  have hx : (x 1).val < 128 := (x 1).isLt
  unfold outF
  have h0 : (⟨(((rowR k).emb x) 1).val / 128, by have := k.isLt; omega⟩ : Fin 8) = k := Fin.ext (by show (((rowR k).emb x) 1).val / 128 = k.val; omega)
  rw [h0]
  congr 1
  funext a
  match a with
  | ⟨0, _⟩ => exact Subsingleton.elim (α := Fin 1) _ _
  | ⟨1, _⟩ => exact Fin.ext (show (((rowR k).emb x) 1).val % 128 = (x 1).val by omega)
  | ⟨2, _⟩ => exact Fin.ext (show 0 + 1 * (x 2).val = (x 2).val by omega)

/-- The first `n` row blocks of the result are stored. -/
def OutTo (n : ℕ) (f : (cc0_stg5_0 : Ref sig .tc).ty.Contents (Elt F)) : Prop :=
  ∀ i : S1x1024x1024.Idx, (i 1).val < 128 * n → f i = outF xv i

/-- Nothing is asked of the result before the first block is stored. -/
theorem outTo_zero (f) : OutTo xv 0 f := fun i hi => absurd hi (by omega)
/-- With eight blocks stored the result is complete. -/
theorem outTo_eight {f} (h : OutTo xv 8 f) : f = outF xv := funext fun i => h i (show (i 1).val < 128 * 8 from (i 1).isLt)

/-- Storing block `k` after the first `k`. -/
theorem outTo_succ (k : Fin 8) {f} (h : OutTo xv k.val f) :
    OutTo xv (k.val + 1) (((oM : Memref sig .tc .vmem S1x1024x1024 .f32).access (rowR k) : View sig .tc _ _ _).write (Elt F) f (xv k) Finset.univ) := by
  intro i hi
  by_cases hm : i ∈ (rowR k).set
  · rw [← Rect.map_emb_univ, Finset.mem_map] at hm
    obtain ⟨x, -, rfl⟩ := hm
    rw [outF_emb]
    exact View.write_emb_of_mem (v := ((oM : Memref sig .tc .vmem S1x1024x1024 .f32).access (rowR k))) f (xv k) (Finset.mem_univ x)
  · have hs : (((oM : Memref sig .tc .vmem S1x1024x1024 .f32).access (rowR k) : View sig .tc _ _ _).set) = (rowR k).set :=
      View.set_slice_whole cc0_stg5_0 (rowR k)
    refine (View.write_of_not_mem (v := ((oM : Memref sig .tc .vmem S1x1024x1024 .f32).access (rowR k))) f (xv k) Finset.univ
      (fun hm' => hm (by rw [← hs]; exact hm'))).trans (h i ?_)
    by_contra hlt
    have h0 : (i 0).val < 1 := (i 0).isLt
    have h2 : (i 2).val < 1024 := (i 2).isLt
    refine hm ((Rect.mem_set_unit).mpr fun a => ?_)
    match a with
    | ⟨0, _⟩ => exact ⟨Nat.zero_le _, show (i 0).val < 0 + 1 by omega⟩
    | ⟨1, _⟩ => exact ⟨show 128 * k.val ≤ (i 1).val by omega, show (i 1).val < 128 * k.val + 128 by omega⟩
    | ⟨2, _⟩ => exact ⟨Nat.zero_le _, show (i 2).val < 0 + 1024 by omega⟩

end Cert.KernelIdealProof

end
-- ==== Proof.Ideal.Steps.lean ====
/-
# 01_k — `Ideal.Steps`, for the kernel with the named mask constant: one rule per kind of step of the body

Each rule takes a state before a step to the state after it, under the entailment that runs the rest of the program.
The states are lists of what is still to do and what has been done.
-/
module

public import proofs.«01_k».proof.Proof.Ideal.Content

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-! ## Separating conjunctions along a list -/

def lsep {I : Type} (l : List I) (Φ : I → sProp 𝕄) : sProp 𝕄 :=
  match l with
  | [] => iprop(emp)
  | a :: l => iprop(Φ a ∗ lsep l Φ)

/-- A resource moved from the front of a list to its end. -/
theorem lsep_snoc {I : Type} (l : List I) (a : I) (Φ : I → sProp 𝕄) : iprop(Φ a ∗ lsep l Φ) ⊢ lsep (l ++ [a]) Φ := by
  induction l with
  | nil => exact .rfl
  | cons b l ih =>
    show iprop(Φ a ∗ Φ b ∗ lsep l Φ) ⊢ iprop(Φ b ∗ lsep (l ++ [a]) Φ)
    iintro ⟨Ha, Hb, Hl⟩
    isplitl [Hb]; · iexact Hb
    iapply ih
    isplitl [Ha] <;> iassumption

/-- A list of resources reversed. -/
theorem lsep_reverse {I : Type} (l : List I) (Φ : I → sProp 𝕄) : lsep l Φ ⊢ lsep l.reverse Φ := by
  induction l with
  | nil => exact .rfl
  | cons b l ih =>
    rw [List.reverse_cons]
    exact (sep_mono_right ih).trans (lsep_snoc _ _ _)

/-- A list of resources, each weakened. -/
theorem lsep_mono {I : Type} (l : List I) {Φ Ψ : I → sProp 𝕄} (h : ∀ i, Φ i ⊢ Ψ i) : lsep l Φ ⊢ lsep l Ψ := by
  induction l with
  | nil => exact .rfl
  | cons b l ih => exact BIClass.sep_mono (h b) ih

/-- From the resources of a set, those of a list of its members. -/
theorem lsep_of_bigSep {I : Type} [DecidableEq I] (l : List I) (S : Finset I) (Φ : I → sProp 𝕄) (hn : l.Nodup) (hs : ∀ i ∈ l, i ∈ S) :
    bigSep S Φ ⊢ lsep l Φ := by
  induction l generalizing S with
  | nil => iintro -; iempintro
  | cons b l ih =>
    rw [bigSep_erase (hs b List.mem_cons_self)]
    exact sep_mono_right (ih _ hn.of_cons fun i hi => Finset.mem_erase.mpr
      ⟨fun h => (List.nodup_cons.mp hn).1 (h ▸ hi), hs i (List.mem_cons_of_mem _ hi)⟩)

/-- From the resources of a list, those of a set whose members it names. -/
theorem bigSep_of_lsep {I : Type} [DecidableEq I] (l : List I) (S : Finset I) (Φ : I → sProp 𝕄) (hs : ∀ i ∈ S, i ∈ l) (hn : l.Nodup) :
    lsep l Φ ⊢ bigSep S Φ := by
  induction l generalizing S with
  | nil => rw [Finset.eq_empty_of_forall_notMem fun i hi => absurd (hs i hi) List.not_mem_nil, bigSep_empty]; exact .rfl
  | cons b l ih =>
    by_cases hb : b ∈ S
    · rw [bigSep_erase hb]
      exact sep_mono_right (ih _ (fun i hi => (List.mem_cons.mp (hs i (Finset.mem_of_mem_erase hi))).resolve_left (Finset.ne_of_mem_erase hi)) hn.of_cons)
    · show iprop(Φ b ∗ lsep l Φ) ⊢ _
      iintro ⟨-, Hl⟩
      iapply (ih S (fun i hi => (List.mem_cons.mp (hs i hi)).resolve_left fun h => hb (h ▸ hi)) hn.of_cons)
      iexact Hl

/-! ## Programs -/

abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

section Generic
variable {c : Dev nD} {P P' R : sProp (MT nD τ sig Unit (Elt F) ℕ UU ℕ)} {α β : Type} {Q : α → sProp (MT nD τ sig Unit (Elt F) ℕ UU ℕ)}

/-- A program of two parts runs if the first leads to a state from which the second runs. -/
theorem wp_part {p : Prog (TpuEff nD τ sig (Elt F) Λ₀ .tc) β} {k : β → Prog (TpuEff nD τ sig (Elt F) Λ₀ .tc) α}
    (h : P ⊢ WP c p fun a => WP c (k a) Q) : P ⊢ WP c (p >>= k) Q := by
  unfold WP; rw [wp_bind]; exact h

/-- A program that is done leaves what it has. -/
theorem wp_done {a : α} (h : P ⊢ Q a) : P ⊢ WP c (pure a) Q := by
  unfold WP; rw [wp_pure]
  iintro H; imodintro; iapply h; iexact H

/-- A conditional step with the same continuation on both sides: the step is proved where the condition holds, and where it does not the state is already the one after it. -/
theorem wp_if {φ : Prop} {inst : Decidable φ} {A : φ → Prog (TpuEff nD τ sig (Elt F) Λ₀ .tc) α} {X : Prog (TpuEff nD τ sig (Elt F) Λ₀ .tc) α}
    (P' : sProp 𝕄) (h : ∀ h : φ, (P' ⊢ WP c X Q) → (P ⊢ WP c (A h) Q)) (hn : ¬φ → (P ⊢ P')) (hX : P' ⊢ WP c X Q) :
    P ⊢ WP c (dite φ A fun _ => X) Q := by
  by_cases hφ : φ
  · rw [dif_pos hφ]; exact h hφ hX
  · rw [dif_neg hφ]; exact (hn hφ).trans hX

end Generic

/-! ## The persistent record -/

section State
variable (yv : Fin 8 → Vec F S1x128x1024 .bf16) (K : Dev nD × CK → ℕ)

/-- Every cell's invariant, and that its round 0 is reached. -/
def record : sProp 𝕄 := bigSep Finset.univ fun ck : Dev nD × CK => iprop(cellInv ER (Rd yv) (K ck) (kcell ck) ∗ reached ER (kcell ck) 0)

def ctx : sProp 𝕄 := iprop(record yv K ∗ levAts L lv)

instance : Persistent (record (F := F) yv K) := by unfold record; infer_instance
instance : Persistent (ctx (F := F) yv K) := by unfold ctx; infer_instance

/-- The record holds every cell's schedule. -/
theorem ctx_cell (c : Dev nD) (k : CK) : ctx (F := F) yv K ⊢ iprop(cellInv ER (Rd yv) (K (c, k)) (cell c k) ∗ reached ER (cell c k) 0) := by
  have h : (record yv K : sProp 𝕄) ⊢ iprop(cellInv ER (Rd yv) (K (c, k)) (kcell (c, k)) ∗ reached ER (kcell (c, k)) 0) :=
    bigSep_elim (Finset.mem_univ (c, k))
  unfold ctx
  iintro ⟨H, -⟩
  iapply h; iexact H

/-- The record holds the levels. -/
theorem ctx_lev : ctx (F := F) yv K ⊢ levAts L lv := by
  unfold ctx
  iintro ⟨-, H⟩; iexact H

/-- What core `c` owes, whatever it has waited on. -/
def ow (c : Dev nD) (O : CellTallies nD τ sig Unit) : sProp 𝕄 := iprop(∃ W, owes (c : Thread nD τ) O W)

/-! ## Signals along the edges -/

def sigItem (i : Fin 2) (c : Dev nD) (t : Dev nD) : sProp 𝕄 := iprop(dutyTok ER (cell t (.inl i)) 0 c ∗ payK yv t c (.inl i))

/-- Device `c` still to signal `l`, owing `O` besides. -/
def sA (i : Fin 2) (c : Dev nD) (l : List (Dev nD)) (O : CellTallies nD τ sig Unit) (R : sProp 𝕄) : sProp 𝕄 :=
  iprop(ctx yv K ∗ ow c (O + owesL i l) ∗ lsep l (sigItem yv i c) ∗ R)

variable {yv K}
variable {c : Dev nD} {R : sProp (MT nD τ sig Unit (Elt F) ℕ UU ℕ)} {α : Type} {Q : α → sProp (MT nD τ sig Unit (Elt F) ℕ UU ℕ)} {O : CellTallies nD τ sig Unit}

/-- A signal to a neighbour pays the neighbour's signal cell and hands over what goes with it. -/
theorem wp_sig {i : Fin 2} {l : List (Dev nD)} {t d : Dev nD} {s : Sem sig} {k : PUnit → Prog (TpuEff nD τ sig (Elt F) Λ₀ .tc) α}
    (hn : c ∈ nbrs t) (hs : s = regOf i) (hd : d = t) (h : sA yv K i c l O R ⊢ WP c (k ⟨⟩) Q) :
    sA yv K i c (t :: l) O R ⊢ WP c (semSignalWord d s 1#32 >>= k) Q := by
  subst hd; subst hs
  refine .trans ?_ (Entails.of_eq (show WP c (.op (.semSignal (d : Thread nD τ) (regOf i) ((1 : ℕ) : Int)) k) Q = _ from rfl))
  unfold sA
  show iprop(ctx yv K ∗ ow c (O + (owesL i l + tallyAt (cell d (.inl i)) () 1)) ∗ (sigItem yv i c d ∗ lsep l (sigItem yv i c)) ∗ R) ⊢ _
  unfold sigItem ow
  iintro ⟨#Hc, ⟨%W, HO⟩, ⟨⟨Ht, Hp⟩, Hl⟩, HR⟩
  ihave HC := (ctx_cell yv K d (.inl i)) $$ Hc
  icases HC with ⟨#HI, #Hr⟩
  iapply (Rounds.wp_signal 𝒱₀ ER (Rd yv) (c : Thread nD τ) none (dst := (d : Thread nD τ)) (sem := regOf i) (κ := K (d, .inl i)) (k' := 1)
      (d := c) (r := 0) (by rw [show ((d : Thread nD τ), SemLoc.reg (regOf i)) = cell d (.inl i) from rfl, duties_cell]; exact hn)
      (amount_cell yv d c (.inl i) 0) () (O₀ := O + (owesL i l + tallyAt (cell d (.inl i)) () 1)) (O + owesL i l) (add_assoc _ _ _).symm)
    $$ [HO Ht Hp]
  · isplitr; · iexact HI
    isplitl [HO]; · iexact HO
    isplitl [Ht]; · iexact Ht
    isplitl [Hp]; · iapply (Entails.of_eq (show payK yv d c (.inl i) = (Rd yv).payload ((d : Thread nD τ), SemLoc.reg (regOf i)) 0 c from (payload_cell yv d c (.inl i) 0).symm)); iexact Hp
    iexact Hr
  iintro HO
  iapply h
  unfold sA ow
  isplitr; · iexact Hc
  isplitl [HO]; · iexists W; iexact HO
  isplitl [Hl]; · iexact Hl
  iexact HR

/-- A conditional signal along one edge: only its source has it to do. -/
theorem wp_edge {i : Fin 2} (s t : Dev nD) {l l' : List (Dev nD)} {φ : Dev nD → Prop} {inst : Decidable (φ c)} {dev : φ c → Dev nD} {sm : Sem sig}
    {X : Prog (TpuEff nD τ sig (Elt F) Λ₀ .tc) α}
    (hφ : ∀ d, φ d ↔ d = s) (hl : ∀ d, d = c → l = if d = s then t :: l' else l') (hn : s ∈ nbrs t) (hs : sm = regOf i) (hd : ∀ h, dev h = t)
    (h : sA yv K i c l' O R ⊢ WP c X Q) :
    sA yv K i c l O R ⊢ WP c (dite (φ c) (fun h => semSignalWord (dev h) sm 1#32 >>= fun _ => X) fun _ => X) Q := by
  refine wp_if (sA yv K i c l' O R) (fun hc hX => ?_) (fun hc => ?_) h
  · have hcs := (hφ c).mp hc
    rw [hl c rfl, if_pos hcs]
    exact wp_sig (hcs ▸ hn) hs (hd hc) hX
  · rw [hl c rfl, if_neg fun e => hc ((hφ c).mpr e)]

/-- Device 0's three signals, which it sends together. -/
theorem wp_edge3 {i : Fin 2} (t₁ t₂ t₃ : Dev nD) {l l' : List (Dev nD)} {φ : Dev nD → Prop} {inst : Decidable (φ c)} {dev₁ dev₂ dev₃ : φ c → Dev nD} {sm : Sem sig}
    {X : Prog (TpuEff nD τ sig (Elt F) Λ₀ .tc) α}
    (hφ : ∀ d, φ d ↔ d = 0) (hl : ∀ d, d = c → l = if d = 0 then t₁ :: t₂ :: t₃ :: l' else l') (hn : 0 ∈ nbrs t₁ ∧ 0 ∈ nbrs t₂ ∧ 0 ∈ nbrs t₃)
    (hs : sm = regOf i) (hd : ∀ h, dev₁ h = t₁ ∧ dev₂ h = t₂ ∧ dev₃ h = t₃)
    (h : sA yv K i c l' O R ⊢ WP c X Q) :
    sA yv K i c l O R ⊢ WP c (dite (φ c) (fun h => semSignalWord (dev₁ h) sm 1#32 >>= fun _ => semSignalWord (dev₂ h) sm 1#32 >>= fun _ =>
      semSignalWord (dev₃ h) sm 1#32 >>= fun _ => X) fun _ => X) Q := by
  refine wp_if (sA yv K i c l' O R) (fun hc hX => ?_) (fun hc => ?_) h
  · have hcs := (hφ c).mp hc
    rw [hl c rfl, if_pos hcs]
    exact wp_sig (hcs ▸ hn.1) hs (hd hc).1 (wp_sig (hcs ▸ hn.2.1) hs (hd hc).2.1 (wp_sig (hcs ▸ hn.2.2) hs (hd hc).2.2 hX))
  · rw [hl c rfl, if_neg fun e => hc ((hφ c).mpr e)]

/-! ## The wait for the neighbours' signals -/

variable (yv K)

/-- Device `c` yet to wait when it has at most `n` neighbours, and past the wait when it has more. -/
def sW (i : Fin 2) (c : Dev nD) (n : ℕ) (O : CellTallies nD τ sig Unit) (R : sProp 𝕄) : sProp 𝕄 :=
  iprop(ctx yv K ∗ ow c O ∗ (if (nbrs c).card ≤ n then iprop(cred (tallyAt (cell c (.inl i)) () (nbrs c).card) ∗ atPos ER (cell c (.inl i)) 0 ∅ 0)
    else iprop(atPos ER (cell c (.inl i)) 1 ∅ 0 ∗ bigSep (nbrs c) fun d => payK yv c d (.inl i))) ∗ R)

variable {yv K}

/-- A conditional wait for `n + 1` neighbours: only the devices with that many do it. -/
theorem wp_waitn {i : Fin 2} {n : ℕ} {w : BitVec 32} {φ : Dev nD → Prop} {inst : Decidable (φ c)} {sm : Sem sig}
    {X : Prog (TpuEff nD τ sig (Elt F) Λ₀ .tc) α}
    (hφ : ∀ d, φ d ↔ (nbrs d).card = n + 1) (hw : w.toInt = ((n + 1 : ℕ) : Int)) (hs : sm = regOf i) (hO : Above (levK c (.inl i)) O)
    (h : sW yv K i c n O R ⊢ WP c X Q) :
    sW yv K i c (n + 1) O R ⊢ WP c (dite (φ c) (fun _ => semWaitWord sm w >>= fun _ => X) fun _ => X) Q := by
  subst hs
  refine wp_if (sW yv K i c n O R) (fun hc hX => ?_) (fun hc => ?_) h
  · have hcs := (hφ c).mp hc
    refine .trans ?_ (Entails.of_eq (show WP c (.op (.semWait (regOf i) w.toInt) fun _ => X) Q = _ from rfl))
    rw [hw]
    unfold sW
    rw [if_pos (le_of_eq hcs)]
    unfold ow
    iintro ⟨#Hc, ⟨%W, HO⟩, ⟨Hcr, Hat⟩, HR⟩
    ihave HC := (ctx_cell yv K c (.inl i)) $$ Hc
    icases HC with ⟨#HI, -⟩
    iapply (Rounds.wp_wait_rest_token 𝒱₀ ER (Rd yv) (c : Thread nD τ) none (κ := K (c, .inl i)) (sm := .reg (regOf i)) (k' := n + 1)
      (wpE_semWait_eq 𝒱₀ (c : Thread nD τ) none Set.univ) (Set.mem_univ _) () (O := O) (W := W) (R := 0) (m := 0) (T := ∅)
      (by rw [show ((c : Thread nD τ), SemLoc.reg (regOf i)) = cell c (.inl i) from rfl, expect_cell]
          show 0 + (n + 1) = (nbrs c).card * 1
          omega)) $$ [Hcr HO Hat]
    · isplitr; · iexact HI
      isplitl [Hcr]; · rw [hcs]; iexact Hcr
      isplitl [HO]; · iexact HO
      isplitr
      · iapply (mayWait (c := c) (sm := .reg (regOf i)) hO (le_of_eq (lv_cell c (.inl i) ())))
        iapply (ctx_lev yv K); iexact Hc
      iexact Hat
    iintro ⟨HO, Hat, -, Hpay⟩
    iapply hX
    unfold sW ow
    rw [if_neg (by omega)]
    isplitr; · iexact Hc
    isplitl [HO]; · iexists _; iexact HO
    isplitl [Hat Hpay]
    · isplitl [Hat]; · iexact Hat
      iapply (Entails.of_eq (rest_cell yv c (.inl i))); iexact Hpay
    iexact HR
  · unfold sW
    have hne : (nbrs c).card ≠ n + 1 := fun e => hc ((hφ c).mpr e)
    by_cases hle : (nbrs c).card ≤ n
    · rw [if_pos hle, if_pos (by omega)]
    · rw [if_neg hle, if_neg (by omega)]

end State

end Cert.KernelIdealProof

end
-- ==== Proof.Ideal.Moves.lean ====
/-
# 01_k — `Ideal.Moves`, for the kernel with the named mask constant: the loads, stores, transfers and completions of the body
-/
module

public import proofs.«01_k».proof.Proof.Ideal.Steps

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-! ## Buffers -/

/-- Buffer `b` of core `c` holding `X`. -/
def pts (c : Dev nD) (b : Ref sig .tc) (X : b.ty.Contents (Elt F)) : sProp 𝕄 :=
  ((c : Thread nD τ).loc b) ↦{fullShare} (X : Buf (Elt F) ((c : Thread nD τ).loc b))

/-- The result buffer of core `c` with its first `n` row blocks stored. -/
def outInv (xv : Fin 8 → Vec F S1x128x1024 .f32) (c : Dev nD) (n : ℕ) : sProp 𝕄 := iprop(∃ f, ⌜OutTo xv n f⌝ ∗ pts c cc0_stg5_0 f)

/-- The set a slot's access covers lies in the slot's set. -/
theorem acc_sub (k : Fin 8) : ((cM : Memref sig .tc .vmem S8x128x1024 .bf16).access (slotR k) : View sig .tc _ _ _).set ⊆ (slotM k).view.set := by
  rw [slotM_set]; exact (View.set_slice_whole cc0_scratch0 (slotR k)).subset

/-- Reading the slot's access of the canonical contents gives the chunk. -/
theorem acc_read (yv : Fin 8 → Vec F S1x128x1024 .bf16) (k : Fin 8) :
    ((cM : Memref sig .tc .vmem S8x128x1024 .bf16).access (slotR k) : View sig .tc _ _ _).read (Elt F) (commF yv) = yv k :=
  funext fun x => commF_emb yv k x

section Steps
variable {yv : Fin 8 → Vec F S1x128x1024 .bf16} {xv : Fin 8 → Vec F S1x128x1024 .f32} {K : Dev nD × CK → ℕ}
variable {c : Dev nD} {P R : sProp (MT nD τ sig Unit (Elt F) ℕ UU ℕ)} {α : Type} {Q : α → sProp (MT nD τ sig Unit (Elt F) ℕ UU ℕ)}

/-- A load of a buffer held whole. -/
theorem wp_ld {b : Ref sig .tc} {X : b.ty.Contents (Elt F)} {sp : CoreSpace} {s : Shape} {e : EltTy} {m : Memref sig .tc sp s e} {r : LoadRect s} {hl : m.view.LoadsAt r}
    {k : (r.shape.Idx → Elt F e) → Prog (TpuEff nD τ sig (Elt F) Λ₀ .tc) α} (P' : sProp (MT nD τ sig Unit (Elt F) ℕ UU ℕ))
    (hb : m.view.ref = b) (v : r.shape.Idx → Elt F e) (hv : ∀ X', HEq X' X → m.view.readAt (Elt F) r X' = v)
    (hP : P ⊢ iprop(pts c b X ∗ P')) (hP' : iprop(pts c b X ∗ P') ⊢ P) (h : P ⊢ WP c (k v) Q) :
    P ⊢ WP c (Prog.lift (.load m r hl) >>= k) Q := by
  subst hb
  refine hP.trans (.trans ?_ (Entails.of_eq (show WP c (.op (.load m r hl) k) Q = _ from rfl)))
  iintro ⟨Hp, HP⟩
  unfold pts
  iapply (wp_load 𝒱₀ (c : Thread nD τ) none Set.univ (m := m) (Finset.subset_univ _)) $$ Hp
  iintro Hp
  rw [hv X HEq.rfl]
  iapply h
  iapply hP'
  unfold pts
  isplitl [Hp] <;> iassumption

/-- A load of the result buffer, whose value the program does not use. -/
theorem wp_ldout {n : ℕ} {r : LoadRect S1x1024x1024} {hl : (oM : Memref sig .tc .vmem S1x1024x1024 .f32).view.LoadsAt r}
    {k : (r.shape.Idx → Elt F .f32) → Prog (TpuEff nD τ sig (Elt F) Λ₀ .tc) α} (P' : sProp (MT nD τ sig Unit (Elt F) ℕ UU ℕ))
    (hP : P ⊢ iprop(outInv xv c n ∗ P')) (hP' : iprop(outInv xv c n ∗ P') ⊢ P) (h : ∀ v, P ⊢ WP c (k v) Q) :
    P ⊢ WP c (Prog.lift (.load (oM : Memref sig .tc .vmem S1x1024x1024 .f32) r hl) >>= k) Q := by
  refine hP.trans (.trans ?_ (Entails.of_eq (show WP c (.op (.load (oM : Memref sig .tc .vmem S1x1024x1024 .f32) r hl) k) Q = _ from rfl)))
  unfold outInv
  iintro ⟨⟨%f, %hf, Hp⟩, HP⟩
  unfold pts
  iapply (wp_load 𝒱₀ (c : Thread nD τ) none Set.univ (m := (oM : Memref sig .tc .vmem S1x1024x1024 .f32)) (Finset.subset_univ _)) $$ Hp
  iintro Hp
  iapply (h _)
  iapply hP'
  unfold outInv pts
  isplitl [Hp]
  · iexists f; isplitr; · ipureintro; exact hf
    iexact Hp
  iexact HP

/-- The store of the next row block of the result. -/
theorem wp_stout (kk : Fin 8) {r : Rect S1x1024x1024} {v : r.shape.Idx → Elt F .f32} {hx hm}
    {k : PUnit → Prog (TpuEff nD τ sig (Elt F) Λ₀ .tc) α} (P' : sProp (MT nD τ sig Unit (Elt F) ℕ UU ℕ))
    (hr : r = rowR kk) (hv : HEq v (xv kk))
    (hP : P ⊢ iprop(outInv xv c kk.val ∗ P')) (h : iprop(outInv xv c (kk.val + 1) ∗ P') ⊢ WP c (k ⟨⟩) Q) :
    P ⊢ WP c (Prog.lift (.store (oM : Memref sig .tc .vmem S1x1024x1024 .f32) r v Finset.univ hx hm) >>= k) Q := by
  subst hr
  obtain rfl := eq_of_heq hv
  refine hP.trans (.trans ?_ (Entails.of_eq (show WP c (.op (.store (oM : Memref sig .tc .vmem S1x1024x1024 .f32) (rowR kk) (xv kk) Finset.univ hx hm) k) Q = _ from rfl)))
  unfold outInv at *
  iintro ⟨⟨%f, %hf, Hp⟩, HP⟩
  unfold pts
  iapply (wp_store 𝒱₀ (c : Thread nD τ) none Set.univ (m := (oM : Memref sig .tc .vmem S1x1024x1024 .f32)) (r := rowR kk) (Mk := Finset.univ) (Finset.subset_univ _)) $$ Hp
  iintro Hp
  iapply h
  unfold pts
  isplitl [Hp]
  · iexists _; isplitr; · ipureintro; exact outTo_succ xv kk hf
    iexact Hp
  iexact HP

/-- A load of a slot that holds its chunk. -/
theorem wp_ldslot (kk : Fin 8) {q : PosShare TreeShare} {r : LoadRect S8x128x1024} {hl : (cM : Memref sig .tc .vmem S8x128x1024 .bf16).view.LoadsAt r}
    {k : (r.shape.Idx → Elt F .bf16) → Prog (TpuEff nD τ sig (Elt F) Λ₀ .tc) α} (P' : sProp (MT nD τ sig Unit (Elt F) ℕ UU ℕ))
    (hr : r = (slotR kk).toLoadRect) (v : r.shape.Idx → Elt F .bf16) (hv : HEq v (yv kk))
    (hP : P ⊢ iprop(slotPts c kk q (commF yv) ∗ P')) (hP' : iprop(slotPts c kk q (commF yv) ∗ P') ⊢ P) (h : P ⊢ WP c (k v) Q) :
    P ⊢ WP c (Prog.lift (.load (cM : Memref sig .tc .vmem S8x128x1024 .bf16) r hl) >>= k) Q := by
  subst hr
  obtain rfl := eq_of_heq hv
  refine hP.trans (.trans ?_ (Entails.of_eq (show WP c (.op (.load (cM : Memref sig .tc .vmem S8x128x1024 .bf16) (slotR kk).toLoadRect hl) k) Q = _ from rfl)))
  iintro ⟨Hp, HP⟩
  unfold slotPts
  iapply (wp_load_rect 𝒱₀ (c : Thread nD τ) none Set.univ (m := (cM : Memref sig .tc .vmem S8x128x1024 .bf16)) (r := slotR kk) (S := (slotM kk).view.set) (f := commF yv)
    (acc_sub kk)) $$ Hp
  iintro Hp
  rw [acc_read]
  iapply h
  iapply hP'
  unfold slotPts
  isplitl [Hp] <;> iassumption

/-- A load of a slot, whose value the program does not use. -/
theorem wp_ldslot_any (kk : Fin 8) {r : LoadRect S8x128x1024} {hl : (cM : Memref sig .tc .vmem S8x128x1024 .bf16).view.LoadsAt r}
    {k : (r.shape.Idx → Elt F .bf16) → Prog (TpuEff nD τ sig (Elt F) Λ₀ .tc) α} (P' : sProp (MT nD τ sig Unit (Elt F) ℕ UU ℕ))
    (hr : r = (slotR kk).toLoadRect)
    (hP : P ⊢ iprop((∃ f, slotPts c kk fullShare f) ∗ P')) (hP' : iprop((∃ f, slotPts c kk fullShare f) ∗ P') ⊢ P) (h : ∀ v, P ⊢ WP c (k v) Q) :
    P ⊢ WP c (Prog.lift (.load (cM : Memref sig .tc .vmem S8x128x1024 .bf16) r hl) >>= k) Q := by
  subst hr
  refine hP.trans (.trans ?_ (Entails.of_eq (show WP c (.op (.load (cM : Memref sig .tc .vmem S8x128x1024 .bf16) (slotR kk).toLoadRect hl) k) Q = _ from rfl)))
  iintro ⟨⟨%f, Hp⟩, HP⟩
  unfold slotPts
  iapply (wp_load_rect 𝒱₀ (c : Thread nD τ) none Set.univ (m := (cM : Memref sig .tc .vmem S8x128x1024 .bf16)) (r := slotR kk) (S := (slotM kk).view.set) (f := f)
    (acc_sub kk)) $$ Hp
  iintro Hp
  iapply (h _)
  iapply hP'
  unfold slotPts
  isplitl [Hp]; · iexists f; iexact Hp
  iexact HP

/-- A slot after the store of its chunk holds the canonical contents. -/
theorem slot_eq (yv : Fin 8 → Vec F S1x128x1024 .bf16) (c : Dev nD) (kk : Fin 8) (f : (cc0_scratch0 : Ref sig .tc).ty.Contents (Elt F)) :
    slotPts c kk fullShare (((cM : Memref sig .tc .vmem S8x128x1024 .bf16).access (slotR kk) : View sig .tc _ _ _).write (Elt F) f (yv kk) Finset.univ) = slotPts c kk fullShare (commF yv) := by
  unfold slotPts
  exact pointsTo_congr fun i hi => write_slot yv kk f i hi

/-- The store of a chunk in its slot. -/
theorem wp_stslot (kk : Fin 8) {r : Rect S8x128x1024} {v : r.shape.Idx → Elt F .bf16} {hx hm}
    {k : PUnit → Prog (TpuEff nD τ sig (Elt F) Λ₀ .tc) α} (P' : sProp (MT nD τ sig Unit (Elt F) ℕ UU ℕ))
    (hr : r = slotR kk) (hv : HEq v (yv kk))
    (hP : P ⊢ iprop((∃ f, slotPts c kk fullShare f) ∗ P')) (h : iprop(slotPts c kk fullShare (commF yv) ∗ P') ⊢ WP c (k ⟨⟩) Q) :
    P ⊢ WP c (Prog.lift (.store (cM : Memref sig .tc .vmem S8x128x1024 .bf16) r v Finset.univ hx hm) >>= k) Q := by
  subst hr
  obtain rfl := eq_of_heq hv
  refine hP.trans (.trans ?_ (Entails.of_eq (show WP c (.op (.store (cM : Memref sig .tc .vmem S8x128x1024 .bf16) (slotR kk) (yv kk) Finset.univ hx hm) k) Q = _ from rfl)))
  iintro ⟨⟨%f, Hp⟩, HP⟩
  unfold slotPts
  iapply (wp_store 𝒱₀ (c : Thread nD τ) none Set.univ (m := (cM : Memref sig .tc .vmem S8x128x1024 .bf16)) (r := slotR kk) (Mk := Finset.univ) (S := (slotM kk).view.set) (f := f)
    (acc_sub kk)) $$ Hp
  iintro Hp
  iapply h
  isplitl [Hp]
  · iapply (Entails.of_eq (slot_eq yv c kk f)); unfold slotPts; iexact Hp
  iexact HP

/-! ## Transfers and their completions -/

/-- The transfer of slot `kk`, holding its chunk, to device `t`, whose receive cell it credits. -/
theorem wp_xfer (a : Fin 5) (kk : Fin 8) (t : Dev nD) {q : PosShare TreeShare} {f : (cc0_scratch0 : Ref sig .tc).ty.Contents (Elt F)} {O : CellTallies nD τ sig Unit} {W : Waits sig Unit}
    {d : Dev nD} {src dst : Memref sig .tc .vmem S128x1024 .bf16} {s₁ s₂ : DmaSem sig} {hsc} {h₁ h₂ h₃} {k : PUnit → Prog (TpuEff nD τ sig (Elt F) Λ₀ .tc) α}
    (hd : d = t) (hsrc : src = slotM kk) (hdst : dst = slotM kk) (hs₁ : s₁ = dmaOf (a, kk)) (hs₂ : s₂ = dmaOf (4, kk))
    (hm₁ : c ∈ dutiesK c (.inr (a, kk))) (hm₂ : c ∈ dutiesK t (.inr (4, kk))) (hp : payK yv c c (.inr (a, kk)) = slotPts c kk q (commF yv)) :
    iprop(ctx yv K ∗ slotPts c kk q (commF yv) ∗ slotPts t kk fullShare f ∗ owes (c : Thread nD τ) (O + tallyAt (cell t (.inr (4, kk))) () N) W
        ∗ dutyTok ER (cell c (.inr (a, kk))) 0 c ∗ dutyTok ER (cell t (.inr (4, kk))) 0 c)
      ⊢ iprop(((cred (tallyAt (cell c (.inr (a, kk))) () N) ∗ owes (c : Thread nD τ) O W) -∗ WP c (k ⟨⟩) Q)
        -∗ WP c (Prog.lift (.enqueueDma src (.remote (Dev.tc d) dst (.dma s₁) hsc) (.dma s₂) h₁ h₂ h₃) >>= k) Q) := by
  subst hd; subst hsrc; subst hdst; subst hs₁; subst hs₂
  refine .trans ?_ (Entails.of_eq (show iprop(((cred (tallyAt (cell c (.inr (a, kk))) () N) ∗ owes (c : Thread nD τ) O W) -∗ WP c (k ⟨⟩) Q)
        -∗ WP c (.op (.enqueueDma (slotM kk) (.remote (Dev.tc d) (slotM kk) (.dma (dmaOf (a, kk))) hsc) (.dma (dmaOf (4, kk))) h₁ h₂ h₃) k) Q) = _ from rfl))
  refine .trans ?_ (Rounds.wp_send_pointsTo 𝒱₀ ER (Rd yv) (c : Thread nD τ) none (c' := (d : Thread nD τ)) (src := slotM kk) (dst := slotM kk) (sS := .dma (dmaOf (a, kk))) (sem := .dma (dmaOf (4, kk)))
    (hsc := hsc) (hsrc := h₁) (hdst := h₂) (hsem := h₃) (κ₁ := K (c, .inr (a, kk))) (κ₂ := K (d, .inr (4, kk))) (q := q) (fs := commF yv) (k := k) (Q := Q)
    (r₁ := 0) (r₂ := 0) (d₁ := c) (d₂ := c) (fd := f)
    (by rw [show ((c : Thread nD τ), SemLoc.dma (dmaOf (a, kk))) = cell c (.inr (a, kk)) from rfl, duties_cell]; exact hm₁)
    (by rw [show ((d : Thread nD τ), SemLoc.dma (dmaOf (4, kk))) = cell d (.inr (4, kk)) from rfl, duties_cell]; exact hm₂)
    () () N rfl (amount_cell yv c c (.inr (a, kk)) 0) (amount_cell yv d c (.inr (4, kk)) 0) O (O₀ := O + tallyAt (cell d (.inr (4, kk))) () N) rfl (W := W)
    (Entails.of_eq (show slotPts c kk q (commF yv) = (Rd yv).payload (cell c (.inr (a, kk))) 0 c by rw [payload_cell, hp]))
    (Entails.of_eq (show _ = (Rd yv).payload (cell d (.inr (4, kk))) 0 c by
      rw [payload_cell]
      show _ = slotPts d kk fullShare (commF yv)
      unfold slotPts
      exact pointsTo_congr fun i hi => land_slot yv kk f i hi))
    )
  iintro ⟨#Hc, Hs, Hd, HO, Ht₁, Ht₂⟩
  ihave H₁ := (ctx_cell yv K c (.inr (a, kk))) $$ Hc
  ihave H₂ := (ctx_cell yv K d (.inr (4, kk))) $$ Hc
  icases H₁ with ⟨#HI₁, #Hr₁⟩
  icases H₂ with ⟨#HI₂, #Hr₂⟩
  unfold slotPts
  isplitr; · iexact HI₁
  isplitr; · iexact HI₂
  isplitl [Hs]; · iexact Hs
  isplitl [Hd]; · iexact Hd
  isplitl [HO]; · iexact HO
  isplitl [Ht₁]; · iexact Ht₁
  isplitr; · iexact Hr₁
  isplitl [Ht₂]; · iexact Ht₂
  iexact Hr₂

/-- The wait for one transfer's completion, on a cell of one payer `p`. -/
theorem wp_wdma (a : Fin 5) (kk : Fin 8) (p : Dev nD) {O : CellTallies nD τ sig Unit}
    {src dst : Memref sig .tc .vmem S128x1024 .bf16} {s : DmaSem sig} {h₁ h₂} {k : PUnit → Prog (TpuEff nD τ sig (Elt F) Λ₀ .tc) α}
    (hdst : dst = slotM kk) (hs : s = dmaOf (a, kk)) (hdu : dutiesK c (.inr (a, kk)) = {p}) (hO : Above (levK c (.inr (a, kk))) O) :
    iprop(ctx yv K ∗ cred (tallyAt (cell c (.inr (a, kk))) () N) ∗ ow c O ∗ atPos ER (cell c (.inr (a, kk))) 0 ∅ 0)
      ⊢ iprop(((ow c O ∗ atPos ER (cell c (.inr (a, kk))) 1 ∅ 0 ∗ payK yv c p (.inr (a, kk))) -∗ WP c (k ⟨⟩) Q)
        -∗ WP c (Prog.lift (.waitDma2 s src dst h₁ h₂) >>= k) Q) := by
  subst hdst; subst hs
  refine .trans ?_ (Entails.of_eq (show iprop(((ow c O ∗ atPos ER (cell c (.inr (a, kk))) 1 ∅ 0 ∗ payK yv c p (.inr (a, kk))) -∗ WP c (k ⟨⟩) Q)
        -∗ WP c (.op (.waitDma2 (dmaOf (a, kk)) src (slotM kk) h₁ h₂) k) Q) = _ from rfl))
  unfold ow
  iintro ⟨#Hc, Hcr, ⟨%W, HO⟩, Hat⟩ Hk
  ihave H₁ := (ctx_cell yv K c (.inr (a, kk))) $$ Hc
  icases H₁ with ⟨#HI₁, -⟩
  iapply (Rounds.wp_wait_rest_token 𝒱₀ ER (Rd yv) (c : Thread nD τ) none (κ := K (c, .inr (a, kk))) (sm := .dma (dmaOf (a, kk))) (k' := N)
    (wpE_waitDma2_eq 𝒱₀ (c : Thread nD τ) none Set.univ (hsrc := h₁) (hdst := h₂)) (Set.mem_univ _) () (O := O) (W := W) (R := 0) (m := 0) (T := ∅)
    (by rw [show ((c : Thread nD τ), SemLoc.dma (dmaOf (a, kk))) = cell c (.inr (a, kk)) from rfl, expect_cell, hdu, Finset.card_singleton]
        show 0 + N = 1 * N
        omega)) $$ [Hcr HO Hat]
  · isplitr; · iexact HI₁
    isplitl [Hcr]; · iexact Hcr
    isplitl [HO]; · iexact HO
    isplitr
    · iapply (mayWait (c := c) (sm := .dma (dmaOf (a, kk))) hO (le_of_eq (lv_cell c (.inr (a, kk)) ())))
      iapply (ctx_lev yv K); iexact Hc
    iexact Hat
  iintro ⟨HO, Hat, -, Hpay⟩
  iapply Hk
  isplitl [HO]; · iexists _; iexact HO
  isplitl [Hat]; · iexact Hat
  ihave Hp := (Entails.of_eq (show ([∗ (Rd yv).duties ((c : Thread nD τ), SemLoc.dma (dmaOf (a, kk))) 0 \ ∅] d, (Rd yv).payload ((c : Thread nD τ), SemLoc.dma (dmaOf (a, kk))) 0 d)
      = payK yv c p (.inr (a, kk)) from (rest_cell yv c (.inr (a, kk))).trans (by rw [hdu, bigSep_singleton]))) $$ Hpay
  iexact Hp

end Steps

end Cert.KernelIdealProof

end
-- ==== Proof.Ideal.Root.lean ====
/-
# 01_k — `Ideal.Root`, for the kernel with the named mask constant: device 0's steps, from computing a chunk to the completions of its sends
-/
module

public import proofs.«01_k».proof.Proof.Ideal.Moves

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-- A slot held whole is the same slot held at its three parts. -/
theorem slot_thirds (c : Dev nD) (k : Fin 8) (f : (cc0_scratch0 : Ref sig .tc).ty.Contents (Elt F)) :
    (slotPts c k fullShare f : sProp 𝕄) ⊣⊢ iprop(slotPts c k (Ring.shares3 fullShare 0) f ∗ slotPts c k (Ring.shares3 fullShare 1) f ∗ slotPts c k (Ring.shares3 fullShare 2) f) :=
  Ring.pointsTo_thirds fullShare _

/-- A slot held whole is the same slot held at its two halves. -/
theorem slot_halves (c : Dev nD) (k : Fin 8) (f : (cc0_scratch0 : Ref sig .tc).ty.Contents (Elt F)) :
    (slotPts c k fullShare f : sProp 𝕄) ⊣⊢ iprop(slotPts c k (fullShare : PosShare TreeShare).left f ∗ slotPts c k (fullShare : PosShare TreeShare).right f) :=
  pointsTo_share (PosShare.mem_left_op_right (fullShare : PosShare TreeShare))

/-! ## Lists of resources -/

/-- An element of a list's resources, and the rest. -/
theorem lsep_take {β : Type} [DecidableEq β] {Φ : β → sProp (MT nD τ sig Unit (Elt F) ℕ UU ℕ)} (l : List β) (b : β) (h : b ∈ l) :
    (lsep l Φ ⊢ iprop(Φ b ∗ lsep (l.erase b) Φ)) ∧ (iprop(Φ b ∗ lsep (l.erase b) Φ) ⊢ lsep l Φ) := by
  induction l with
  | nil => cases h
  | cons a l ih =>
    by_cases e : a = b
    · subst e; rw [List.erase_cons_head]; exact ⟨.rfl, .rfl⟩
    · rw [List.erase_cons_tail (by simpa using e)]
      have ih := ih ((List.mem_cons.mp h).resolve_left (Ne.symm e))
      constructor
      · show iprop(Φ a ∗ lsep l Φ) ⊢ iprop(Φ b ∗ (Φ a ∗ lsep (l.erase b) Φ))
        iintro ⟨Ha, Hl⟩
        ihave H := ih.1 $$ Hl
        icases H with ⟨Hb, Hl⟩
        isplitl [Hb]; · iexact Hb
        isplitl [Ha] <;> iassumption
      · show iprop(Φ b ∗ (Φ a ∗ lsep (l.erase b) Φ)) ⊢ iprop(Φ a ∗ lsep l Φ)
        iintro ⟨Hb, Ha, Hl⟩
        isplitl [Ha]; · iexact Ha
        iapply ih.2
        isplitl [Hb] <;> iassumption

/-! ## The inputs -/

/-- The staging buffers of the five operands. -/
def inRef : Fin 5 → Ref sig .tc := ![cc0_stg0_0, cc0_stg1_0, cc0_stg2_0, cc0_stg3_0, cc0_stg4_0]

/-- The five operands in their staging buffers on core `c`. -/
def ins (c : Dev nD) (X : ∀ i, (inRef i).ty.Contents (Elt F)) : sProp 𝕄 := lsep [0, 1, 2, 3, 4] fun i => pts c (inRef i) (X i)

/-! ## Device 0's states -/

section Root
variable (yv : Fin 8 → Vec F S1x128x1024 .bf16) (xv : Fin 8 → Vec F S1x128x1024 .f32) (X : ∀ i, (inRef i).ty.Contents (Elt F)) (K : Dev nD × CK → ℕ)

/-- The row of device 0's send semaphores for child `j`. -/
def sj (j : Fin 3) : Fin 5 := ⟨j.val, by omega⟩

/-- What a send to child `j` of chunk `k` needs besides the source slot. -/
def sendPre (jk : Fin 3 × Fin 8) : sProp 𝕄 :=
  iprop((∃ f, slotPts (rkid jk.1) jk.2 fullShare f) ∗ dutyTok ER (cell 0 (.inr (sj jk.1, jk.2))) 0 0
    ∗ dutyTok ER (cell (rkid jk.1) (.inr (4, jk.2))) 0 0 ∗ atPos ER (cell 0 (.inr (sj jk.1, jk.2))) 0 ∅ 0)
/-- A chunk not yet computed: its slot, and what its three sends need. -/
def chunkItem (k : Fin 8) : sProp 𝕄 :=
  iprop((∃ f, slotPts 0 k fullShare f) ∗ lsep [(0, k), (1, k), (2, k)] sendPre)
/-- A send ready to go: a share of the slot holding the chunk, and what the send needs. -/
def sendItem (jk : Fin 3 × Fin 8) : sProp 𝕄 := iprop(slotPts 0 jk.2 (Ring.shares3 fullShare jk.1) (commF yv) ∗ sendPre jk)
/-- A send in flight. -/
def waitItem (jk : Fin 3 × Fin 8) : sProp 𝕄 :=
  iprop(cred (tallyAt (cell 0 (.inr (sj jk.1, jk.2))) () N) ∗ atPos ER (cell 0 (.inr (sj jk.1, jk.2))) 0 ∅ 0)
/-- A send completed: the share is back. -/
def doneItem (jk : Fin 3 × Fin 8) : sProp 𝕄 :=
  iprop(slotPts 0 jk.2 (Ring.shares3 fullShare jk.1) (commF yv) ∗ atPos ER (cell 0 (.inr (sj jk.1, jk.2))) 1 ∅ 0)

/-- What device 0 owes for the sends ready to go. -/
def owesT : List (Fin 3 × Fin 8) → CellTallies nD τ sig Unit
  | [] => 0
  | jk :: l => owesT l + tallyAt (cell (rkid jk.1) (.inr (4, jk.2))) () N

def owesR (l : List (Fin 8)) (sd : List (Fin 3 × Fin 8)) : CellTallies nD τ sig Unit := owesL 1 (rem 0 0) + owesC 0 l + owesT sd

/-- Device 0 with chunks `l` to compute, sends `sd` ready, sends `w` in flight, and `n` row blocks of the result stored. -/
def RS (l : List (Fin 8)) (sd w : List (Fin 3 × Fin 8)) (n : ℕ) (R : sProp 𝕄) : sProp 𝕄 :=
  iprop(ctx yv K ∗ ow 0 (owesR l sd) ∗ lsep l chunkItem ∗ lsep sd (sendItem yv) ∗ lsep w waitItem ∗ outInv xv 0 n ∗ ins 0 X ∗ R)

/-- Device 0 with every send started, `w` to wait for and `dn` completed. -/
def RW (w dn : List (Fin 3 × Fin 8)) (R : sProp 𝕄) : sProp 𝕄 :=
  iprop(ctx yv K ∗ ow 0 (owesL 1 (rem 0 0)) ∗ lsep w waitItem ∗ lsep dn (doneItem yv) ∗ R)

variable {yv xv X K}
variable {l : List (Fin 8)} {sd w dn : List (Fin 3 × Fin 8)} {n : ℕ} {R : sProp (MT nD τ sig Unit (Elt F) ℕ UU ℕ)} {α : Type} {Q : α → sProp (MT nD τ sig Unit (Elt F) ℕ UU ℕ)}

/-- An operand's load on device 0. -/
theorem rs_in (i : Fin 5) {sp : CoreSpace} {s : Shape} {e : EltTy} {m : Memref sig .tc sp s e} {r : LoadRect s} {hl : m.view.LoadsAt r}
    {k : (r.shape.Idx → Elt F e) → Prog (TpuEff nD τ sig (Elt F) Λ₀ .tc) α}
    (hb : m.view.ref = inRef i) (v : r.shape.Idx → Elt F e) (hv : ∀ X', HEq X' (X i) → m.view.readAt (Elt F) r X' = v)
    (h : RS yv xv X K l sd w n R ⊢ WP 0 (k v) Q) :
    RS yv xv X K l sd w n R ⊢ WP 0 (Prog.lift (.load m r hl) >>= k) Q := by
  have hm : i ∈ [0, 1, 2, 3, 4] := (by decide : ∀ i : Fin 5, i ∈ [0, 1, 2, 3, 4]) i
  refine wp_ld (X := X i) iprop(lsep ([0, 1, 2, 3, 4].erase i) (fun i => pts 0 (inRef i) (X i))
    ∗ ctx yv K ∗ ow 0 (owesR l sd) ∗ lsep l chunkItem ∗ lsep sd (sendItem yv) ∗ lsep w waitItem ∗ outInv xv 0 n ∗ R) hb v hv ?_ ?_ h
  · unfold RS ins
    iintro ⟨#Hc, Ho, Hl, Hs, Hw, HX, Hi, HR⟩
    ihave Hi := (lsep_take [0, 1, 2, 3, 4] i hm).1 $$ Hi
    icases Hi with ⟨Hi, Hi'⟩
    iframe
    iexact Hc
  · unfold RS ins
    iintro ⟨Hi, Hi', #Hc, Ho, Hl, Hs, Hw, HX, HR⟩
    isplitr; · iexact Hc
    isplitl [Ho]; · iexact Ho
    isplitl [Hl]; · iexact Hl
    isplitl [Hs]; · iexact Hs
    isplitl [Hw]; · iexact Hw
    isplitl [HX]; · iexact HX
    isplitr [HR]
    · iapply (lsep_take [0, 1, 2, 3, 4] i hm).2
      isplitl [Hi] <;> iassumption
    iexact HR

/-- Device 0's result loads. -/
theorem rs_ldout {r : LoadRect S1x1024x1024} {hl : (oM : Memref sig .tc .vmem S1x1024x1024 .f32).view.LoadsAt r}
    {k : (r.shape.Idx → Elt F .f32) → Prog (TpuEff nD τ sig (Elt F) Λ₀ .tc) α} (h : ∀ v, RS yv xv X K l sd w n R ⊢ WP 0 (k v) Q) :
    RS yv xv X K l sd w n R ⊢ WP 0 (Prog.lift (.load (oM : Memref sig .tc .vmem S1x1024x1024 .f32) r hl) >>= k) Q := by
  refine wp_ldout (xv := xv) (n := n) iprop(ctx yv K ∗ ow 0 (owesR l sd) ∗ lsep l chunkItem ∗ lsep sd (sendItem yv) ∗ lsep w waitItem ∗ ins 0 X ∗ R) ?_ ?_ h
  · unfold RS
    iintro ⟨#Hc, Ho, Hl, Hs, Hw, HX, Hi, HR⟩
    iframe; iexact Hc
  · unfold RS
    iintro ⟨HX, #Hc, Ho, Hl, Hs, Hw, Hi, HR⟩
    iframe; iexact Hc

/-- Device 0's store of chunk `kk` of the result. -/
theorem rs_stout (kk : Fin 8) (hn : n = kk.val) {r : Rect S1x1024x1024} {v : r.shape.Idx → Elt F .f32} {hx hm}
    {k : PUnit → Prog (TpuEff nD τ sig (Elt F) Λ₀ .tc) α} (hr : r = rowR kk) (hv : HEq v (xv kk))
    (h : RS yv xv X K (kk :: l) sd w (kk.val + 1) R ⊢ WP 0 (k ⟨⟩) Q) :
    RS yv xv X K (kk :: l) sd w n R ⊢ WP 0 (Prog.lift (.store (oM : Memref sig .tc .vmem S1x1024x1024 .f32) r v Finset.univ hx hm) >>= k) Q := by
  subst hn
  refine wp_stout (xv := xv) kk iprop(ctx yv K ∗ ow 0 (owesR (kk :: l) sd) ∗ lsep (kk :: l) chunkItem ∗ lsep sd (sendItem yv) ∗ lsep w waitItem ∗ ins 0 X ∗ R) hr hv ?_ (.trans ?_ h)
  · unfold RS
    iintro ⟨#Hc, Ho, Hl, Hs, Hw, HX, Hi, HR⟩
    iframe; iexact Hc
  · unfold RS
    iintro ⟨HX, #Hc, Ho, Hl, Hs, Hw, Hi, HR⟩
    iframe; iexact Hc

/-- Device 0's load of the next chunk's slot. -/
theorem rs_ldslot (kk : Fin 8) {r : LoadRect S8x128x1024} {hl : (cM : Memref sig .tc .vmem S8x128x1024 .bf16).view.LoadsAt r}
    {k : (r.shape.Idx → Elt F .bf16) → Prog (TpuEff nD τ sig (Elt F) Λ₀ .tc) α} (hr : r = (slotR kk).toLoadRect)
    (h : ∀ v, RS yv xv X K (kk :: l) sd w n R ⊢ WP 0 (k v) Q) :
    RS yv xv X K (kk :: l) sd w n R ⊢ WP 0 (Prog.lift (.load (cM : Memref sig .tc .vmem S8x128x1024 .bf16) r hl) >>= k) Q := by
  refine wp_ldslot_any kk iprop(lsep [(0, kk), (1, kk), (2, kk)] sendPre ∗ ctx yv K ∗ ow 0 (owesR (kk :: l) sd) ∗ lsep l chunkItem ∗ lsep sd (sendItem yv) ∗ lsep w waitItem ∗ outInv xv 0 n ∗ ins 0 X ∗ R) hr ?_ ?_ h
  · show iprop(ctx yv K ∗ ow 0 (owesR (kk :: l) sd) ∗ (((∃ f, slotPts 0 kk fullShare f) ∗ lsep [(0, kk), (1, kk), (2, kk)] sendPre) ∗ lsep l chunkItem) ∗ lsep sd (sendItem yv) ∗ lsep w waitItem ∗ outInv xv 0 n ∗ ins 0 X ∗ R) ⊢ _
    iintro ⟨#Hc, Ho, ⟨⟨Hk, Hk'⟩, Hl⟩, Hs, Hw, HX, Hi, HR⟩
    isplitl [Hk]; · iexact Hk
    isplitl [Hk']; · iexact Hk'
    isplitr; · iexact Hc
    isplitl [Ho]; · iexact Ho
    isplitl [Hl]; · iexact Hl
    isplitl [Hs]; · iexact Hs
    isplitl [Hw]; · iexact Hw
    isplitl [HX]; · iexact HX
    isplitl [Hi] <;> iassumption
  · show _ ⊢ iprop(ctx yv K ∗ ow 0 (owesR (kk :: l) sd) ∗ (((∃ f, slotPts 0 kk fullShare f) ∗ lsep [(0, kk), (1, kk), (2, kk)] sendPre) ∗ lsep l chunkItem) ∗ lsep sd (sendItem yv) ∗ lsep w waitItem ∗ outInv xv 0 n ∗ ins 0 X ∗ R)
    iintro ⟨Hk, Hk', #Hc, Ho, Hl, Hs, Hw, HX, Hi, HR⟩
    isplitr; · iexact Hc
    isplitl [Ho]; · iexact Ho
    isplitr [Hs Hw HX Hi HR]
    · isplitr [Hl]
      · isplitl [Hk] <;> iassumption
      iexact Hl
    isplitl [Hs]; · iexact Hs
    isplitl [Hw]; · iexact Hw
    isplitl [HX]; · iexact HX
    isplitl [Hi] <;> iassumption

/-- The tallies of a chunk's three sends. -/
theorem owesR_chunk (kk : Fin 8) : owesR (kk :: l) [] = owesR l [(0, kk), (1, kk), (2, kk)] := by
  have h : owesS 0 kk = tallyAt (cell 4 (.inr (4, kk))) () N + tallyAt (cell 3 (.inr (4, kk))) () N + tallyAt (cell 1 (.inr (4, kk))) () N := by
    unfold owesS; rw [if_pos rfl]
  show owesL 1 (rem 0 0) + (owesC 0 l + owesS 0 kk) + 0 = owesL 1 (rem 0 0) + owesC 0 l
    + (0 + tallyAt (cell 4 (.inr (4, kk))) () N + tallyAt (cell 3 (.inr (4, kk))) () N + tallyAt (cell 1 (.inr (4, kk))) () N)
  rw [h, add_zero, zero_add, add_assoc, add_assoc]

/-- Device 0's store of the next chunk in its slot: the three sends are ready. -/
theorem rs_stslot (kk : Fin 8) {r : Rect S8x128x1024} {v : r.shape.Idx → Elt F .bf16} {hx hm}
    {k : PUnit → Prog (TpuEff nD τ sig (Elt F) Λ₀ .tc) α} (hr : r = slotR kk) (hv : HEq v (yv kk))
    (h : RS yv xv X K l [(0, kk), (1, kk), (2, kk)] w n R ⊢ WP 0 (k ⟨⟩) Q) :
    RS yv xv X K (kk :: l) [] w n R ⊢ WP 0 (Prog.lift (.store (cM : Memref sig .tc .vmem S8x128x1024 .bf16) r v Finset.univ hx hm) >>= k) Q := by
  refine wp_stslot kk iprop(lsep [(0, kk), (1, kk), (2, kk)] sendPre ∗ ctx yv K ∗ ow 0 (owesR (kk :: l) []) ∗ lsep l chunkItem ∗ lsep w waitItem ∗ outInv xv 0 n ∗ ins 0 X ∗ R) hr hv ?_ (.trans ?_ h)
  · show iprop(ctx yv K ∗ ow 0 (owesR (kk :: l) []) ∗ (((∃ f, slotPts 0 kk fullShare f) ∗ lsep [(0, kk), (1, kk), (2, kk)] sendPre) ∗ lsep l chunkItem) ∗ emp ∗ lsep w waitItem ∗ outInv xv 0 n ∗ ins 0 X ∗ R) ⊢ _
    iintro ⟨#Hc, Ho, ⟨⟨Hk, Hk'⟩, Hl⟩, -, Hw, HX, Hi, HR⟩
    isplitl [Hk]; · iexact Hk
    isplitl [Hk']; · iexact Hk'
    isplitr; · iexact Hc
    isplitl [Ho]; · iexact Ho
    isplitl [Hl]; · iexact Hl
    isplitl [Hw]; · iexact Hw
    isplitl [HX]; · iexact HX
    isplitl [Hi] <;> iassumption
  · rw [owesR_chunk]
    show iprop(slotPts 0 kk fullShare (commF yv) ∗ (sendPre (0, kk) ∗ sendPre (1, kk) ∗ sendPre (2, kk) ∗ emp) ∗ ctx yv K ∗ _ ∗ _ ∗ _ ∗ _ ∗ _ ∗ R) ⊢
      iprop(ctx yv K ∗ _ ∗ _ ∗ ((slotPts 0 kk (Ring.shares3 fullShare 0) (commF yv) ∗ sendPre (0, kk)) ∗ (slotPts 0 kk (Ring.shares3 fullShare 1) (commF yv) ∗ sendPre (1, kk)) ∗ (slotPts 0 kk (Ring.shares3 fullShare 2) (commF yv) ∗ sendPre (2, kk)) ∗ emp) ∗ _ ∗ _ ∗ _ ∗ R)
    iintro ⟨Hk, ⟨H0, H1, H2, -⟩, #Hc, Ho, Hl, Hw, HX, Hi, HR⟩
    ihave Ht := (slot_thirds 0 kk (commF yv)).1 $$ Hk
    icases Ht with ⟨T0, T1, T2⟩
    isplitr; · iexact Hc
    isplitl [Ho]; · iexact Ho
    isplitl [Hl]; · iexact Hl
    isplitl [H0 H1 H2 T0 T1 T2]
    · isplitl [H0 T0]; · isplitl [T0] <;> iassumption
      isplitl [H1 T1]; · isplitl [T1] <;> iassumption
      isplitl [H2 T2]; · isplitl [T2] <;> iassumption
      itrivial
    isplitl [Hw]; · iexact Hw
    isplitl [HX]; · iexact HX
    isplitl [Hi] <;> iassumption

/-- Device 0's send completions are paid by device 0. -/
theorem duties_send (jk : Fin 3 × Fin 8) : dutiesK 0 (.inr (sj jk.1, jk.2)) = {0} := by
  obtain ⟨j, k⟩ := jk
  exact (if_pos (show (sj j).val < 3 from j.isLt)).trans (if_pos rfl)
/-- A chunk's arrival at a child of device 0 is paid by device 0. -/
theorem duties_kid (j : Fin 3) (k : Fin 8) : dutiesK (rkid j) (.inr (4, k)) = {0} := by revert j k; decide
/-- The completion of a send of device 0 gives back the share of the slot that it was lent. -/
theorem pay_send (jk : Fin 3 × Fin 8) : payK yv 0 0 (.inr (sj jk.1, jk.2)) = slotPts 0 jk.2 (Ring.shares3 fullShare jk.1) (commF yv) := by
  obtain ⟨j, k⟩ := jk
  unfold payK
  dsimp only
  exact dif_pos (show (sj j).val < 3 from j.isLt)

/-- Device 0's next send. -/
theorem rs_send (j : Fin 3) (kk : Fin 8) {d : Dev nD} {src dst : Memref sig .tc .vmem S128x1024 .bf16} {s₁ s₂ : DmaSem sig} {hsc} {h₁ h₂ h₃}
    {k : PUnit → Prog (TpuEff nD τ sig (Elt F) Λ₀ .tc) α}
    (hd : d.val = (rkid j).val) (hsrc : src = slotM kk) (hdst : dst = slotM kk) (hs₁ : s₁ = dmaOf (sj j, kk)) (hs₂ : s₂ = dmaOf (4, kk))
    (h : RS yv xv X K l sd (w ++ [(j, kk)]) n R ⊢ WP 0 (k ⟨⟩) Q) :
    RS yv xv X K l ((j, kk) :: sd) w n R
      ⊢ WP 0 (Prog.lift (.enqueueDma src (.remote (Dev.tc d) dst (.dma s₁) hsc) (.dma s₂) h₁ h₂ h₃) >>= k) Q := by
  have hx := fun f W => wp_xfer (F := F) (c := 0) (f := f) (W := W) (yv := yv) (K := K) (Q := Q) (sj j) kk (rkid j) (q := Ring.shares3 fullShare j) (O := owesR l sd) (k := k) (hsc := hsc) (h₁ := h₁) (h₂ := h₂) (h₃ := h₃)
    (Fin.ext hd) hsrc hdst hs₁ hs₂ (by rw [duties_send (j, kk)]; exact Finset.mem_singleton_self _) (by rw [duties_kid]; exact Finset.mem_singleton_self _) (pay_send (j, kk))
  show iprop(ctx yv K ∗ ow 0 (owesR l ((j, kk) :: sd)) ∗ lsep l chunkItem ∗ ((slotPts 0 kk (Ring.shares3 fullShare j) (commF yv) ∗ (∃ f, slotPts (rkid j) kk fullShare f)
    ∗ dutyTok ER (cell 0 (.inr (sj j, kk))) 0 0 ∗ dutyTok ER (cell (rkid j) (.inr (4, kk))) 0 0 ∗ atPos ER (cell 0 (.inr (sj j, kk))) 0 ∅ 0) ∗ lsep sd (sendItem yv))
    ∗ lsep w waitItem ∗ outInv xv 0 n ∗ ins 0 X ∗ R) ⊢ _
  have ho : owesR l ((j, kk) :: sd) = owesR l sd + tallyAt (cell (rkid j) (.inr (4, kk))) () N := (add_assoc _ _ _).symm
  rw [ho]
  unfold ow
  iintro ⟨#Hc, ⟨%W, Ho⟩, Hl, ⟨⟨Hk, ⟨%f, Hd⟩, Ht₁, Ht₂, Hat⟩, Hs⟩, Hw, HX, Hi, HR⟩
  iapply (hx f W) $$ [Hk Hd Ho Ht₁ Ht₂]
  · isplitr; · iexact Hc
    isplitl [Hk]; · iexact Hk
    isplitl [Hd]; · iexact Hd
    isplitl [Ho]; · iexact Ho
    isplitl [Ht₁] <;> iassumption
  iintro ⟨Hcr, Ho⟩
  iapply h
  unfold RS ow
  isplitr; · iexact Hc
  isplitl [Ho]; · iexists W; iexact Ho
  isplitl [Hl]; · iexact Hl
  isplitl [Hs]; · iexact Hs
  isplitl [Hw Hcr Hat]
  · iapply (lsep_snoc w (j, kk))
    isplitr [Hw]
    · unfold waitItem
      isplitl [Hcr] <;> iassumption
    iexact Hw
  isplitl [HX]; · iexact HX
  isplitl [Hi] <;> iassumption

/-- Every send started: device 0 turns to their completions. -/
theorem rs_rw {R' : sProp (MT nD τ sig Unit (Elt F) ℕ UU ℕ)} {w' : List (Fin 3 × Fin 8)} (hw : w = w') (h : RW yv K w' [] iprop(outInv xv 0 n ∗ ins 0 X ∗ R) ⊢ R') : RS yv xv X K [] [] w n R ⊢ R' := by
  subst hw
  refine .trans ?_ h
  show iprop(ctx yv K ∗ ow 0 (owesL 1 (rem 0 0) + 0 + 0) ∗ emp ∗ emp ∗ lsep w waitItem ∗ outInv xv 0 n ∗ ins 0 X ∗ R) ⊢
    iprop(ctx yv K ∗ ow 0 (owesL 1 (rem 0 0)) ∗ lsep w waitItem ∗ emp ∗ outInv xv 0 n ∗ ins 0 X ∗ R)
  rw [add_zero, add_zero]
  iintro ⟨#Hc, Ho, -, -, Hw, HX, Hi, HR⟩
  iframe
  iexact Hc

/-- Device 0's wait for the next send in flight. -/
theorem rw_wait (j : Fin 3) (kk : Fin 8) {src dst : Memref sig .tc .vmem S128x1024 .bf16} {s : DmaSem sig} {h₁ h₂} {k : PUnit → Prog (TpuEff nD τ sig (Elt F) Λ₀ .tc) α}
    (hdst : dst = slotM kk) (hs : s = dmaOf (sj j, kk))
    (h : RW yv K w ((j, kk) :: dn) R ⊢ WP 0 (k ⟨⟩) Q) :
    RW yv K ((j, kk) :: w) dn R ⊢ WP 0 (Prog.lift (.waitDma2 s src dst h₁ h₂) >>= k) Q := by
  have hlev : levK 0 (.inr (sj j, kk)) = 0 := if_neg (show (sj j).val ≠ 4 from fun e => by have := j.isLt; unfold sj at e; dsimp only at e; omega)
  have hx := wp_wdma (F := F) (c := 0) (yv := yv) (K := K) (Q := Q) (sj j) kk 0 (O := owesL 1 (rem 0 0)) (src := src) (h₁ := h₁) (h₂ := h₂) (k := k) hdst hs (duties_send (j, kk))
    (by rw [hlev]; exact above_owesL 1 _ (by decide))
  have h' : iprop(ctx yv K ∗ ow 0 (owesL 1 (rem 0 0)) ∗ lsep w waitItem
    ∗ ((slotPts 0 kk (Ring.shares3 fullShare j) (commF yv) ∗ atPos ER (cell 0 (.inr (sj j, kk))) 1 ∅ 0) ∗ lsep dn (doneItem yv)) ∗ R)
      ⊢ WP 0 (k ⟨⟩) Q := h
  rw [pay_send (j, kk)] at hx
  show iprop(ctx yv K ∗ ow 0 (owesL 1 (rem 0 0)) ∗ ((cred (tallyAt (cell 0 (.inr (sj j, kk))) () N) ∗ atPos ER (cell 0 (.inr (sj j, kk))) 0 ∅ 0) ∗ lsep w waitItem)
    ∗ lsep dn (doneItem yv) ∗ R) ⊢ _
  iintro ⟨#Hc, Ho, ⟨⟨Hcr, Hat⟩, Hw⟩, Hd, HR⟩
  iapply hx $$ [Ho Hcr Hat]
  · isplitr; · iexact Hc
    isplitl [Hcr]; · iexact Hcr
    isplitl [Ho] <;> iassumption
  iintro ⟨Ho, Hat, Hp⟩
  iapply h'
  isplitr; · iexact Hc
  isplitl [Ho]; · iexact Ho
  isplitl [Hw]; · iexact Hw
  isplitr [HR]
  · isplitl [Hp Hat]; · isplitl [Hp] <;> iassumption
    iexact Hd
  iexact HR

end Root

end Cert.KernelIdealProof

end
-- ==== Proof.Ideal.RootRun.lean ====
/-
# 01_k — `Ideal.RootRun`, for the kernel with the named mask constant: device 0's run of the computing region
-/
module

public import proofs.«01_k».proof.Proof.Ideal.Root
public import proofs.«01_k».proof.Proof.Gen.KernelIdeal.Skeleton

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-- The five operands. -/
def inX (x : Vec F S1x1024x1024 .bf16) (wq : Vec F S1024x1024 .bf16) (kk vv : Vec F S1x1024x8x128 .bf16) (wo : Vec F S1024x1024 .bf16) :
    ∀ i : Fin 5, (inRef i).ty.Contents (Elt F)
  | ⟨0, _⟩ => x
  | ⟨1, _⟩ => wq
  | ⟨2, _⟩ => kk
  | ⟨3, _⟩ => vv
  | ⟨4, _⟩ => wo

/-- Reading a buffer whole gives its contents. -/
theorem full_read {b : Ref sig .tc} {off : Fin b.ty.shape.rank → ℕ} {inb : ∀ a, off a + b.ty.shape.size a ≤ b.ty.shape.size a}
    {Y : b.ty.Contents (Elt F)} (hz : ∀ a, off a = 0) : ∀ X', HEq X' Y →
      (Memref.whole b : Memref sig .tc _ _ _).view.readAt (Elt F) (Rect.unit off b.ty.shape.size inb).toLoadRect X' = Y := fun X' hX => by
  rw [eq_of_heq hX]; exact Memref.readAt_unit_zero (Elt F) b (funext hz) inb Y

/-- Device 0's sends, in order. -/
abbrev sends : List (Fin 3 × Fin 8) := [(0, 0), (1, 0), (2, 0), (0, 1), (1, 1), (2, 1), (0, 2), (1, 2), (2, 2), (0, 3), (1, 3), (2, 3),
  (0, 4), (1, 4), (2, 4), (0, 5), (1, 5), (2, 5), (0, 6), (1, 6), (2, 6), (0, 7), (1, 7), (2, 7)]

/-- The same sends, completed, the last first. -/
abbrev sent : List (Fin 3 × Fin 8) := [(2, 7), (1, 7), (0, 7), (2, 6), (1, 6), (0, 6), (2, 5), (1, 5), (0, 5), (2, 4), (1, 4), (0, 4), (2, 3), (1, 3), (0, 3), (2, 2), (1, 2), (0, 2), (2, 1), (1, 1), (0, 1), (2, 0), (1, 0), (0, 0)]

/-- The next chunk's rows of the input. -/
theorem rs_row {yv : Fin 8 → Vec F S1x128x1024 .bf16} {xv : Fin 8 → Vec F S1x128x1024 .f32} {K : Dev nD × CK → ℕ}
    {x : Vec F S1x1024x1024 .bf16} {wq : Vec F S1024x1024 .bf16} {kk vv : Vec F S1x1024x8x128 .bf16} {wo : Vec F S1024x1024 .bf16} {l : List (Fin 8)} {sd w : List (Fin 3 × Fin 8)} {n : ℕ}
    {R : sProp (MT nD τ sig Unit (Elt F) ℕ UU ℕ)} {α : Type} {Q : α → sProp (MT nD τ sig Unit (Elt F) ℕ UU ℕ)} (c : Fin 8)
    {m : Memref sig .tc .vmem S1x1024x1024 .bf16} {r : LoadRect S1x1024x1024} {hl : m.view.LoadsAt r}
    {k : (r.shape.Idx → Elt F .bf16) → Prog (TpuEff nD τ sig (Elt F) Λ₀ .tc) α} (hm : m = Memref.whole cc0_stg0_0) (hr : r = (rowR c).toLoadRect)
    (h : RS yv xv (inX x wq kk vv wo) K (c :: l) sd w n R ⊢ WP 0 (k (hr ▸ rowOf x c)) Q) :
    RS yv xv (inX x wq kk vv wo) K (c :: l) sd w n R ⊢ WP 0 (Prog.lift (.load m r hl) >>= k) Q := by
  subst hm; subst hr
  exact rs_in 0 rfl (rowOf x c) (fun X' hX => by rw [eq_of_heq hX]; rfl) h

section
variable {K : Dev nD × CK → ℕ} {R : sProp (MT nD τ sig Unit (Elt F) ℕ UU ℕ)} (x : Vec F S1x1024x1024 .bf16) (wq : Vec F S1024x1024 .bf16) (kk vv : Vec F S1x1024x8x128 .bf16) (wo : Vec F S1024x1024 .bf16)

set_option maxHeartbeats 2000000 in
set_option maxRecDepth 8000 in
/-- Device 0 computes its chunks, stores them, sends each to its three children, and waits for all but the last two sends. -/
theorem root_run {Q : PUnit → sProp (MT nD τ sig Unit (Elt F) ℕ UU ℕ)} (h16 : k0_cond16 0 = 1#1)
    (h : RW (yW x wq kk vv wo) K [(1, 7), (2, 7)] (sent.drop 2) iprop(outInv (xW x wq kk vv wo) 0 8 ∗ ins 0 (inX x wq kk vv wo) ∗ R) ⊢ Q ⟨⟩) :
    RS (yW x wq kk vv wo) (xW x wq kk vv wo) (inX x wq kk vv wo) K chunks [] [] 0 R ⊢ WP 0 (k0_part54 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _)
      (Memref.whole cc0_stg5_0) (Memref.isWhole_whole _) (Memref.whole cc0_scratch0) (Memref.isWhole_whole _) cc0_scratch1 cc0_scratch2 cc0_scratch3 cc0_scoped0 0 h16) Q := by
  rw [k0_part54_eq_skeleton]; unfold k0_part54_skel
  refine wp_part ?_
  rw [k0_part1_eq_skeleton]; unfold k0_part1_skel
  refine rs_in 1 rfl wq (full_read (by decide)) ?_
  refine rs_in 4 rfl wo (full_read (by decide)) ?_
  refine rs_in 2 rfl kk (full_read (by decide)) ?_
  refine rs_in 3 rfl vv (full_read (by decide)) ?_
  repeat
    first
    | with_reducible refine wp_done ?_
    | ((with_reducible refine rs_row _ ?_ ?_ ?_) <;> [rfl; rfl; skip])
    | with_reducible refine rs_ldout (fun _ => ?_)
    | ((with_reducible refine rs_stout _ ?_ ?_ ?_ ?_) <;> [rfl; rfl; exact heq_of_eq rfl; skip])
    | ((with_reducible refine rs_ldslot _ ?_ (fun _ => ?_)) <;> [rfl; skip])
    | ((with_reducible refine rs_stslot _ ?_ ?_ ?_) <;> [rfl; exact heq_of_eq rfl; skip])
    | ((with_reducible refine rs_send _ _ ?_ ?_ ?_ ?_ ?_ ?_) <;> [(dsimp only; decide); rfl; rfl; rfl; rfl; skip])
    | ((with_reducible refine rw_wait _ _ ?_ ?_ ?_) <;> [rfl; rfl; skip])
    | ((with_reducible refine rs_rw (w' := sends) ?_ ?_) <;> [rfl; skip])
    | (refine wp_part ?_
       first
        | (rw [k0_part2_eq_skeleton]; unfold k0_part2_skel)
        | (rw [k0_part3_eq_skeleton]; unfold k0_part3_skel)
        | (rw [k0_part4_eq_skeleton]; unfold k0_part4_skel)
        | (rw [k0_part5_eq_skeleton]; unfold k0_part5_skel)
        | (rw [k0_part6_eq_skeleton]; unfold k0_part6_skel)
        | (rw [k0_part7_eq_skeleton]; unfold k0_part7_skel)
        | (rw [k0_part8_eq_skeleton]; unfold k0_part8_skel)
        | (rw [k0_part9_eq_skeleton]; unfold k0_part9_skel)
        | (rw [k0_part10_eq_skeleton]; unfold k0_part10_skel)
        | (rw [k0_part11_eq_skeleton]; unfold k0_part11_skel)
        | (rw [k0_part12_eq_skeleton]; unfold k0_part12_skel)
        | (rw [k0_part13_eq_skeleton]; unfold k0_part13_skel)
        | (rw [k0_part14_eq_skeleton]; unfold k0_part14_skel)
        | (rw [k0_part15_eq_skeleton]; unfold k0_part15_skel)
        | (rw [k0_part16_eq_skeleton]; unfold k0_part16_skel)
        | (rw [k0_part17_eq_skeleton]; unfold k0_part17_skel)
        | (rw [k0_part18_eq_skeleton]; unfold k0_part18_skel)
        | (rw [k0_part19_eq_skeleton]; unfold k0_part19_skel)
        | (rw [k0_part20_eq_skeleton]; unfold k0_part20_skel)
        | (rw [k0_part21_eq_skeleton]; unfold k0_part21_skel)
        | (rw [k0_part22_eq_skeleton]; unfold k0_part22_skel)
        | (rw [k0_part23_eq_skeleton]; unfold k0_part23_skel)
        | (rw [k0_part24_eq_skeleton]; unfold k0_part24_skel)
        | (rw [k0_part25_eq_skeleton]; unfold k0_part25_skel)
        | (rw [k0_part26_eq_skeleton]; unfold k0_part26_skel)
        | (rw [k0_part27_eq_skeleton]; unfold k0_part27_skel)
        | (rw [k0_part28_eq_skeleton]; unfold k0_part28_skel)
        | (rw [k0_part29_eq_skeleton]; unfold k0_part29_skel)
        | (rw [k0_part30_eq_skeleton]; unfold k0_part30_skel)
        | (rw [k0_part31_eq_skeleton]; unfold k0_part31_skel)
        | (rw [k0_part32_eq_skeleton]; unfold k0_part32_skel)
        | (rw [k0_part33_eq_skeleton]; unfold k0_part33_skel)
        | (rw [k0_part34_eq_skeleton]; unfold k0_part34_skel)
        | (rw [k0_part35_eq_skeleton]; unfold k0_part35_skel)
        | (rw [k0_part36_eq_skeleton]; unfold k0_part36_skel)
        | (rw [k0_part37_eq_skeleton]; unfold k0_part37_skel)
        | (rw [k0_part38_eq_skeleton]; unfold k0_part38_skel)
        | (rw [k0_part39_eq_skeleton]; unfold k0_part39_skel)
        | (rw [k0_part40_eq_skeleton]; unfold k0_part40_skel)
        | (rw [k0_part41_eq_skeleton]; unfold k0_part41_skel)
        | (rw [k0_part42_eq_skeleton]; unfold k0_part42_skel)
        | (rw [k0_part43_eq_skeleton]; unfold k0_part43_skel)
        | (rw [k0_part44_eq_skeleton]; unfold k0_part44_skel)
        | (rw [k0_part45_eq_skeleton]; unfold k0_part45_skel)
        | (rw [k0_part46_eq_skeleton]; unfold k0_part46_skel)
        | (rw [k0_part47_eq_skeleton]; unfold k0_part47_skel)
        | (rw [k0_part48_eq_skeleton]; unfold k0_part48_skel)
        | (rw [k0_part49_eq_skeleton]; unfold k0_part49_skel)
        | (rw [k0_part50_eq_skeleton]; unfold k0_part50_skel)
        | (rw [k0_part51_eq_skeleton]; unfold k0_part51_skel)
        | (rw [k0_part52_eq_skeleton]; unfold k0_part52_skel)
        | (rw [k0_part53_eq_skeleton]; unfold k0_part53_skel))
  exact h
end

end Cert.KernelIdealProof

end
-- ==== Proof.Ideal.Other.lean ====
/-
# 01_k — `Ideal.Other`, for the kernel with the named mask constant: the other devices' steps, from a chunk's arrival to the completion of its forward
-/
module

public import proofs.«01_k».proof.Proof.Ideal.Root

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

section Other
variable (yv : Fin 8 → Vec F S1x128x1024 .bf16) (xv : Fin 8 → Vec F S1x128x1024 .f32) (K : Dev nD × CK → ℕ) (c : Dev nD)

/-- What forwarding chunk `k` needs: its own cell's position and, on a forwarder, the child's slot and the two payments. -/
def fwdItem (k : Fin 8) : sProp 𝕄 :=
  iprop(atPos ER (cell c (.inr (3, k))) 0 ∅ 0 ∗ if fwds c then
    iprop((∃ f, slotPts (kid c) k fullShare f) ∗ dutyTok ER (cell c (.inr (3, k))) 0 c ∗ dutyTok ER (cell (kid c) (.inr (4, k))) 0 c) else iprop(emp))
/-- A chunk not yet received. -/
def recvItem (k : Fin 8) : sProp 𝕄 :=
  iprop(cred (tallyAt (cell c (.inr (4, k))) () N) ∗ atPos ER (cell c (.inr (4, k))) 0 ∅ 0 ∗ fwdItem c k)
/-- A chunk received and not yet forwarded. -/
def gotItem (k : Fin 8) : sProp 𝕄 :=
  iprop(slotPts c k fullShare (commF yv) ∗ atPos ER (cell c (.inr (4, k))) 1 ∅ 0 ∗ fwdItem c k)
/-- The share of a slot a device keeps while it forwards it. -/
def keepShare : PosShare TreeShare := if fwds c then (fullShare : PosShare TreeShare).right else fullShare
/-- A chunk received and, on a forwarder, in flight to the child. -/
def hadItem (k : Fin 8) : sProp 𝕄 :=
  iprop(slotPts c k (keepShare c) (commF yv) ∗ atPos ER (cell c (.inr (4, k))) 1 ∅ 0 ∗ atPos ER (cell c (.inr (3, k))) 0 ∅ 0
    ∗ if fwds c then cred (tallyAt (cell c (.inr (3, k))) () N) else iprop(emp))
/-- A chunk done with. -/
def finItem (k : Fin 8) : sProp 𝕄 :=
  iprop(slotPts c k fullShare (commF yv) ∗ atPos ER (cell c (.inr (4, k))) 1 ∅ 0 ∗ atPos ER (cell c (.inr (3, k))) (if fwds c then 1 else 0) ∅ 0)

/-- Device `c` with chunks `l` to receive, `g` received, `h` forwarded, and `n` row blocks of the result stored. -/
def NS (l g h : List (Fin 8)) (n : ℕ) (R : sProp 𝕄) : sProp 𝕄 :=
  iprop(ctx yv K ∗ ow c (O₂ c (g ++ l)) ∗ lsep l (recvItem c) ∗ lsep g (gotItem yv c) ∗ lsep h (hadItem yv c) ∗ outInv xv c n ∗ R)

/-- Device `c` waiting for its forwards `w`, with `dn` done. -/
def NW (w dn : List (Fin 8)) (R : sProp 𝕄) : sProp 𝕄 :=
  iprop(ctx yv K ∗ ow c (O₂ c []) ∗ lsep w (hadItem yv c) ∗ lsep dn (finItem yv c) ∗ R)

variable {yv xv K c}
variable {l g hh w dn : List (Fin 8)} {n : ℕ} {R : sProp (MT nD τ sig Unit (Elt F) ℕ UU ℕ)} {α : Type} {Q : α → sProp (MT nD τ sig Unit (Elt F) ℕ UU ℕ)}

/-- The wait for chunk `kk`'s arrival. -/
theorem ns_recv (hc : c ≠ 0) (kk : Fin 8) {src dst : Memref sig .tc .vmem S128x1024 .bf16} {s : DmaSem sig} {h₁ h₂} {k : PUnit → Prog (TpuEff nD τ sig (Elt F) Λ₀ .tc) α}
    (hdst : dst = slotM kk) (hs : s = dmaOf (4, kk)) (h : NS yv xv K c l [kk] hh n R ⊢ WP c (k ⟨⟩) Q) :
    NS yv xv K c (kk :: l) [] hh n R ⊢ WP c (Prog.lift (.waitDma2 s src dst h₁ h₂) >>= k) Q := by
  have hx := wp_wdma (F := F) (c := c) (yv := yv) (K := K) (Q := Q) 4 kk (parent c) (O := O₂ c (kk :: l)) (src := src) (h₁ := h₁) (h₂ := h₂) (k := k) hdst hs (if_neg hc)
    (above_O₂ c _)
  have hp : payK yv c (parent c) (.inr (4, kk)) = slotPts c kk fullShare (commF yv) := rfl
  rw [hp] at hx
  have h' : iprop(ctx yv K ∗ ow c (O₂ c (kk :: l)) ∗ lsep l (recvItem c) ∗ ((slotPts c kk fullShare (commF yv) ∗ atPos ER (cell c (.inr (4, kk))) 1 ∅ 0 ∗ fwdItem c kk) ∗ emp)
    ∗ lsep hh (hadItem yv c) ∗ outInv xv c n ∗ R) ⊢ WP c (k ⟨⟩) Q := h
  show iprop(ctx yv K ∗ ow c (O₂ c (kk :: l)) ∗ ((cred (tallyAt (cell c (.inr (4, kk))) () N) ∗ atPos ER (cell c (.inr (4, kk))) 0 ∅ 0 ∗ fwdItem c kk) ∗ lsep l (recvItem c)) ∗ emp
    ∗ lsep hh (hadItem yv c) ∗ outInv xv c n ∗ R) ⊢ _
  iintro ⟨#Hc, Ho, ⟨⟨Hcr, Hat, Hf⟩, Hl⟩, -, Hh, HX, HR⟩
  iapply hx $$ [Ho Hcr Hat]
  · isplitr; · iexact Hc
    isplitl [Hcr]; · iexact Hcr
    isplitl [Ho] <;> iassumption
  iintro ⟨Ho, Hat, Hp⟩
  iapply h'
  isplitr; · iexact Hc
  isplitl [Ho]; · iexact Ho
  isplitl [Hl]; · iexact Hl
  isplitl [Hp Hat Hf]
  · isplitl [Hp Hat Hf]
    · isplitl [Hp]; · iexact Hp
      isplitl [Hat] <;> iassumption
    itrivial
  isplitl [Hh]; · iexact Hh
  isplitl [HX] <;> iassumption

/-- A forwarding device's send completion is paid by that device. -/
theorem duties_fwd (h : fwds c = true) (k : Fin 8) : dutiesK c (.inr (3, k)) = {c} := if_pos h
/-- A chunk's arrival at a forwarding device's child is paid by the forwarding device. -/
theorem kid_duties : ∀ c : Dev nD, fwds c = true → ∀ k : Fin 8, dutiesK (kid c) (.inr (4, k)) = {c} := by decide

/-- The forward of chunk `kk`, on a device that forwards. -/
theorem ns_send (hf : fwds c = true) (kk : Fin 8) {d : Dev nD} {src dst : Memref sig .tc .vmem S128x1024 .bf16} {s₁ s₂ : DmaSem sig} {hsc} {h₁ h₂ h₃}
    {k : PUnit → Prog (TpuEff nD τ sig (Elt F) Λ₀ .tc) α}
    (hd : d.val = (kid c).val) (hsrc : src = slotM kk) (hdst : dst = slotM kk) (hs₁ : s₁ = dmaOf (3, kk)) (hs₂ : s₂ = dmaOf (4, kk))
    (h : NS yv xv K c l [] (kk :: hh) n R ⊢ WP c (k ⟨⟩) Q) :
    NS yv xv K c l [kk] hh n R
      ⊢ WP c (Prog.lift (.enqueueDma src (.remote (Dev.tc d) dst (.dma s₁) hsc) (.dma s₂) h₁ h₂ h₃) >>= k) Q := by
  have hx := fun f W => wp_xfer (F := F) (c := c) (f := f) (W := W) (yv := yv) (K := K) (Q := Q) 3 kk (kid c) (q := (fullShare : PosShare TreeShare).left) (O := O₂ c l) (k := k) (hsc := hsc)
    (h₁ := h₁) (h₂ := h₂) (h₃ := h₃)
    (Fin.ext hd) hsrc hdst hs₁ hs₂ (by rw [duties_fwd hf]; exact Finset.mem_singleton_self _) (by rw [kid_duties c hf]; exact Finset.mem_singleton_self _) rfl
  have ho : O₂ c (kk :: l) = O₂ c l + tallyAt (cell (kid c) (.inr (4, kk))) () N := by
    have hs : owesS c kk = tallyAt (cell (kid c) (.inr (4, kk))) () N := by
      have h0 : c ≠ 0 := by rintro rfl; exact absurd hf (by decide)
      unfold owesS; rw [if_neg h0, if_pos hf]
    show owesL 1 (rem 0 c) + (owesC c l + owesS c kk) = owesL 1 (rem 0 c) + owesC c l + _
    rw [hs, add_assoc]
  have hk : keepShare c = (fullShare : PosShare TreeShare).right := if_pos hf
  have hfi : fwdItem (F := F) c kk = iprop(atPos ER (cell c (.inr (3, kk))) 0 ∅ 0 ∗ ((∃ f, slotPts (kid c) kk fullShare f) ∗ dutyTok ER (cell c (.inr (3, kk))) 0 c ∗ dutyTok ER (cell (kid c) (.inr (4, kk))) 0 c)) := by
    unfold fwdItem; rw [if_pos hf]
  have hha : hadItem yv c kk = iprop(slotPts c kk (fullShare : PosShare TreeShare).right (commF yv) ∗ atPos ER (cell c (.inr (4, kk))) 1 ∅ 0 ∗ atPos ER (cell c (.inr (3, kk))) 0 ∅ 0
      ∗ cred (tallyAt (cell c (.inr (3, kk))) () N)) := by
    unfold hadItem; rw [if_pos hf, hk]
  have h' : iprop(ctx yv K ∗ ow c (O₂ c l) ∗ lsep l (recvItem c) ∗ emp ∗ (hadItem yv c kk ∗ lsep hh (hadItem yv c)) ∗ outInv xv c n ∗ R) ⊢ WP c (k ⟨⟩) Q := h
  rw [hha] at h'
  show iprop(ctx yv K ∗ ow c (O₂ c (kk :: l)) ∗ lsep l (recvItem c) ∗ ((slotPts c kk fullShare (commF yv) ∗ atPos ER (cell c (.inr (4, kk))) 1 ∅ 0 ∗ fwdItem c kk) ∗ emp)
    ∗ lsep hh (hadItem yv c) ∗ outInv xv c n ∗ R) ⊢ _
  rw [ho, hfi]
  unfold ow
  iintro ⟨#Hc, ⟨%W, Ho⟩, Hl, ⟨⟨Hk, Hat, Hat', ⟨%f, Hd⟩, Ht₁, Ht₂⟩, -⟩, Hh, HX, HR⟩
  ihave Hk := (slot_halves c kk (commF yv)).1 $$ Hk
  icases Hk with ⟨Hk, Hk'⟩
  iapply (hx f W) $$ [Hk Hd Ho Ht₁ Ht₂]
  · isplitr; · iexact Hc
    isplitl [Hk]; · iexact Hk
    isplitl [Hd]; · iexact Hd
    isplitl [Ho]; · iexact Ho
    isplitl [Ht₁] <;> iassumption
  iintro ⟨Hcr, Ho⟩
  iapply h'
  unfold ow
  isplitr; · iexact Hc
  isplitl [Ho]; · iexists W; iexact Ho
  isplitl [Hl]; · iexact Hl
  isplitr; · itrivial
  isplitr [HX HR]
  · isplitr [Hh]
    · isplitl [Hk']; · iexact Hk'
      isplitl [Hat]; · iexact Hat
      isplitl [Hat'] <;> iassumption
    iexact Hh
  isplitl [HX] <;> iassumption

/-- A device that does not forward keeps the chunk. -/
theorem ns_keep (hc0 : c ≠ 0) (hf : ¬ fwds c = true) (kk : Fin 8) : NS yv xv K c l [kk] hh n R ⊢ NS yv xv K c l [] (kk :: hh) n R := by
  have ho : O₂ c (kk :: l) = O₂ c l := by
    have hs : owesS c kk = 0 := by unfold owesS; rw [if_neg hc0, if_neg hf]
    show owesL 1 (rem 0 c) + (owesC c l + owesS c kk) = owesL 1 (rem 0 c) + owesC c l
    rw [hs, add_zero]
  have hk : keepShare c = fullShare := if_neg hf
  have hha : hadItem yv c kk = iprop(slotPts c kk fullShare (commF yv) ∗ atPos ER (cell c (.inr (4, kk))) 1 ∅ 0 ∗ atPos ER (cell c (.inr (3, kk))) 0 ∅ 0 ∗ emp) := by
    unfold hadItem; rw [if_neg hf, hk]
  show iprop(ctx yv K ∗ ow c (O₂ c (kk :: l)) ∗ lsep l (recvItem c) ∗ ((slotPts c kk fullShare (commF yv) ∗ atPos ER (cell c (.inr (4, kk))) 1 ∅ 0
    ∗ (atPos ER (cell c (.inr (3, kk))) 0 ∅ 0 ∗ _)) ∗ emp) ∗ lsep hh (hadItem yv c) ∗ outInv xv c n ∗ R) ⊢
    iprop(ctx yv K ∗ ow c (O₂ c l) ∗ lsep l (recvItem c) ∗ emp ∗ (hadItem yv c kk ∗ lsep hh (hadItem yv c)) ∗ outInv xv c n ∗ R)
  rw [ho, hha]
  iintro ⟨#Hc, Ho, Hl, ⟨⟨Hk, Hat, Hat', -⟩, -⟩, Hh, HX, HR⟩
  isplitr; · iexact Hc
  isplitl [Ho]; · iexact Ho
  isplitl [Hl]; · iexact Hl
  isplitr; · itrivial
  isplitr [HX HR]
  · isplitr [Hh]
    · isplitl [Hk]; · iexact Hk
      isplitl [Hat]; · iexact Hat
      isplitl [Hat']; · iexact Hat'
      itrivial
    iexact Hh
  isplitl [HX] <;> iassumption

/-- The guarded forward of chunk `kk`. -/
theorem ns_if (hc0 : c ≠ 0) {kk : Fin 8} {φ : Prop} {inst : Decidable φ} {A : φ → Prog (TpuEff nD τ sig (Elt F) Λ₀ .tc) α} {Y : Prog (TpuEff nD τ sig (Elt F) Λ₀ .tc) α}
    (hφ : φ ↔ fwds c = true) (hA : ∀ h : φ, fwds c = true → (NS yv xv K c l [] (kk :: hh) n R ⊢ WP c Y Q) → (NS yv xv K c l [kk] hh n R ⊢ WP c (A h) Q))
    (h : NS yv xv K c l [] (kk :: hh) n R ⊢ WP c Y Q) :
    NS yv xv K c l [kk] hh n R ⊢ WP c (dite φ A fun _ => Y) Q :=
  wp_if _ (fun h => hA h (hφ.mp h)) (fun hn => ns_keep hc0 (fun e => hn (hφ.mpr e)) kk) h

/-- The load of the chunk just received. -/
theorem ns_ldslot (kk : Fin 8) {r : LoadRect S8x128x1024} {hl : (cM : Memref sig .tc .vmem S8x128x1024 .bf16).view.LoadsAt r}
    {k : (r.shape.Idx → Elt F .bf16) → Prog (TpuEff nD τ sig (Elt F) Λ₀ .tc) α} (hr : r = (slotR kk).toLoadRect)
    (v : r.shape.Idx → Elt F .bf16) (hv : HEq v (yv kk)) (h : NS yv xv K c l [] (kk :: hh) n R ⊢ WP c (k v) Q) :
    NS yv xv K c l [] (kk :: hh) n R ⊢ WP c (Prog.lift (.load (cM : Memref sig .tc .vmem S8x128x1024 .bf16) r hl) >>= k) Q := by
  let P₁ : sProp 𝕄 := iprop(atPos ER (cell c (.inr (4, kk))) 1 ∅ 0 ∗ atPos ER (cell c (.inr (3, kk))) 0 ∅ 0 ∗ if fwds c then cred (tallyAt (cell c (.inr (3, kk))) () N) else iprop(emp))
  let P₂ : sProp 𝕄 := iprop(ow c (O₂ c l) ∗ lsep l (recvItem c) ∗ emp)
  have e : NS yv xv K c l [] (kk :: hh) n R = iprop(ctx yv K ∗ ow c (O₂ c l) ∗ lsep l (recvItem c) ∗ emp ∗ ((slotPts c kk (keepShare c) (commF yv) ∗ P₁) ∗ lsep hh (hadItem yv c)) ∗ outInv xv c n ∗ R) := rfl
  refine wp_ldslot (yv := yv) (q := keepShare c) kk iprop(ctx yv K ∗ P₂ ∗ P₁ ∗ lsep hh (hadItem yv c) ∗ outInv xv c n ∗ R) hr v hv ?_ ?_ h
  · rw [e]
    iintro ⟨#Hc, Ho, Hl, He, ⟨⟨Hk, Hp⟩, Hh⟩, HX, HR⟩
    isplitl [Hk]; · iexact Hk
    isplitr; · iexact Hc
    isplitl [Ho Hl He]; · isplitl [Ho]; · iexact Ho
                          isplitl [Hl] <;> iassumption
    isplitl [Hp]; · iexact Hp
    isplitl [Hh]; · iexact Hh
    isplitl [HX] <;> iassumption
  · rw [e]
    iintro ⟨Hk, #Hc, ⟨Ho, Hl, He⟩, Hp, Hh, HX, HR⟩
    isplitr; · iexact Hc
    isplitl [Ho]; · iexact Ho
    isplitl [Hl]; · iexact Hl
    isplitl [He]; · iexact He
    isplitl [Hk Hp Hh]
    · isplitl [Hk Hp]; · isplitl [Hk] <;> iassumption
      iexact Hh
    isplitl [HX] <;> iassumption

/-- A load of the result, unused. -/
theorem ns_ldout {r : LoadRect S1x1024x1024} {hl : (oM : Memref sig .tc .vmem S1x1024x1024 .f32).view.LoadsAt r}
    {k : (r.shape.Idx → Elt F .f32) → Prog (TpuEff nD τ sig (Elt F) Λ₀ .tc) α} (h : ∀ v, NS yv xv K c l g hh n R ⊢ WP c (k v) Q) :
    NS yv xv K c l g hh n R ⊢ WP c (Prog.lift (.load (oM : Memref sig .tc .vmem S1x1024x1024 .f32) r hl) >>= k) Q := by
  refine wp_ldout (xv := xv) (n := n) iprop(ctx yv K ∗ ow c (O₂ c (g ++ l)) ∗ lsep l (recvItem c) ∗ lsep g (gotItem yv c) ∗ lsep hh (hadItem yv c) ∗ R) ?_ ?_ h
  · unfold NS
    iintro ⟨#Hc, Ho, Hl, Hg, Hh, HX, HR⟩
    iframe; iexact Hc
  · unfold NS
    iintro ⟨HX, #Hc, Ho, Hl, Hg, Hh, HR⟩
    iframe; iexact Hc

/-- The store of row block `kk` of the result. -/
theorem ns_stout (kk : Fin 8) (hn : n = kk.val) {r : Rect S1x1024x1024} {v : r.shape.Idx → Elt F .f32} {hx hm}
    {k : PUnit → Prog (TpuEff nD τ sig (Elt F) Λ₀ .tc) α} (hr : r = rowR kk) (hv : HEq v (xv kk))
    (h : NS yv xv K c l g (kk :: hh) (kk.val + 1) R ⊢ WP c (k ⟨⟩) Q) :
    NS yv xv K c l g (kk :: hh) n R ⊢ WP c (Prog.lift (.store (oM : Memref sig .tc .vmem S1x1024x1024 .f32) r v Finset.univ hx hm) >>= k) Q := by
  subst hn
  refine wp_stout (xv := xv) kk iprop(ctx yv K ∗ ow c (O₂ c (g ++ l)) ∗ lsep l (recvItem c) ∗ lsep g (gotItem yv c) ∗ lsep (kk :: hh) (hadItem yv c) ∗ R) hr hv ?_ (.trans ?_ h)
  · unfold NS
    iintro ⟨#Hc, Ho, Hl, Hg, Hh, HX, HR⟩
    iframe; iexact Hc
  · unfold NS
    iintro ⟨HX, #Hc, Ho, Hl, Hg, Hh, HR⟩
    iframe; iexact Hc

/-- Every chunk received: a device turns to its forwards' completions, in the order it started them. -/
theorem ns_nw {R' : sProp (MT nD τ sig Unit (Elt F) ℕ UU ℕ)} {w' : List (Fin 8)} (hw : hh.reverse = w') (h : NW yv K c w' [] iprop(outInv xv c n ∗ R) ⊢ R') : NS yv xv K c [] [] hh n R ⊢ R' := by
  subst hw
  refine .trans ?_ h
  show iprop(ctx yv K ∗ ow c (O₂ c []) ∗ emp ∗ emp ∗ lsep hh (hadItem yv c) ∗ outInv xv c n ∗ R) ⊢ iprop(ctx yv K ∗ ow c (O₂ c []) ∗ lsep hh.reverse (hadItem yv c) ∗ emp ∗ outInv xv c n ∗ R)
  iintro ⟨#Hc, Ho, -, -, Hh, HX, HR⟩
  isplitr; · iexact Hc
  isplitl [Ho]; · iexact Ho
  isplitl [Hh]; · iapply (lsep_reverse hh (hadItem yv c)); iexact Hh
  isplitr; · itrivial
  isplitl [HX] <;> iassumption

/-- The wait for a forward's completion. -/
theorem nw_wait (hf : fwds c = true) (kk : Fin 8) {src dst : Memref sig .tc .vmem S128x1024 .bf16} {s : DmaSem sig} {h₁ h₂} {k : PUnit → Prog (TpuEff nD τ sig (Elt F) Λ₀ .tc) α}
    (hdst : dst = slotM kk) (hs : s = dmaOf (3, kk)) (h : NW yv K c w (kk :: dn) R ⊢ WP c (k ⟨⟩) Q) :
    NW yv K c (kk :: w) dn R ⊢ WP c (Prog.lift (.waitDma2 s src dst h₁ h₂) >>= k) Q := by
  have hx := wp_wdma (F := F) (c := c) (yv := yv) (K := K) (Q := Q) 3 kk c (O := O₂ c []) (src := src) (h₁ := h₁) (h₂ := h₂) (k := k) hdst hs (duties_fwd hf kk)
    (above_mono (above_O₂ c _) (Nat.zero_le _))
  have hp : payK yv c c (.inr (3, kk)) = slotPts c kk (fullShare : PosShare TreeShare).left (commF yv) := rfl
  have hk : keepShare c = (fullShare : PosShare TreeShare).right := if_pos hf
  rw [hp] at hx
  have h' : iprop(ctx yv K ∗ ow c (O₂ c []) ∗ lsep w (hadItem yv c) ∗ (finItem yv c kk ∗ lsep dn (finItem yv c)) ∗ R) ⊢ WP c (k ⟨⟩) Q := h
  show iprop(ctx yv K ∗ ow c (O₂ c []) ∗ (hadItem yv c kk ∗ lsep w (hadItem yv c)) ∗ lsep dn (finItem yv c) ∗ R) ⊢ _
  have hha : hadItem yv c kk = iprop(slotPts c kk (fullShare : PosShare TreeShare).right (commF yv) ∗ atPos ER (cell c (.inr (4, kk))) 1 ∅ 0 ∗ atPos ER (cell c (.inr (3, kk))) 0 ∅ 0
      ∗ cred (tallyAt (cell c (.inr (3, kk))) () N)) := by
    unfold hadItem; rw [if_pos hf, hk]
  have hfi : finItem yv c kk = iprop(slotPts c kk fullShare (commF yv) ∗ atPos ER (cell c (.inr (4, kk))) 1 ∅ 0 ∗ atPos ER (cell c (.inr (3, kk))) 1 ∅ 0) := by
    unfold finItem; rw [if_pos hf]
  rw [hha]
  rw [hfi] at h'
  iintro ⟨#Hc, Ho, ⟨⟨Hk, Hat, Hat', Hcr⟩, Hw⟩, Hd, HR⟩
  iapply hx $$ [Ho Hcr Hat']
  · isplitr; · iexact Hc
    isplitl [Hcr]; · iexact Hcr
    isplitl [Ho] <;> iassumption
  iintro ⟨Ho, Hat', Hp⟩
  iapply h'
  isplitr; · iexact Hc
  isplitl [Ho]; · iexact Ho
  isplitl [Hw]; · iexact Hw
  isplitr [HR]
  · isplitr [Hd]
    · isplitl [Hk Hp]
      · iapply (slot_halves c kk (commF yv)).2
        isplitl [Hp] <;> iassumption
      isplitl [Hat] <;> iassumption
    iexact Hd
  iexact HR

/-- On a device that forwards nothing nothing is waited for. -/
theorem nw_skip (hf : ¬ fwds c = true) : NW yv K c w [] R ⊢ NW yv K c [] w.reverse R := by
  have hk : keepShare c = fullShare := if_neg hf
  have hi : ∀ k : Fin 8, hadItem yv c k ⊢ finItem yv c k := fun k => by
    unfold hadItem finItem
    rw [if_neg hf, if_neg hf, hk]
    iintro ⟨Hk, Ha, Hb, -⟩
    isplitl [Hk]; · iexact Hk
    isplitl [Ha] <;> iassumption
  show iprop(ctx yv K ∗ ow c (O₂ c []) ∗ lsep w (hadItem yv c) ∗ emp ∗ R) ⊢ iprop(ctx yv K ∗ ow c (O₂ c []) ∗ emp ∗ lsep w.reverse (finItem yv c) ∗ R)
  iintro ⟨#Hc, Ho, Hw, -, HR⟩
  isplitr; · iexact Hc
  isplitl [Ho]; · iexact Ho
  isplitr; · itrivial
  isplitl [Hw]
  · iapply (lsep_reverse w (finItem yv c))
    iapply (lsep_mono w hi); iexact Hw
  iexact HR

end Other

end Cert.KernelIdealProof

end
-- ==== Proof.Ideal.Body.lean ====
/-
# 01_k — `Ideal.Body`, for the kernel with the named mask constant: one device's run of the kernel's body
-/
module

public import proofs.«01_k».proof.Proof.Ideal.RootRun
public import proofs.«01_k».proof.Proof.Ideal.Other

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

section
variable {yv : Fin 8 → Vec F S1x128x1024 .bf16} {K : Dev nD × CK → ℕ} {c : Dev nD} {R : sProp (MT nD τ sig Unit (Elt F) ℕ UU ℕ)} {O : CellTallies nD τ sig Unit}
variable {α : Type} {Q : α → sProp (MT nD τ sig Unit (Elt F) ℕ UU ℕ)} {P' : sProp (MT nD τ sig Unit (Elt F) ℕ UU ℕ)}

/-- Past the edge number `i`, its source has one neighbour less to signal and the other devices have the same. -/
theorem rem_step : ∀ i : ℕ, ∀ hi : i < 14, ∀ d : Dev nD, rem i d = if d = (edges[i]'hi).1 then (edges[i]'hi).2 :: rem (i + 1) d else rem (i + 1) d := by
  decide
/-- An edge's source is among the devices that signal its target. -/
theorem rem_nbr : ∀ i : ℕ, ∀ hi : i < 14, (edges[i]'hi).1 ∈ nbrs (edges[i]'hi).2 := by
  decide

/-- A device reads its own number. -/
theorem wp_dev {k : Dev nD → Prog (TpuEff nD τ sig (Elt F) Λ₀ .tc) α} (h : P' ⊢ WP c (k c) Q) :
    P' ⊢ WP c (Prog.lift .deviceId >>= k) Q := by
  refine .trans h (Entails.of_eq ?_)
  show _ = WP c (.op .deviceId fun d => k d) Q
  unfold WP
  rw [wp_deviceId]

/-- The chunk just received, read back. -/
theorem ns_ld {xv : Fin 8 → Vec F S1x128x1024 .f32} {l hh : List (Fin 8)} {n : ℕ} (kk : Fin 8) {r : LoadRect S8x128x1024} {hl : (cM : Memref sig .tc .vmem S8x128x1024 .bf16).view.LoadsAt r}
    {k : (r.shape.Idx → Elt F .bf16) → Prog (TpuEff nD τ sig (Elt F) Λ₀ .tc) α} (hr : r = (slotR kk).toLoadRect)
    (h : NS yv xv K c l [] (kk :: hh) n R ⊢ WP c (k (hr ▸ yv kk)) Q) :
    NS yv xv K c l [] (kk :: hh) n R ⊢ WP c (Prog.lift (.load (cM : Memref sig .tc .vmem S8x128x1024 .bf16) r hl) >>= k) Q := by
  subst hr
  exact ns_ldslot kk rfl (yv kk) HEq.rfl h

/-- The signal along the next edge, on the device the edge leaves. -/
theorem wp_edgeAt {i : Fin 2} {e : ℕ} (he : e < 14) {φ : Dev nD → Prop} {inst : Decidable (φ c)} {dev : φ c → Dev nD} {sm : Sem sig}
    {X : Prog (TpuEff nD τ sig (Elt F) Λ₀ .tc) α}
    (hφ : ∀ d, φ d ↔ d = (edges[e]'he).1) (hs : sm = regOf i) (hd : ∀ h, (dev h).val = ((edges[e]'he).2).val)
    (h : sA yv K i c (rem (e + 1) c) O R ⊢ WP c X Q) :
    sA yv K i c (rem e c) O R ⊢ WP c (dite (φ c) (fun h => semSignalWord (dev h) sm 1#32 >>= fun _ => X) fun _ => X) Q :=
  wp_edge (edges[e]'he).1 (edges[e]'he).2 hφ (fun d hd => hd ▸ rem_step e he d) (rem_nbr e he) hs (fun h => Fin.ext (hd h)) h

/-- Device 0's three signals. -/
theorem wp_edgeAt3 {i : Fin 2} {φ : Dev nD → Prop} {inst : Decidable (φ c)} {dev₁ dev₂ dev₃ : φ c → Dev nD} {sm : Sem sig}
    {X : Prog (TpuEff nD τ sig (Elt F) Λ₀ .tc) α} {e : ℕ} (he : e = 7)
    (hφ : ∀ d, φ d ↔ d = 0) (hs : sm = regOf i) (hd : ∀ h, (dev₁ h).val = 1 ∧ (dev₂ h).val = 3 ∧ (dev₃ h).val = 4)
    (h : sA yv K i c (rem 10 c) O R ⊢ WP c X Q) :
    sA yv K i c (rem e c) O R ⊢ WP c (dite (φ c) (fun h => semSignalWord (dev₁ h) sm 1#32 >>= fun _ => semSignalWord (dev₂ h) sm 1#32 >>= fun _ =>
      semSignalWord (dev₃ h) sm 1#32 >>= fun _ => X) fun _ => X) Q := by
  subst he
  exact wp_edge3 1 3 4 hφ ((by decide : ∀ c d : Dev nD, d = c → rem 7 c = if d = 0 then 1 :: 3 :: 4 :: rem 10 c else rem 10 c) c)
    (by decide) hs (fun h => ⟨Fin.ext (hd h).1, Fin.ext (hd h).2.1, Fin.ext (hd h).2.2⟩) h

/-- Every edge signalled: a device turns to its own cell. -/
theorem edge_wait {i : Fin 2} (h : sW yv K i c 3 O R ⊢ P') :
    sA yv K i c (rem 14 c) O iprop((cred (tallyAt (cell c (.inl i)) () (nbrs c).card) ∗ atPos ER (cell c (.inl i)) 0 ∅ 0) ∗ R) ⊢ P' := by
  refine .trans ?_ h
  have h14 : rem 14 c = [] := rfl
  have h3 : (nbrs c).card ≤ 3 := (by decide : ∀ c, (nbrs c).card ≤ 3) c
  unfold sW
  rw [h14, if_pos h3]
  show iprop(ctx yv K ∗ ow c (O + 0) ∗ emp ∗ _ ∗ R) ⊢ _
  rw [add_zero]
  iintro ⟨#Hc, Ho, -, Hw, HR⟩
  iframe
  iexact Hc

/-- A device past its own cell. -/
theorem wait_done {i : Fin 2} (h : iprop(ctx yv K ∗ ow c O ∗ (atPos ER (cell c (.inl i)) 1 ∅ 0 ∗ bigSep (nbrs c) fun d => payK yv c d (.inl i)) ∗ R) ⊢ P') :
    sW yv K i c 0 O R ⊢ P' := by
  refine .trans ?_ h
  have h3 : ¬ (nbrs c).card ≤ 0 := (by decide : ∀ c, ¬ (nbrs c).card ≤ 0) c
  unfold sW
  rw [if_neg h3]

end

/-! ## A device that receives -/

/-- The test that guards the forwarding of chunk 0 is true on the forwarding devices and on no other. -/
theorem guards0 : ∀ d : Dev nD, k0_cond18 d = 1#1 ↔ fwds d = true := by decide
/-- The device that chunk 0 is forwarded to is the child in the tree. -/
theorem kids0 : ∀ d : Dev nD, fwds d = true → k0_dev39 d = (kid d).val := by decide
/-- The test that guards the forwarding of chunk 1 is true on the forwarding devices and on no other. -/
theorem guards1 : ∀ d : Dev nD, k0_cond19 d = 1#1 ↔ fwds d = true := by decide
/-- The device that chunk 1 is forwarded to is the child in the tree. -/
theorem kids1 : ∀ d : Dev nD, fwds d = true → k0_dev40 d = (kid d).val := by decide
/-- The test that guards the forwarding of chunk 2 is true on the forwarding devices and on no other. -/
theorem guards2 : ∀ d : Dev nD, k0_cond20 d = 1#1 ↔ fwds d = true := by decide
/-- The device that chunk 2 is forwarded to is the child in the tree. -/
theorem kids2 : ∀ d : Dev nD, fwds d = true → k0_dev41 d = (kid d).val := by decide
/-- The test that guards the forwarding of chunk 3 is true on the forwarding devices and on no other. -/
theorem guards3 : ∀ d : Dev nD, k0_cond21 d = 1#1 ↔ fwds d = true := by decide
/-- The device that chunk 3 is forwarded to is the child in the tree. -/
theorem kids3 : ∀ d : Dev nD, fwds d = true → k0_dev42 d = (kid d).val := by decide
/-- The test that guards the forwarding of chunk 4 is true on the forwarding devices and on no other. -/
theorem guards4 : ∀ d : Dev nD, k0_cond22 d = 1#1 ↔ fwds d = true := by decide
/-- The device that chunk 4 is forwarded to is the child in the tree. -/
theorem kids4 : ∀ d : Dev nD, fwds d = true → k0_dev43 d = (kid d).val := by decide
/-- The test that guards the forwarding of chunk 5 is true on the forwarding devices and on no other. -/
theorem guards5 : ∀ d : Dev nD, k0_cond23 d = 1#1 ↔ fwds d = true := by decide
/-- The device that chunk 5 is forwarded to is the child in the tree. -/
theorem kids5 : ∀ d : Dev nD, fwds d = true → k0_dev44 d = (kid d).val := by decide
/-- The test that guards the forwarding of chunk 6 is true on the forwarding devices and on no other. -/
theorem guards6 : ∀ d : Dev nD, k0_cond24 d = 1#1 ↔ fwds d = true := by decide
/-- The device that chunk 6 is forwarded to is the child in the tree. -/
theorem kids6 : ∀ d : Dev nD, fwds d = true → k0_dev45 d = (kid d).val := by decide
/-- The test that guards the forwarding of chunk 7 is true on the forwarding devices and on no other. -/
theorem guards7 : ∀ d : Dev nD, k0_cond25 d = 1#1 ↔ fwds d = true := by decide
/-- The device that chunk 7 is forwarded to is the child in the tree. -/
theorem kids7 : ∀ d : Dev nD, fwds d = true → k0_dev46 d = (kid d).val := by decide

/-! ## The states of one device -/

section
variable (A : Dev nD → ∀ i : Fin 5, (inRef i).ty.Contents (Elt F)) (K : Dev nD × CK → ℕ) (c : Dev nD) (R : sProp (MT nD τ sig Unit (Elt F) ℕ UU ℕ))

/-- The chunks device 0 sends, from its own operands. -/
abbrev yA : Fin 8 → Vec F S1x128x1024 .bf16 := yW (A 0 0) (A 0 1) (A 0 2) (A 0 3) (A 0 4)
/-- The row blocks device `c` stores: device 0 its chunks as computed, every other device the chunks as sent. -/
def resW : Fin 8 → Vec F S1x128x1024 .f32 := if c = 0 then xW (A 0 0) (A 0 1) (A 0 2) (A 0 3) (A 0 4) else zW (yA A)

/-- A position device `c` no longer moves from. -/
def shut (k : CK) : sProp 𝕄 := iprop(∃ r, ⌜dutiesK c k = ∅ ∨ 1 ≤ r⌝ ∗ atPos ER (cell c k) r ∅ 0)

/-- The positions of chunk `k`'s cells that device `c` never uses. -/
def idle (k : Fin 8) : sProp 𝕄 :=
  if c = 0 then iprop(atPos ER (cell c (.inr (3, k))) 0 ∅ 0 ∗ atPos ER (cell c (.inr (4, k))) 0 ∅ 0)
  else iprop(atPos ER (cell c (.inr (0, k))) 0 ∅ 0 ∗ atPos ER (cell c (.inr (1, k))) 0 ∅ 0 ∗ atPos ER (cell c (.inr (2, k))) 0 ∅ 0)

/-- What one of device 0's sends starts with. -/
def sendTok (jk : Fin 3 × Fin 8) : sProp 𝕄 :=
  iprop(dutyTok ER (cell 0 (.inr (sj jk.1, jk.2))) 0 0 ∗ dutyTok ER (cell (rkid jk.1) (.inr (4, jk.2))) 0 0
    ∗ atPos ER (cell 0 (.inr (sj jk.1, jk.2))) 0 ∅ 0)

/-- What device `c` starts with for chunk `k`, besides slots. -/
def tokItem (k : Fin 8) : sProp 𝕄 :=
  if c = 0 then lsep [(0, k), (1, k), (2, k)] sendTok
  else iprop(cred (tallyAt (cell c (.inr (4, k))) () N) ∗ atPos ER (cell c (.inr (4, k))) 0 ∅ 0 ∗ atPos ER (cell c (.inr (3, k))) 0 ∅ 0
    ∗ if fwds c then iprop(dutyTok ER (cell c (.inr (3, k))) 0 c ∗ dutyTok ER (cell (kid c) (.inr (4, k))) 0 c) else iprop(emp))

/-- The exit semaphore's share of device `c`, and what it keeps to the end. -/
def exits : sProp 𝕄 := iprop(lsep (rem 0 c) (sigItem (yA A) 1 c)
  ∗ (cred (tallyAt (cell c (.inl 1)) () (nbrs c).card) ∗ atPos ER (cell c (.inl 1)) 0 ∅ 0))

def own0 : sProp 𝕄 := if c = 0 then lsep chunks (fun k => iprop(∃ f, slotPts (F := F) 0 k fullShare f)) else iprop(emp)

/-- What device `c` brings to the barrier besides its signals. -/
def bring : sProp 𝕄 := iprop(exits A c ∗ lsep chunks (idle c) ∗ lsep chunks (tokItem c) ∗ own0 c ∗ outInv (resW A c) c 0 ∗ ins c (A c))

/-- What device `c` keeps through the transfers. -/
def keeps : sProp 𝕄 := iprop(exits A c ∗ lsep chunks (idle c) ∗ atPos ER (cell c (.inl 0)) 1 ∅ 0)

/-- Past the barrier. -/
def S1 : sProp 𝕄 := if c = 0 then RS (yA A) (resW A 0) (A 0) K chunks [] [] 0 R
  else NS (yA A) (resW A c) K c chunks [] [] 0 iprop(ins c (A c) ∗ R)
/-- Device 0 done. -/
def S2 : sProp 𝕄 := if c = 0 then RW (yA A) K [] sent iprop(outInv (resW A 0) 0 8 ∗ ins 0 (A 0) ∗ R)
  else NS (yA A) (resW A c) K c chunks [] [] 0 iprop(ins c (A c) ∗ R)
/-- Every device done. -/
def S3 : sProp 𝕄 := if c = 0 then RW (yA A) K [] sent iprop(outInv (resW A 0) 0 8 ∗ ins 0 (A 0) ∗ R)
  else NW (yA A) K c [] [7, 6, 5, 4, 3, 2, 1, 0] iprop(outInv (resW A c) c 8 ∗ ins c (A c) ∗ R)

/-- One chunk's slot and cells at the end. -/
def finC (k : Fin 8) : sProp 𝕄 := iprop((∃ f, slotPts (F := F) c k fullShare f) ∗ lsep [0, 1, 2, 3, 4] fun a => shut c (.inr (a, k)))

/-- What device `c` ends with besides the exit semaphore. -/
def fins : sProp 𝕄 := iprop(atPos ER (cell c (.inl 0)) 1 ∅ 0 ∗ lsep chunks (finC c) ∗ outInv (resW A c) c 8 ∗ ins c (A c))

variable {A K c R}

/-- Two lists of resources side by side are one list of pairs. -/
theorem lsep_sep {I : Type} (l : List I) (Φ Ψ : I → sProp 𝕄) : iprop(lsep l Φ ∗ lsep l Ψ) ⊢ lsep l fun i => iprop(Φ i ∗ Ψ i) := by
  induction l with
  | nil => iintro ⟨-, -⟩; iempintro
  | cons a l ih =>
      show iprop((Φ a ∗ lsep l Φ) ∗ (Ψ a ∗ lsep l Ψ)) ⊢ iprop((Φ a ∗ Ψ a) ∗ lsep l fun i => iprop(Φ i ∗ Ψ i))
      iintro ⟨⟨H₁, H₂⟩, H₃, H₄⟩
      isplitl [H₁ H₃]
      · isplitl [H₁] <;> iassumption
      iapply ih
      isplitl [H₂] <;> iassumption

/-- Device 0's sends, listed child by child, regrouped chunk by chunk. -/
theorem sent_chunks (Φ : Fin 3 × Fin 8 → sProp 𝕄) : lsep sent Φ ⊢ lsep chunks fun k => iprop(Φ (0, k) ∗ Φ (1, k) ∗ Φ (2, k)) := by
  simp only [lsep]
  iintro ⟨a1, a2, a3, a4, a5, a6, a7, a8, b1, b2, b3, b4, b5, b6, b7, b8, c1, c2, c3, c4, c5, c6, c7, c8, -⟩
  iframe

/-- A child's barrier signal hands its parent the child's eight slots. -/
theorem slots_of (yv : Fin 8 → Vec F S1x128x1024 .bf16) {d : Dev nD} (h : d ≠ 0 ∧ parent d = c) :
    payK yv c d (.inl 0) ⊢ lsep chunks fun k => iprop(∃ f, slotPts d k fullShare f) := by
  have e : payK yv c d (.inl 0) = slots d := if_pos ⟨rfl, h⟩
  rw [e]
  exact lsep_of_bigSep chunks Finset.univ _ (by decide) (fun i _ => Finset.mem_univ i)

/-- Past the barrier device 0 has its children's slots. -/
theorem enter_root : iprop(ctx (yA A) K ∗ ow 0 (O₂ 0 chunks) ∗ (atPos ER (cell 0 (.inl 0)) 1 ∅ 0 ∗ bigSep (nbrs 0) fun d => payK (yA A) 0 d (.inl 0)) ∗ bring A 0) ⊢
    S1 A K 0 (keeps A 0) := by
  have hn : nbrs 0 = insert 1 (insert 3 {4}) := by decide
  have ho : owesR chunks [] = O₂ 0 chunks := add_zero _
  have hc : ∀ k : Fin 8, iprop((((∃ f, slotPts (F := F) 0 k fullShare f) ∗ (∃ f, slotPts (F := F) 1 k fullShare f)) ∗ ((∃ f, slotPts (F := F) 3 k fullShare f) ∗ (∃ f, slotPts (F := F) 4 k fullShare f))) ∗ tokItem 0 k) ⊢ chunkItem k := fun k => by
    unfold tokItem chunkItem
    rw [if_pos rfl]
    simp only [lsep]
    unfold sendTok sendPre
    iintro ⟨⟨⟨H0, H1⟩, H3, H4⟩, T0, T1, T2, -⟩
    isplitl [H0]; · iexact H0
    isplitl [H1 T0]
    · isplitl [H1]; · iexact H1
      iexact T0
    isplitl [H3 T1]
    · isplitl [H3]; · iexact H3
      iexact T1
    isplitl [H4 T2]
    · isplitl [H4]; · iexact H4
      iexact T2
    itrivial
  have hP : (bigSep (nbrs 0) fun d => payK (yA A) 0 d (.inl 0)) ⊢ iprop(payK (yA A) 0 1 (.inl 0) ∗ payK (yA A) 0 3 (.inl 0) ∗ payK (yA A) 0 4 (.inl 0)) := by
    rw [hn, bigSep_insert (by decide), bigSep_insert (by decide), bigSep_singleton]
    exact .rfl
  unfold S1 bring own0
  rw [if_pos rfl, if_pos rfl]
  unfold RS keeps
  rw [ho]
  iintro ⟨#Hc, Ho, ⟨Hat, HP⟩, He, Hi, Ht, H0, HX, HI⟩
  ihave HP := hP $$ HP
  icases HP with ⟨P1, P3, P4⟩
  ihave P1 := (slots_of (yA A) (c := 0) (d := 1) (by decide)) $$ P1
  ihave P3 := (slots_of (yA A) (c := 0) (d := 3) (by decide)) $$ P3
  ihave P4 := (slots_of (yA A) (c := 0) (d := 4) (by decide)) $$ P4
  isplitr; · iexact Hc
  isplitl [Ho]; · iexact Ho
  isplitl [Ht H0 P1 P3 P4]
  · iapply (lsep_mono chunks hc)
    iapply (lsep_sep chunks); isplitr [Ht]
    · iapply (lsep_sep chunks); isplitl [H0 P1]
      · iapply (lsep_sep chunks); isplitl [H0] <;> iassumption
      · iapply (lsep_sep chunks); isplitl [P3] <;> iassumption
    iexact Ht
  isplitr; · simp only [lsep]; itrivial
  isplitr; · simp only [lsep]; itrivial
  isplitl [HX]; · iexact HX
  isplitl [HI]; · iexact HI
  isplitl [He]; · iexact He
  isplitl [Hi] <;> iassumption

/-- Past the barrier a forwarder has its child's slots. -/
theorem enter_other (hc : c ≠ 0) : iprop(ctx (yA A) K ∗ ow c (O₂ c chunks) ∗ (atPos ER (cell c (.inl 0)) 1 ∅ 0 ∗ bigSep (nbrs c) fun d => payK (yA A) c d (.inl 0)) ∗ bring A c) ⊢
    S1 A K c (keeps A c) := by
  have hp : (bigSep (nbrs c) fun d => payK (yA A) c d (.inl 0)) ⊢ if fwds c then lsep chunks (fun k => iprop(∃ f, slotPts (F := F) (kid c) k fullShare f)) else iprop(emp) := by
    by_cases hf : fwds c = true
    · rw [if_pos hf]
      exact (bigSep_elim ((by decide : ∀ c : Dev nD, fwds c = true → kid c ∈ nbrs c) c hf)).trans
        (slots_of (yA A) ((by decide : ∀ c : Dev nD, fwds c = true → kid c ≠ 0 ∧ parent (kid c) = c) c hf))
    · rw [if_neg hf]; iintro -; iempintro
  have hr : iprop((if fwds c then lsep chunks (fun k => iprop(∃ f, slotPts (F := F) (kid c) k fullShare f)) else iprop(emp)) ∗ lsep chunks (tokItem c)) ⊢ lsep chunks (recvItem c) := by
    by_cases hf : fwds c = true
    · rw [if_pos hf]
      refine .trans (lsep_sep chunks _ _) (lsep_mono chunks fun k => ?_)
      unfold tokItem recvItem fwdItem
      rw [if_neg hc, if_pos hf]
      iintro ⟨Hs, Hc, Ha, Hb, Hd⟩
      isplitl [Hc]; · iexact Hc
      isplitl [Ha]; · iexact Ha
      isplitl [Hb]; · iexact Hb
      rw [if_pos hf]
      isplitl [Hs] <;> iassumption
    · rw [if_neg hf]
      refine .trans ?_ (lsep_mono chunks (Φ := tokItem c) fun k => ?_)
      · iintro ⟨-, H⟩; iexact H
      · unfold tokItem recvItem fwdItem
        rw [if_neg hc, if_neg hf, if_neg hf]
  unfold S1 bring own0
  rw [if_neg hc, if_neg hc]
  unfold NS keeps
  iintro ⟨#Hc, Ho, ⟨Hat, HP⟩, He, Hi, Ht, -, HX, HI⟩
  ihave HP := hp $$ HP
  isplitr; · iexact Hc
  isplitl [Ho]; · iexact Ho
  isplitl [Ht HP]
  · iapply hr; isplitl [HP] <;> iassumption
  isplitr; · simp only [lsep]; itrivial
  isplitr; · simp only [lsep]; itrivial
  isplitl [HX]; · iexact HX
  isplitl [HI]; · iexact HI
  isplitl [He]; · iexact He
  isplitl [Hi] <;> iassumption

/-- Past the barrier every device has what it needs to start on the chunks: device 0 its children's slots, a forwarding device its child's. -/
theorem enter : iprop(ctx (yA A) K ∗ ow c (O₂ c chunks) ∗ (atPos ER (cell c (.inl 0)) 1 ∅ 0 ∗ bigSep (nbrs c) fun d => payK (yA A) c d (.inl 0)) ∗ bring A c) ⊢
    S1 A K c (keeps A c) := by
  by_cases hc : c = 0
  · subst hc; exact enter_root
  · exact enter_other hc

/-- A position reached is a position to stay at. -/
theorem shut_one (k : CK) : (atPos ER (cell c k) 1 ∅ 0 : sProp 𝕄) ⊢ shut c k := by
  unfold shut; iintro H; iexists 1; isplitr; · ipureintro; exact Or.inr (le_refl 1)
  iexact H
/-- A cell that nobody pays can be left where it is. -/
theorem shut_none (k : CK) (r : ℕ) (h : dutiesK c k = ∅) : (atPos ER (cell c k) r ∅ 0 : sProp 𝕄) ⊢ shut c k := by
  unfold shut; iintro H; iexists r; isplitr; · ipureintro; exact Or.inl h
  iexact H

/-- Device 0, with its sends completed, is ready for the exit signals. -/
theorem leave_root : S3 A K 0 (keeps A 0) ⊢ sA (yA A) K 1 0 (rem 0 0) 0 iprop((cred (tallyAt (cell 0 (.inl 1)) () (nbrs 0).card) ∗ atPos ER (cell 0 (.inl 1)) 0 ∅ 0) ∗ fins A 0) := by
  have hf : ∀ k : Fin 8, iprop((doneItem (yA A) (0, k) ∗ doneItem (yA A) (1, k) ∗ doneItem (yA A) (2, k)) ∗ idle 0 k) ⊢ finC 0 k := fun k => by
    unfold doneItem idle finC
    rw [if_pos rfl]
    simp only [lsep]
    iintro ⟨⟨⟨H0, A0⟩, ⟨H1, A1⟩, H2, A2⟩, B3, B4⟩
    isplitl [H0 H1 H2]
    · iexists (commF (yA A))
      iapply (slot_thirds 0 k (commF (yA A))).2
      isplitl [H0]; · iexact H0
      isplitl [H1] <;> iassumption
    isplitl [A0]; · iapply (shut_one (c := 0) (.inr (0, k))); iexact A0
    isplitl [A1]; · iapply (shut_one (c := 0) (.inr (1, k))); iexact A1
    isplitl [A2]; · iapply (shut_one (c := 0) (.inr (2, k))); iexact A2
    isplitl [B3]; · iapply (shut_none (c := 0) (.inr (3, k)) 0 rfl); iexact B3
    isplitl [B4]; · iapply (shut_none (c := 0) (.inr (4, k)) 0 rfl); iexact B4
    itrivial
  unfold S3 sA
  rw [if_pos rfl, zero_add]
  unfold RW keeps exits fins
  iintro ⟨#Hc, Ho, -, Hd, HX, HI, ⟨Hs, Hw⟩, Hi, Hat⟩
  isplitr; · iexact Hc
  isplitl [Ho]; · iexact Ho
  isplitl [Hs]; · iexact Hs
  isplitl [Hw]; · iexact Hw
  isplitl [Hat]; · iexact Hat
  isplitl [Hd Hi]
  · iapply (lsep_mono chunks hf)
    iapply (lsep_sep chunks)
    isplitl [Hd]; · iapply (sent_chunks (doneItem (yA A))); iexact Hd
    iexact Hi
  isplitl [HX] <;> iassumption

/-- A receiving device, with its chunks stored and its forwards completed, is ready for the exit signals. -/
theorem leave_other (hc : c ≠ 0) : S3 A K c (keeps A c) ⊢ sA (yA A) K 1 c (rem 0 c) 0 iprop((cred (tallyAt (cell c (.inl 1)) () (nbrs c).card) ∗ atPos ER (cell c (.inl 1)) 0 ∅ 0) ∗ fins A c) := by
  have hd : ∀ a : Fin 5, a.val < 3 → ∀ k : Fin 8, dutiesK c (.inr (a, k)) = ∅ := fun a ha k => (if_pos ha).trans (if_neg hc)
  have hf : ∀ k : Fin 8, iprop(finItem (yA A) c k ∗ idle c k) ⊢ finC c k := fun k => by
    have h3 : (atPos ER (cell c (.inr (3, k))) (if fwds c then 1 else 0) ∅ 0 : sProp 𝕄) ⊢ shut c (.inr (3, k)) := by
      by_cases hf : fwds c = true
      · rw [if_pos hf]; exact shut_one _
      · rw [if_neg hf]; exact shut_none _ 0 (if_neg hf)
    unfold finItem idle finC
    rw [if_neg hc]
    simp only [lsep]
    iintro ⟨⟨Hk, A4, A3⟩, B0, B1, B2⟩
    isplitl [Hk]; · iexists (commF (yA A)); iexact Hk
    isplitl [B0]; · iapply (shut_none (c := c) (.inr (0, k)) 0 (hd 0 (by decide) k)); iexact B0
    isplitl [B1]; · iapply (shut_none (c := c) (.inr (1, k)) 0 (hd 1 (by decide) k)); iexact B1
    isplitl [B2]; · iapply (shut_none (c := c) (.inr (2, k)) 0 (hd 2 (by decide) k)); iexact B2
    isplitl [A3]; · iapply h3; iexact A3
    isplitl [A4]; · iapply (shut_one (c := c) (.inr (4, k))); iexact A4
    itrivial
  have ho : O₂ c [] = owesL 1 (rem 0 c) := add_zero _
  unfold S3 sA
  rw [if_neg hc, zero_add]
  unfold NW keeps exits fins
  rw [ho]
  iintro ⟨#Hc, Ho, -, Hd, HX, HI, ⟨Hs, Hw⟩, Hi, Hat⟩
  isplitr; · iexact Hc
  isplitl [Ho]; · iexact Ho
  isplitl [Hs]; · iexact Hs
  isplitl [Hw]; · iexact Hw
  isplitl [Hat]; · iexact Hat
  isplitl [Hd Hi]
  · iapply (lsep_mono chunks hf)
    iapply (lsep_sep chunks)
    isplitl [Hd]; · iapply (lsep_reverse [7, 6, 5, 4, 3, 2, 1, 0] (finItem (yA A) c)); iexact Hd
    iexact Hi
  isplitl [HX] <;> iassumption

/-- Every device, done with the chunks, is ready for the exit signals. -/
theorem leave : S3 A K c (keeps A c) ⊢ sA (yA A) K 1 c (rem 0 c) 0 iprop((cred (tallyAt (cell c (.inl 1)) () (nbrs c).card) ∗ atPos ER (cell c (.inl 1)) 0 ∅ 0) ∗ fins A c) := by
  by_cases hc : c = 0
  · subst hc; exact leave_root
  · exact leave_other hc

end

/-! ## The body -/

section
variable {A : Dev nD → ∀ i : Fin 5, (inRef i).ty.Contents (Elt F)} {K : Dev nD × CK → ℕ} {c : Dev nD}

/-- Device 0's five arguments, listed one by one, are its arguments. -/
theorem inX_eq : inX (A 0 0) (A 0 1) (A 0 2) (A 0 3) (A 0 4) = A 0 := by
  funext i; fin_cases i <;> rfl

variable {R : sProp (MT nD τ sig Unit (Elt F) ℕ UU ℕ)} {O : CellTallies nD τ sig Unit} {yv : Fin 8 → Vec F S1x128x1024 .bf16}

/-- A device's number, as the body computes it. -/
abbrev myId (c : Dev nD) : BitVec 32 := Scalar.remsi (Scalar.divsi c.word 1#32) 8#32
/-- The kernel's test for a forwarding device. -/
abbrev fwId (c : Dev nD) : BitVec 1 := Scalar.andi (Scalar.cmpi .sge (myId c) 1#32) (Scalar.cmpi .sle (myId c) 4#32)
abbrev barr : Sems sig S_ := SemArray.scalar (sig.barrier 0 rfl)

/-- The kernel's test for a forwarding device is true on the forwarding devices and on no other. -/
theorem guard_fw : ∀ d : Dev nD, Scalar.cmpi .ne (Scalar.extui (fwId d) : BitVec 32) 0#32 = 1#1 ↔ fwds d = true := by decide

/-- The barrier's signals along the first ten edges. -/
theorem p60 {Q : _ → sProp (MT nD τ sig Unit (Elt F) ℕ UU ℕ)} (h : sA yv K 0 c (rem 10 c) O R ⊢ Q ⟨c, myId c, barr⟩) :
    sA yv K 0 c (rem 0 c) O R ⊢ WP c (k0_part60 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _)
      (Memref.whole cc0_stg5_0) (Memref.isWhole_whole _) (Memref.whole cc0_scratch0) (Memref.isWhole_whole _) cc0_scratch1 cc0_scratch2 cc0_scratch3 cc0_scoped0) Q := by
  rw [k0_part60_eq_skeleton]; unfold k0_part60_skel
  refine wp_dev ?_
  repeat
    first
    | (with_reducible apply wp_edgeAt (F := F); (case he => decide); (case hφ => decide); (case hs => decide); (case hd => (intro _; dsimp only; decide)))
    | ((with_reducible apply wp_edgeAt3 (F := F)) <;> [rfl; decide; decide; (intro _; dsimp only; decide); skip])
  exact wp_done h

/-- The remaining barrier signals, and the wait for the neighbours. -/
theorem p61 {Q : _ → sProp (MT nD τ sig Unit (Elt F) ℕ UU ℕ)} (h : ∀ a b e, S1 A K c (keeps A c) ⊢ Q ⟨a, b, e⟩) :
    sA (yA A) K 0 c (rem 10 c) (O₂ c chunks) iprop((cred (tallyAt (cell c (.inl 0)) () (nbrs c).card) ∗ atPos ER (cell c (.inl 0)) 0 ∅ 0) ∗ bring A c) ⊢
      WP c (k0_part61 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _)
      (Memref.whole cc0_stg5_0) (Memref.isWhole_whole _) (Memref.whole cc0_scratch0) (Memref.isWhole_whole _) cc0_scratch1 cc0_scratch2 cc0_scratch3 cc0_scoped0 c (myId c) barr) Q := by
  rw [k0_part61_eq_skeleton]; unfold k0_part61_skel
  repeat
    (with_reducible apply wp_edgeAt (F := F); (case he => decide); (case hφ => decide); (case hs => decide); (case hd => (intro _; dsimp only; decide)))
  refine edge_wait ?_
  have h2 : Above (levK c (.inl 0)) (O₂ c chunks) := above_mono (above_O₂ c chunks) (show 1 ≤ 2 + depth c by omega)
  repeat (with_reducible apply wp_waitn (F := F) (hO := h2); (case hφ => decide); (case hw => decide); (case hs => decide))
  refine wait_done (.trans enter ?_)
  exact wp_done (h _ _ _)

/-- The lines that compute the forwarding test touch no memory. -/
theorem p62 {Q : _ → sProp (MT nD τ sig Unit (Elt F) ℕ UU ℕ)} {a e : BitVec 32} {b : BitVec 1} (h : ∀ a b e, R ⊢ Q ⟨a, fwId c, b, e⟩) :
    R ⊢ WP c (k0_part62 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _)
      (Memref.whole cc0_stg5_0) (Memref.isWhole_whole _) (Memref.whole cc0_scratch0) (Memref.isWhole_whole _) cc0_scratch1 cc0_scratch2 cc0_scratch3 cc0_scoped0 (myId c) a b e) Q := by
  rw [k0_part62_eq_skeleton]; unfold k0_part62_skel
  exact wp_done (h _ _ _)

/-- Device 0 with its operands under the names of every device's. -/
theorem root_runA {Q : PUnit → sProp (MT nD τ sig Unit (Elt F) ℕ UU ℕ)} (h16 : k0_cond16 0 = 1#1)
    (h : RW (yA A) K [(1, 7), (2, 7)] (sent.drop 2) iprop(outInv (resW A 0) 0 8 ∗ ins 0 (A 0) ∗ R) ⊢ Q ⟨⟩) :
    RS (yA A) (resW A 0) (A 0) K chunks [] [] 0 R ⊢ WP 0 (k0_part54 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _)
      (Memref.whole cc0_stg5_0) (Memref.isWhole_whole _) (Memref.whole cc0_scratch0) (Memref.isWhole_whole _) cc0_scratch1 cc0_scratch2 cc0_scratch3 cc0_scoped0 0 h16) Q := by
  have hi := inX_eq (A := A)
  have hz : resW A 0 = xW (A 0 0) (A 0 1) (A 0 2) (A 0 3) (A 0 4) := if_pos rfl
  rw [hz] at h ⊢
  refine .trans (Entails.of_eq ?_) (root_run (K := K) (R := R) (A 0 0) (A 0 1) (A 0 2) (A 0 3) (A 0 4) h16 (.trans (Entails.of_eq ?_) h))
  · rw [hi]
  · rw [hi]

/-- Device 0's part. -/
theorem p64 {Q : _ → sProp (MT nD τ sig Unit (Elt F) ℕ UU ℕ)} {v2 v77 : BitVec 32} (h : ∀ v, S2 A K c R ⊢ Q v) :
    S1 A K c R ⊢ WP c (k0_part64 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _)
      (Memref.whole cc0_stg5_0) (Memref.isWhole_whole _) (Memref.whole cc0_scratch0) (Memref.isWhole_whole _) cc0_scratch1 cc0_scratch2 cc0_scratch3 cc0_scoped0 c v2 v77) Q := by
  rw [k0_part64_eq_skeleton]; unfold k0_part64_skel
  refine wp_if (S2 A K c R) (fun h16 hX => ?_) (fun hn => ?_) ?_
  · have hc : c = 0 := (by decide : ∀ c : Dev nD, k0_cond16 c = 1#1 → c = 0) c h16
    subst hc
    unfold S1
    unfold S2 at hX
    rw [if_pos rfl] at hX ⊢
    refine wp_part (root_runA h16 ?_)
    repeat ((with_reducible refine rw_wait _ _ ?_ ?_ ?_) <;> [rfl; rfl; skip])
    exact hX
  · have hc : c ≠ 0 := (by decide : ∀ c : Dev nD, ¬ k0_cond16 c = 1#1 → c ≠ 0) c hn
    unfold S1 S2
    rw [if_neg hc, if_neg hc]
  exact wp_done (h _)

end

end Cert.KernelIdealProof

end
-- ==== Proof.Ideal.Late.lean ====
/-
# 01_k — `Ideal.Late`, for the kernel with the named mask constant: the receiving devices' part and the exit, and the whole body
-/
module

public import proofs.«01_k».proof.Proof.Ideal.Body

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

section
variable {A : Dev nD → ∀ i : Fin 5, (inRef i).ty.Contents (Elt F)} {K : Dev nD × CK → ℕ} {c : Dev nD}
variable {R : sProp (MT nD τ sig Unit (Elt F) ℕ UU ℕ)} {O : CellTallies nD τ sig Unit} {yv : Fin 8 → Vec F S1x128x1024 .bf16}

set_option maxHeartbeats 2000000 in
set_option maxRecDepth 8000 in
/-- Every other device's part, and the first of the exit signals. -/
theorem p65 {Q : _ → sProp (MT nD τ sig Unit (Elt F) ℕ UU ℕ)} {v2 a b e : BitVec 32}
    (h : sA (yA A) K 1 c (rem 2 c) 0 iprop((cred (tallyAt (cell c (.inl 1)) () (nbrs c).card) ∗ atPos ER (cell c (.inl 1)) 0 ∅ 0) ∗ fins A c) ⊢ Q 3#32) :
    S2 A K c (keeps A c) ⊢ WP c (k0_part65 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _)
      (Memref.whole cc0_stg5_0) (Memref.isWhole_whole _) (Memref.whole cc0_scratch0) (Memref.isWhole_whole _) cc0_scratch1 cc0_scratch2 cc0_scratch3 cc0_scoped0 c v2 a (fwId c) b e) Q := by
  rw [k0_part65_eq_skeleton]; unfold k0_part65_skel
  refine wp_if (S3 A K c (keeps A c)) (fun h17 hX => ?_) (fun hn => ?_) ?_
  · have hc : c ≠ 0 := (by decide : ∀ c : Dev nD, k0_cond17 c = 1#1 → c ≠ 0) c h17
    have hz : resW A c = zW (yA A) := if_neg hc
    unfold S2
    unfold S3 at hX
    rw [if_neg hc, hz] at hX ⊢
    generalize yA A = yv at hX ⊢
    generalize keeps A c = R' at hX ⊢
    repeat
      first
      | with_reducible refine wp_done ?_
      | ((with_reducible refine ns_recv hc _ ?_ ?_ ?_) <;> [rfl; rfl; skip])
      | ((with_reducible refine ns_if hc ?_ (fun hg hf hY => ?_) ?_) <;> [(with_reducible first | exact guards0 c | exact guards1 c | exact guards2 c | exact guards3 c | exact guards4 c | exact guards5 c | exact guards6 c | exact guards7 c); ((with_reducible refine ns_send hf _ ?_ ?_ ?_ ?_ ?_ hY) <;> [(dsimp only; with_reducible first | exact kids0 c hf | exact kids1 c hf | exact kids2 c hf | exact kids3 c hf | exact kids4 c hf | exact kids5 c hf | exact kids6 c hf | exact kids7 c hf); rfl; rfl; rfl; rfl]); skip])
      | ((with_reducible refine ns_ld _ ?_ ?_) <;> [rfl; skip])
      | with_reducible refine ns_ldout (fun _ => ?_)
      | ((with_reducible refine ns_stout _ ?_ ?_ ?_ ?_) <;> [rfl; rfl; exact heq_of_eq rfl; skip])
      | (refine wp_part ?_
         first
          | (rw [k0_part56_eq_skeleton]; unfold k0_part56_skel)
          | (rw [k0_part57_eq_skeleton]; unfold k0_part57_skel)
          | (rw [k0_part58_eq_skeleton]; unfold k0_part58_skel)
          | (rw [k0_part59_eq_skeleton]; unfold k0_part59_skel))
    refine ns_nw (w' := chunks) rfl ?_
    refine wp_if (NW yv K c [] [7, 6, 5, 4, 3, 2, 1, 0] iprop(outInv (zW yv) c 8 ∗ ins c (A c) ∗ R')) (fun h26 hY => ?_) (fun hn => ?_) hX
    · have hf : fwds c = true := (guard_fw c).mp h26
      refine wp_part ?_
      rw [k0_part55_eq_skeleton]; unfold k0_part55_skel
      repeat
        first
        | with_reducible refine wp_done ?_
        | ((with_reducible refine nw_wait hf _ ?_ ?_ ?_) <;> [rfl; rfl; skip])
      exact hY
    · exact nw_skip fun e => hn ((guard_fw c).mpr e)
  · have hc : c = 0 := (by decide : ∀ c : Dev nD, ¬ k0_cond17 c = 1#1 → c = 0) c hn
    subst hc
    unfold S2 S3
    rw [if_pos rfl, if_pos rfl]
  refine .trans leave ?_
  repeat
    (with_reducible apply wp_edgeAt (F := F); (case he => decide); (case hφ => decide); (case hs => decide); (case hd => (intro _; dsimp only; decide)))
  exact wp_done h

/-- The other exit signals. -/
theorem p66 {Q : _ → sProp (MT nD τ sig Unit (Elt F) ℕ UU ℕ)} {v2 v3 : BitVec 32} (h : sA yv K 1 c (rem 14 c) O R ⊢ Q 0#32) :
    sA yv K 1 c (rem 2 c) O R ⊢ WP c (k0_part66 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _)
      (Memref.whole cc0_stg5_0) (Memref.isWhole_whole _) (Memref.whole cc0_scratch0) (Memref.isWhole_whole _) cc0_scratch1 cc0_scratch2 cc0_scratch3 cc0_scoped0 c v2 v3) Q := by
  rw [k0_part66_eq_skeleton]; unfold k0_part66_skel
  repeat
    first
    | (with_reducible apply wp_edgeAt (F := F); (case he => decide); (case hφ => decide); (case hs => decide); (case hd => (intro _; dsimp only; decide)))
    | ((with_reducible apply wp_edgeAt3 (F := F)) <;> [rfl; decide; decide; (intro _; dsimp only; decide); skip])
  exact wp_done h

/-- What device `c` holds when its body is over. -/
def bodyEnd (A : Dev nD → ∀ i : Fin 5, (inRef i).ty.Contents (Elt F)) (K : Dev nD × CK → ℕ) (c : Dev nD) : sProp 𝕄 :=
  iprop(ctx (yA A) K ∗ ow c 0 ∗ (atPos ER (cell c (.inl 1)) 1 ∅ 0 ∗ bigSep (nbrs c) fun d => payK (yA A) c d (.inl 1)) ∗ fins A c)

/-- One device's run, from the barrier to the exit semaphore. -/
theorem body_run {Q : PUnit → sProp (MT nD τ sig Unit (Elt F) ℕ UU ℕ)} (h : bodyEnd A K c ⊢ Q ⟨⟩) :
    sA (yA A) K 0 c (rem 0 c) (O₂ c chunks) iprop((cred (tallyAt (cell c (.inl 0)) () (nbrs c).card) ∗ atPos ER (cell c (.inl 0)) 0 ∅ 0) ∗ bring A c) ⊢
    WP c (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _)
      (Memref.whole cc0_stg5_0) (Memref.isWhole_whole _) (Memref.whole cc0_scratch0) (Memref.isWhole_whole _) cc0_scratch1 cc0_scratch2 cc0_scratch3 cc0_scoped0) Q := by
  rw [cc0_body_eq_skeleton]; unfold cc0_body_skel
  refine wp_part (p60 ?_)
  dsimp only
  refine wp_part (p61 fun _ _ _ => ?_)
  dsimp only
  refine wp_part ?_
  refine p62 fun _ _ _ => ?_
  dsimp only
  refine wp_part ?_
  rw [k0_part63_eq_skeleton]; unfold k0_part63_skel
  refine wp_done ?_
  refine wp_part ?_
  refine p64 fun _ => ?_
  refine wp_part ?_
  refine p65 ?_
  refine wp_part ?_
  refine p66 ?_
  refine edge_wait ?_
  repeat (with_reducible apply wp_waitn (F := F) (hO := above_zero _); (case hφ => decide); (case hw => decide); (case hs => decide))
  exact wait_done (wp_done h)

end

end Cert.KernelIdealProof

end
-- ==== Proof.Ideal.Deal.lean ====
/-
# 01_k — `Ideal.Deal`, for the kernel with the named mask constant: what each device starts with, and what it ends with

The launch deals each device the positions of its cells, the tokens of the duties it pays, and its share of the launch
credit. Here these are arranged as the run of a device's body wants them, and what the run leaves is turned back into
closed semaphores and a whole communication buffer.
-/
module

public import proofs.«01_k».proof.Proof.Ideal.Late

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-! ## Lists -/

/-- A conjunction along two lists in a row is the two conjunctions. -/
theorem lsep_append {I : Type} (l l' : List I) (Φ : I → sProp 𝕄) : lsep (l ++ l') Φ ⊢ iprop(lsep l Φ ∗ lsep l' Φ) := by
  induction l with
  | nil =>
      show lsep l' Φ ⊢ iprop(emp ∗ lsep l' Φ)
      iintro H
      isplitr; · iempintro
      iexact H
  | cons a l ih =>
      show iprop(Φ a ∗ lsep (l ++ l') Φ) ⊢ iprop((Φ a ∗ lsep l Φ) ∗ lsep l' Φ)
      iintro ⟨Ha, H⟩
      ihave H' := ih $$ H
      icases H' with ⟨H₁, H₂⟩
      isplitl [Ha H₁]
      · isplitl [Ha] <;> iassumption
      iexact H₂

/-- A conjunction along a list's image. -/
theorem lsep_map {I J : Type} (f : I → J) (l : List I) (Φ : J → sProp 𝕄) : lsep (l.map f) Φ ⊢ lsep l fun i => Φ (f i) := by
  induction l with
  | nil => exact .rfl
  | cons a l ih => exact sep_mono_right ih

/-- A conjunction along a list of lists. -/
theorem lsep_flatMap {I J : Type} (f : I → List J) (l : List I) (Φ : J → sProp 𝕄) : lsep (l.flatMap f) Φ ⊢ lsep l fun i => lsep (f i) Φ := by
  induction l with
  | nil => exact .rfl
  | cons a l ih => rw [List.flatMap_cons]; exact (lsep_append _ _ _).trans (sep_mono_right ih)

/-- A list of pairs of resources is two lists side by side. -/
theorem lsep_unsep {I : Type} (l : List I) (Φ Ψ : I → sProp 𝕄) : lsep l (fun i => iprop(Φ i ∗ Ψ i)) ⊢ iprop(lsep l Φ ∗ lsep l Ψ) := by
  induction l with
  | nil =>
      show iprop(emp) ⊢ iprop(emp ∗ emp)
      iintro H
      isplitr <;> iempintro
  | cons a l ih =>
      show iprop((Φ a ∗ Ψ a) ∗ lsep l fun i => iprop(Φ i ∗ Ψ i)) ⊢ iprop((Φ a ∗ lsep l Φ) ∗ (Ψ a ∗ lsep l Ψ))
      iintro ⟨⟨H₁, H₂⟩, H⟩
      ihave H' := ih $$ H
      icases H' with ⟨H₃, H₄⟩
      isplitl [H₁ H₃]
      · isplitl [H₁] <;> iassumption
      isplitl [H₂] <;> iassumption

/-- Joining is along a list's image too. -/
theorem lsep_unmap {I J : Type} (f : I → J) (l : List I) (Φ : J → sProp 𝕄) : lsep l (fun i => Φ (f i)) ⊢ lsep (l.map f) Φ := by
  induction l with
  | nil => exact .rfl
  | cons a l ih => exact sep_mono_right ih

/-- One item's companion `X`, handed over along a list that has the item once. -/
theorem lsep_give {I : Type} [DecidableEq I] (l : List I) (p : I) (Φ : I → sProp 𝕄) (X : sProp 𝕄) (hn : l.Nodup) :
    iprop(lsep l Φ ∗ X) ⊢ lsep l fun t => iprop(Φ t ∗ if t = p then X else iprop(emp)) := by
  have h0 : ∀ l : List I, p ∉ l → lsep l Φ ⊢ lsep l fun t => iprop(Φ t ∗ if t = p then X else iprop(emp)) := by
    intro l
    induction l with
    | nil => intro _; exact .rfl
    | cons a l ih =>
        intro h
        refine BIClass.sep_mono ?_ (ih fun h' => h (List.mem_cons_of_mem _ h'))
        show Φ a ⊢ iprop(Φ a ∗ if a = p then X else iprop(emp))
        rw [if_neg fun e : a = p => h (by rw [e]; exact List.mem_cons_self)]
        iintro H
        isplitl; · iexact H
        iempintro
  induction l with
  | nil => iintro ⟨-, -⟩; iempintro
  | cons a l ih =>
      have hn' := List.nodup_cons.mp hn
      show iprop((Φ a ∗ lsep l Φ) ∗ X) ⊢ iprop((Φ a ∗ if a = p then X else iprop(emp)) ∗ lsep l fun t => iprop(Φ t ∗ if t = p then X else iprop(emp)))
      by_cases h : a = p
      · subst h
        rw [if_pos rfl]
        iintro ⟨⟨Ha, Hl⟩, HX⟩
        isplitl [Ha HX]
        · isplitl [Ha] <;> iassumption
        iapply (h0 l hn'.1); iexact Hl
      · rw [if_neg h]
        iintro ⟨⟨Ha, Hl⟩, HX⟩
        isplitl [Ha]
        · isplitl; · iexact Ha
          iempintro
        iapply (ih hn'.2)
        isplitl [Hl] <;> iassumption

/-! ## The launch credit -/

/-- Two cells are equal when their devices and their semaphores are. -/
theorem cell_eq_iff {c c' : Dev nD} {k k' : CK} : cell c k = cell c' k' ↔ c = c' ∧ k = k' :=
  ⟨cell_inj, fun h => by rw [h.1, h.2]⟩

/-- What the signals to `l` owe a cell: one for each time its device is named. -/
theorem owesL_at (i : Fin 2) (l : List (Dev nD)) (c : Dev nD) (k : CK) :
    owesL i l (cell c k) () = if k = .inl i then l.count c else 0 := by
  induction l with
  | nil => show (0 : ℕ) = _; split <;> rfl
  | cons t l ih =>
      show (owesL i l + tallyAt (cell t (.inl i)) () 1) (cell c k) () = _
      rw [Pi.add_apply, Finsupp.add_apply, ih, tallyAt_apply, List.count_cons]
      by_cases hk : k = .inl i
      · rw [if_pos hk, if_pos hk]
        by_cases ht : t = c
        · rw [if_pos ⟨by rw [ht, hk], rfl⟩, if_pos (by rw [ht]; exact beq_self_eq_true c)]
        · rw [if_neg fun h => ht (cell_inj h.1).1.symm, if_neg fun h => ht (beq_iff_eq.mp h)]
      · rw [if_neg hk, if_neg hk, if_neg fun h => hk (cell_inj h.1).2]

/-- How many of device `d`'s sends of one chunk go to device `c`. -/
def sN (d c : Dev nD) : ℕ :=
  if d = 0 then (if c = 4 then 1 else 0) + (if c = 3 then 1 else 0) + (if c = 1 then 1 else 0)
  else if fwds d then (if c = kid d then 1 else 0) else 0

/-- What the sending of a chunk to device `t` owes a cell: one chunk's credit if the cell is that chunk's receive cell on `t`, else nothing. -/
theorem tally_recv (t c : Dev nD) (k' : Fin 8) (k : CK) :
    (tallyAt (cell t (.inr (4, k'))) () N : CellTallies nD τ sig Unit) (cell c k) () = N * if k = .inr (4, k') then (if c = t then 1 else 0) else 0 := by
  rw [tallyAt_apply]
  by_cases hk : k = .inr (4, k')
  · rw [if_pos hk]
    by_cases ht : c = t
    · rw [if_pos ⟨by rw [ht, hk], rfl⟩, if_pos ht, Nat.mul_one]
    · rw [if_neg fun h => ht (cell_inj h.1).1, if_neg ht, Nat.mul_zero]
  · rw [if_neg hk, if_neg fun h => hk (cell_inj h.1).2, Nat.mul_zero]

/-- What one chunk's sends owe a cell. -/
theorem owesS_at (d c : Dev nD) (k' : Fin 8) (k : CK) : owesS d k' (cell c k) () = N * if k = .inr (4, k') then sN d c else 0 := by
  unfold owesS sN
  split
  · rw [Pi.add_apply, Finsupp.add_apply, Pi.add_apply, Finsupp.add_apply, tally_recv, tally_recv, tally_recv]
    by_cases hk : k = .inr (4, k')
    · rw [if_pos hk, if_pos hk, if_pos hk, if_pos hk, Nat.mul_add, Nat.mul_add]
    · rw [if_neg hk, if_neg hk, if_neg hk, if_neg hk, Nat.mul_zero]
  · split
    · exact tally_recv _ _ _ _
    · show (0 : ℕ) = _
      split <;> rw [Nat.mul_zero]

/-- What the sends of the chunks `l` owe a receive cell, -/
theorem owesC_at (d c : Dev nD) (l : List (Fin 8)) (k : Fin 8) : owesC d l (cell c (.inr (4, k))) () = N * (sN d c * l.count k) := by
  induction l with
  | nil => show (0 : ℕ) = N * (sN d c * 0); rw [Nat.mul_zero, Nat.mul_zero]
  | cons k' l ih =>
      show (owesC d l + owesS d k') (cell c (.inr (4, k))) () = _
      rw [Pi.add_apply, Finsupp.add_apply, ih, owesS_at, List.count_cons, Nat.mul_add, Nat.mul_add]
      by_cases hk : k' = k
      · subst hk; rw [if_pos rfl, if_pos (beq_self_eq_true k'), Nat.mul_one]
      · rw [if_neg fun h => hk (congrArg Prod.snd (Sum.inr.inj h)).symm, if_neg fun h => hk (beq_iff_eq.mp h), Nat.mul_zero, Nat.mul_zero, Nat.mul_zero]

/-- and a signal cell. -/
theorem owesC_sig (d c : Dev nD) (l : List (Fin 8)) (i : Fin 2) : owesC d l (cell c (.inl i)) () = 0 := by
  induction l with
  | nil => rfl
  | cons k' l ih =>
      show (owesC d l + owesS d k') (cell c (.inl i)) () = _
      rw [Pi.add_apply, Finsupp.add_apply, ih, owesS_at, if_neg (fun h => by cases h), Nat.mul_zero]

/-- A device is signalled once by each of its neighbours. -/
theorem sum_rem : ∀ c : Dev nD, (∑ d : Dev nD, (rem 0 d).count c) = (nbrs c).card := by decide
/-- Every device but 0 is sent each chunk once. -/
theorem sum_sN : ∀ c : Dev nD, c ≠ 0 → (∑ d : Dev nD, sN d c) = 1 := by decide
/-- Each chunk is in the list of chunks once. -/
theorem count_chunks : ∀ k : Fin 8, chunks.count k = 1 := by decide

/-- Every device owes its neighbours' two signal cells one unit each. -/
theorem launch_sig (c : Dev nD) (i : Fin 2) :
    tallyOn (cell c (.inl i)) (launchCredit (Pipeline.owing O₀) 0 (cell c (.inl i))) = (tallyAt (cell c (.inl i)) () (nbrs c).card : CellTallies nD τ sig Unit) := by
  unfold tallyAt; refine congrArg _ (Finsupp.ext fun u => ?_); cases u
  rw [Pipeline.launchCredit_owing, Finsupp.single_eq_same, ← sum_rem c]
  refine Finset.sum_congr rfl fun d _ => ?_
  show (owesL 1 (rem 0 d) + owesC d chunks + owesL 0 (rem 0 d)) _ _ = _
  rw [Pi.add_apply, Finsupp.add_apply, Pi.add_apply, Finsupp.add_apply, owesL_at, owesL_at, owesC_sig, Nat.add_zero]
  rcases (by decide : ∀ i : Fin 2, i = 0 ∨ i = 1) i with h | h <;> subst h
  · rw [if_neg (by decide), if_pos rfl, Nat.zero_add]
  · rw [if_pos rfl, if_neg (by decide), Nat.add_zero]

/-- and each receive cell of a device that receives is owed one chunk. -/
theorem launch_recv (c : Dev nD) (hc : c ≠ 0) (k : Fin 8) :
    tallyOn (cell c (.inr (4, k))) (launchCredit (Pipeline.owing O₀) 0 (cell c (.inr (4, k)))) = (tallyAt (cell c (.inr (4, k))) () N : CellTallies nD τ sig Unit) := by
  unfold tallyAt; refine congrArg _ (Finsupp.ext fun u => ?_); cases u
  rw [Pipeline.launchCredit_owing, Finsupp.single_eq_same]
  have h : ∀ d : Dev nD, O₀ d (cell c (.inr (4, k))) () = N * sN d c := fun d => by
    show (owesL 1 (rem 0 d) + owesC d chunks + owesL 0 (rem 0 d)) _ _ = _
    rw [Pi.add_apply, Finsupp.add_apply, Pi.add_apply, Finsupp.add_apply, owesL_at, owesL_at, owesC_at, count_chunks, if_neg (fun h => by cases h), if_neg (fun h => by cases h),
      Nat.mul_one, Nat.zero_add, Nat.add_zero]
  rw [Finset.sum_congr rfl fun d _ => h d, ← Finset.mul_sum, sum_sN c hc, Nat.mul_one]

/-- Device `c`'s share of the launch credit. -/
def credK (c : Dev nD) (k : Fin 8) : sProp 𝕄 := if c = 0 then iprop(emp) else cred (tallyAt (cell c (.inr (4, k))) () N)
def creds (c : Dev nD) : sProp 𝕄 :=
  iprop(cred (tallyAt (cell c (.inl 0)) () (nbrs c).card) ∗ cred (tallyAt (cell c (.inl 1)) () (nbrs c).card) ∗ lsep chunks (credK (F := F) c))

/-- The launch credit of a device holds the credit of its two signal cells and of its receive cells. -/
theorem creds_intro (c : Dev nD) : (Pipeline.launchCred O₀ c : sProp 𝕄) ⊢ creds (F := F) c := by
  have h1 : (Pipeline.launchCred O₀ c : sProp 𝕄) ⊢ lsep (([.inl 0, .inl 1] ++ chunks.map fun k => .inr (4, k) : List CK).map csem)
      fun sm => cred (tallyOn ((c : Thread nD τ), sm) (launchCredit (Pipeline.owing O₀) 0 ((c : Thread nD τ), sm))) :=
    lsep_of_bigSep _ _ _ (by decide) fun _ _ => Finset.mem_univ _
  refine h1.trans ((lsep_map _ _ _).trans ((lsep_append _ _ _).trans ?_))
  unfold creds
  have h2 : lsep chunks (fun k => cred (tallyOn (cell c (.inr (4, k))) (launchCredit (Pipeline.owing O₀) 0 (cell c (.inr (4, k)))))) ⊢ lsep chunks (credK (F := F) c) := by
    refine lsep_mono _ fun k => ?_
    unfold credK
    by_cases hc : c = 0
    · rw [if_pos hc]; iintro -; iempintro
    · rw [if_neg hc, launch_recv c hc k]
  refine .trans (sep_mono_right ((lsep_map _ _ _).trans h2)) ?_
  show iprop((cred (tallyOn (cell c (.inl 0)) (launchCredit (Pipeline.owing O₀) 0 (cell c (.inl 0))))
    ∗ cred (tallyOn (cell c (.inl 1)) (launchCredit (Pipeline.owing O₀) 0 (cell c (.inl 1)))) ∗ emp) ∗ lsep chunks (credK (F := F) c)) ⊢ _
  rw [launch_sig, launch_sig]
  iintro ⟨⟨H₁, H₂, -⟩, H₃⟩
  isplitl [H₁]; · iexact H₁
  isplitl [H₂]; · iexact H₂
  iexact H₃

/-! ## The tokens and positions a device starts with -/

/-- The cells one chunk's sends pay, on device `c`. -/
def need (c : Dev nD) (k : Fin 8) : List (Dev nD × CK) :=
  if c = 0 then [(0, .inr (0, k)), (1, .inr (4, k)), (0, .inr (1, k)), (3, .inr (4, k)), (0, .inr (2, k)), (4, .inr (4, k))]
  else if fwds c then [(c, .inr (3, k)), (kid c, .inr (4, k))] else []

/-- All the cells device `c` pays. -/
def needs (c : Dev nD) : List (Dev nD × CK) :=
  ((rem 0 c).map fun t => (t, .inl 0)) ++ (((rem 0 c).map fun t => (t, .inl 1)) ++ chunks.flatMap (need c))

/-- A device's own cells, chunk by chunk. -/
def rowsOf (k : Fin 8) : List CK := [.inr (0, k), .inr (1, k), .inr (2, k), .inr (3, k), .inr (4, k)]
def allCK : List CK := [.inl 0, .inl 1] ++ chunks.flatMap rowsOf

/-- The list of a device's cells names none twice. -/
theorem allCK_nodup : allCK.Nodup := by decide
/-- The list of a device's cells names them all. -/
theorem mem_allCK (k : CK) : k ∈ allCK := by
  unfold allCK
  rcases k with i | ⟨a, b⟩
  · refine List.mem_append_left _ ?_
    rcases (by decide : ∀ i : Fin 2, i = 0 ∨ i = 1) i with h | h <;> subst h
    · exact List.mem_cons_self
    · exact List.mem_cons_of_mem _ List.mem_cons_self
  · refine List.mem_append_right _ (List.mem_flatMap.mpr ⟨b, (by decide : ∀ b : Fin 8, b ∈ chunks) b, ?_⟩)
    show Sum.inr (a, b) ∈ ([0, 1, 2, 3, 4] : List (Fin 5)).map fun a => (Sum.inr (a, b) : CK)
    exact List.mem_map.mpr ⟨a, (by decide : ∀ a : Fin 5, a ∈ ([0, 1, 2, 3, 4] : List (Fin 5))) a, rfl⟩
/-- The list of the duties that a device pays names none twice. -/
theorem needs_nodup : ∀ c : Dev nD, (needs c).Nodup := by decide

abbrev tok (c : Dev nD) (ck : Dev nD × CK) : sProp 𝕄 := dutyTok ER (kcell ck) 0 c
abbrev posn (c : Dev nD) (k : CK) : sProp 𝕄 := atPos ER (cell c k) 0 ∅ 0

/-- Device `c`'s positions and tokens as the launch deals them. -/
def linear (c : Dev nD) : sProp 𝕄 := iprop(bigSep Finset.univ (posn (F := F) c) ∗ bigSep Finset.univ (tok (F := F) c))

/-- One chunk's tokens, positions and credit are what the run wants of them. -/
theorem item_intro (c : Dev nD) (k : Fin 8) :
    iprop(lsep (need c k) (tok (F := F) c) ∗ lsep (rowsOf k) (posn (F := F) c) ∗ credK (F := F) c k) ⊢ iprop(idle (F := F) c k ∗ tokItem (F := F) c k) := by
  unfold need rowsOf credK idle tokItem
  by_cases hc : c = 0
  · subst hc
    rw [if_pos rfl, if_pos rfl, if_pos rfl, if_pos rfl]
    simp only [lsep, tok, posn, sendTok]
    iintro ⟨⟨t1, t2, t3, t4, t5, t6, -⟩, ⟨p1, p2, p3, p4, p5, -⟩, -⟩
    isplitl [p4 p5]
    · isplitl [p4] <;> iassumption
    isplitl [t1 t2 p1]
    · isplitl [t1]; · iexact t1
      isplitl [t2]; · iexact t2
      iexact p1
    isplitl [t3 t4 p2]
    · isplitl [t3]; · iexact t3
      isplitl [t4]; · iexact t4
      iexact p2
    isplitl [t5 t6 p3]
    · isplitl [t5]; · iexact t5
      isplitl [t6]; · iexact t6
      iexact p3
    iempintro
  · rw [if_neg hc, if_neg hc, if_neg hc, if_neg hc]
    by_cases hf : fwds c = true
    · rw [if_pos hf, if_pos hf]
      simp only [lsep, tok, posn]
      iintro ⟨⟨t1, t2, -⟩, ⟨p1, p2, p3, p4, p5, -⟩, hcr⟩
      isplitl [p1 p2 p3]
      · isplitl [p1]; · iexact p1
        isplitl [p2] <;> iassumption
      isplitl [hcr]; · iexact hcr
      isplitl [p5]; · iexact p5
      isplitl [p4]; · iexact p4
      isplitl [t1]; · iexact t1
      iexact t2
    · rw [if_neg hf, if_neg hf]
      simp only [lsep, tok, posn]
      iintro ⟨-, ⟨p1, p2, p3, p4, p5, -⟩, hcr⟩
      isplitl [p1 p2 p3]
      · isplitl [p1]; · iexact p1
        isplitl [p2] <;> iassumption
      isplitl [hcr]; · iexact hcr
      isplitl [p5]; · iexact p5
      isplitl [p4]; · iexact p4
      iempintro

/-! ## The slots -/

/-- Slot `b` starts at row `b` of the buffer's first dimension. -/
theorem slot_off (b : Fin 8) : (![b.val, 0, 0] : Fin 3 → ℕ) 0 = 1 * b.val := (Nat.one_mul _).symm
/-- Different slots have no element in common. -/
theorem slot_disjoint (b b' : Fin 8) (h : b ≠ b') : Disjoint (slotR b).set (slotR b').set :=
  Ring.lead_disjoint (s := S8x128x1024) (0 : Fin 3) 1 (fun b : Fin 8 => ![b.val, 0, 0]) S1x128x1024.size inb_slot slot_off rfl b b' h
/-- The eight slots are the whole buffer. -/
theorem slot_cover : Finset.univ.biUnion (fun b : Fin 8 => (slotR b).set) = Finset.univ :=
  Ring.lead_cover (s := S8x128x1024) (0 : Fin 3) 1 (fun b : Fin 8 => ![b.val, 0, 0]) S1x128x1024.size inb_slot slot_off
    (by decide) rfl (by decide) rfl

/-- The communication buffer held whole. -/
def comm (c : Dev nD) : sProp 𝕄 := iprop(∃ f : Buf (Elt F) ((c : Thread nD τ).loc cc0_scratch0), ((c : Thread nD τ).loc cc0_scratch0) ↦{fullShare} f)

/-- Holding a slot is holding the slot's rectangle of the buffer. -/
theorem slotPts_rect (c : Dev nD) (k : Fin 8) (f : (cc0_scratch0 : Ref sig .tc).ty.Contents (Elt F)) :
    slotPts c k fullShare f = (((c : Thread nD τ).loc cc0_scratch0) ↦[(slotR k).set]{fullShare} (f : Buf (Elt F) ((c : Thread nD τ).loc cc0_scratch0)) : sProp 𝕄) := by
  unfold slotPts; rw [slotM_set]

/-- Whole, it is its eight slots; -/
theorem comm_split (c : Dev nD) : comm (F := F) c ⊢ slots (F := F) c := by
  unfold comm slots
  iintro ⟨%f, H⟩
  iapply ((Entails.of_eq (Ring.pointsTo_blocks (fun b : Fin 8 => (slotR b).set) slot_disjoint slot_cover f)).trans
    (bigSep_mono fun k _ => show _ ⊢ iprop(∃ f, slotPts (F := F) c k fullShare f) from by
      iintro H; iexists f; iapply (Entails.of_eq (slotPts_rect c k f).symm); iexact H))
  iexact H

/-- and its eight slots are it whole. -/
theorem comm_join (c : Dev nD) : slots (F := F) c ⊢ comm (F := F) c := by
  unfold comm slots
  refine .trans (bigSep_mono fun k _ => ?_) (Ring.pointsTo_blocks_join_exists (fun b : Fin 8 => (slotR b).set) slot_disjoint slot_cover (fun _ => default))
  · exact show iprop(∃ f, slotPts (F := F) c k fullShare f) ⊢ _ from by
      iintro ⟨%f, H⟩; iexists f; iapply (Entails.of_eq (slotPts_rect c k f)); iexact H

/-- Every device but 0 signals its parent. -/
theorem parent_mem : ∀ c : Dev nD, c ≠ 0 → parent c ∈ rem 0 c := by decide
/-- No device signals a neighbour twice. -/
theorem rem_nodup : ∀ c : Dev nD, (rem 0 c).Nodup := by decide

/-- The barrier's signals, the slots going to the parent. -/
theorem sig_barrier (yv : Fin 8 → Vec F S1x128x1024 .bf16) (c : Dev nD) :
    iprop(lsep (rem 0 c) (fun t => tok (F := F) c (t, .inl 0)) ∗ slots (F := F) c) ⊢ iprop(lsep (rem 0 c) (sigItem yv 0 c) ∗ own0 (F := F) c) := by
  unfold own0
  by_cases hc : c = 0
  · subst hc
    rw [if_pos rfl]
    refine BIClass.sep_mono (lsep_mono _ fun t => ?_) (lsep_of_bigSep _ _ _ (by decide) fun _ _ => Finset.mem_univ _)
    unfold sigItem payK tok
    dsimp only
    rw [if_neg fun h => h.2.1 rfl]
    iintro H
    isplitl; · iexact H
    iempintro
  · rw [if_neg hc]
    refine .trans (lsep_give (rem 0 c) (parent c) _ _ (rem_nodup c)) ?_
    refine .trans (lsep_mono (Ψ := sigItem yv 0 c) _ fun t => ?_) ?_
    · unfold sigItem payK tok
      dsimp only
      refine sep_mono_right ?_
      by_cases ht : t = parent c
      · rw [if_pos ht, if_pos ⟨rfl, hc, ht.symm⟩]
      · rw [if_neg ht, if_neg fun h => ht h.2.2.symm]
    · iintro H
      isplitl; · iexact H
      iempintro

/-- The exit's signals hand nothing over. -/
theorem sig_exit (yv : Fin 8 → Vec F S1x128x1024 .bf16) (c : Dev nD) : lsep (rem 0 c) (fun t => tok (F := F) c (t, .inl 1)) ⊢ lsep (rem 0 c) (sigItem yv 1 c) := by
  refine lsep_mono _ fun t => ?_
  unfold sigItem payK tok
  dsimp only
  rw [if_neg fun h => absurd h.1 (by decide)]
  iintro H
  isplitl; · iexact H
  iempintro

variable (A : Dev nD → ∀ i : Fin 5, (inRef i).ty.Contents (Elt F)) (K : Dev nD × CK → ℕ) (c : Dev nD)

/-- Everything device `c` starts with, arranged for its run. -/
theorem arm : iprop(ctx (yA A) K ∗ ow c (O₀ c) ∗ linear (F := F) c ∗ creds (F := F) c ∗ comm (F := F) c ∗ outInv (resW A c) c 0 ∗ ins c (A c))
    ⊢ sA (yA A) K 0 c (rem 0 c) (O₂ c chunks) iprop((cred (tallyAt (cell c (.inl 0)) () (nbrs c).card) ∗ atPos ER (cell c (.inl 0)) 0 ∅ 0) ∗ bring A c) := by
  have hP : bigSep Finset.univ (posn (F := F) c) ⊢ iprop((posn (F := F) c (.inl 0) ∗ posn (F := F) c (.inl 1) ∗ emp) ∗ lsep chunks fun k => lsep (rowsOf k) (posn (F := F) c)) :=
    (lsep_of_bigSep allCK _ _ allCK_nodup fun _ _ => Finset.mem_univ _).trans ((lsep_append _ _ _).trans (sep_mono_right (lsep_flatMap _ _ _)))
  have hT : bigSep Finset.univ (tok (F := F) c) ⊢ iprop(lsep (rem 0 c) (fun t => tok (F := F) c (t, .inl 0)) ∗ lsep (rem 0 c) (fun t => tok (F := F) c (t, .inl 1))
      ∗ lsep chunks fun k => lsep (need c k) (tok (F := F) c)) :=
    (lsep_of_bigSep (needs c) _ _ (needs_nodup c) fun _ _ => Finset.mem_univ _).trans ((lsep_append _ _ _).trans
      (BIClass.sep_mono (lsep_map _ _ _) ((lsep_append _ _ _).trans (BIClass.sep_mono (lsep_map _ _ _) (lsep_flatMap _ _ _)))))
  have hI : iprop(lsep chunks (fun k => lsep (need c k) (tok (F := F) c)) ∗ lsep chunks (fun k => lsep (rowsOf k) (posn (F := F) c)) ∗ lsep chunks (credK (F := F) c))
      ⊢ iprop(lsep chunks (idle (F := F) c) ∗ lsep chunks (tokItem (F := F) c)) :=
    (sep_mono_right (lsep_sep _ _ _)).trans ((lsep_sep _ _ _).trans ((lsep_mono _ (item_intro c)).trans (lsep_unsep _ _ _)))
  unfold sA bring exits linear creds
  iintro ⟨#Hctx, Ho, ⟨HP, HT⟩, ⟨Hc0, Hc1, Hcr⟩, Hcm, Hout, Hin⟩
  ihave HP' := hP $$ HP
  icases HP' with ⟨⟨Hp0, Hp1, -⟩, HP⟩
  ihave HT' := hT $$ HT
  icases HT' with ⟨HT0, HT1, HT⟩
  ihave HI := hI $$ [HP HT Hcr]
  · isplitl [HT]; · iexact HT
    isplitl [HP] <;> iassumption
  icases HI with ⟨Hid, Htk⟩
  ihave Hsl := (comm_split c) $$ Hcm
  ihave HS := (sig_barrier (yA A) c) $$ [HT0 Hsl]
  · isplitl [HT0] <;> iassumption
  icases HS with ⟨HS, Hown⟩
  ihave HE := (sig_exit (yA A) c) $$ HT1
  isplitr; · iexact Hctx
  isplitl [Ho]; · iexact Ho
  isplitl [HS]; · iexact HS
  isplitl [Hc0 Hp0]
  · isplitl [Hc0]; · iexact Hc0
    iexact Hp0
  isplitl [HE Hc1 Hp1]
  · isplitl [HE]; · iexact HE
    isplitl [Hc1]; · iexact Hc1
    iexact Hp1
  isplitl [Hid]; · iexact Hid
  isplitl [Htk]; · iexact Htk
  isplitl [Hown]; · iexact Hown
  isplitl [Hout] <;> iassumption

/-! ## The end -/

/-- A cell with no duty left is closed, its counter at zero. -/
theorem close_shut (yv : Fin 8 → Vec F S1x128x1024 .bf16) (k : CK) : iprop(ctx (F := F) yv K ∗ shut (F := F) c k) ⊢ |={Set.univ}=> semVal (cell c k) 0 := by
  unfold shut
  iintro ⟨#Hctx, ⟨%r, %hr, Hp⟩⟩
  ihave Hc := (ctx_cell yv K c k) $$ Hctx
  icases Hc with ⟨#HI, -⟩
  have hd : ∀ r', r ≤ r' → (Rd (F := F) yv).duties (cell c k) r' = ∅ := fun r' h => by
    rcases hr with he | h1
    · rcases Nat.eq_zero_or_pos r' with h0 | h0
      · rw [h0, duties_cell, he]
      · exact duties_later yv _ r' h0
    · exact duties_later yv _ r' (le_trans h1 h)
  iapply (Rounds.cell_close ER (Rd (F := F) yv) (Set.mem_univ (K (c, k))) (fun h => h) (R := r) hd)
  isplitr; · iexact HI
  iexact Hp

/-- A fact that may be used many times can be used for every member of a family. -/
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- What a device's run leaves: its semaphores closed, its buffers whole. -/
theorem disarm : bodyEnd A K c ⊢ |={Set.univ}=> iprop(comm (F := F) c ∗ bigSep Finset.univ (fun k : CK => semVal (cell c k) 0) ∗ ow c 0 ∗ outInv (resW A c) c 8 ∗ ins c (A c)) := by
  have hF : lsep chunks (finC (F := F) c) ⊢ iprop(slots (F := F) c ∗ lsep chunks fun k => lsep [0, 1, 2, 3, 4] fun a : Fin 5 => shut (F := F) c (.inr (a, k))) :=
    (lsep_unsep _ _ _).trans (sep_mono_left (bigSep_of_lsep _ _ _ (by decide) (by decide)))
  have hA : iprop((shut (F := F) c (.inl 0) ∗ shut (F := F) c (.inl 1)) ∗ lsep chunks fun k => lsep [0, 1, 2, 3, 4] fun a : Fin 5 => shut (F := F) c (.inr (a, k)))
      ⊢ bigSep Finset.univ (shut (F := F) c) := by
    refine .trans ?_ (bigSep_of_lsep allCK _ _ (fun k _ => mem_allCK k) allCK_nodup)
    unfold allCK rowsOf
    simp only [lsep, List.flatMap_cons, List.flatMap_nil, List.cons_append, List.nil_append]
    iintro ⟨⟨H0, H1⟩, ⟨a0, a1, a2, a3, a4, -⟩, ⟨b0, b1, b2, b3, b4, -⟩, ⟨c0, c1, c2, c3, c4, -⟩, ⟨d0, d1, d2, d3, d4, -⟩, ⟨e0, e1, e2, e3, e4, -⟩, ⟨f0, f1, f2, f3, f4, -⟩,
      ⟨g0, g1, g2, g3, g4, -⟩, ⟨h0, h1, h2, h3, h4, -⟩, -⟩
    iframe
  unfold bodyEnd fins
  iintro ⟨#Hctx, Ho, ⟨Hp1, -⟩, Hp0, Hfin, Hout, Hin⟩
  ihave HF := hF $$ Hfin
  icases HF with ⟨Hsl, Hsh⟩
  ihave H0 := (shut_one (.inl 0)) $$ Hp0
  ihave H1 := (shut_one (.inl 1)) $$ Hp1
  ihave HS := hA $$ [H0 H1 Hsh]
  · isplitl [H0 H1]
    · isplitl [H0] <;> iassumption
    iexact Hsh
  imod ((bigSep_with (R := ctx (F := F) (yA A) K) fun k _ => close_shut K c (yA A) k).trans (bigSep_fupd _ _)) $$ [HS] with HV
  · isplitr; · iexact Hctx
    iexact HS
  imodintro
  isplitl [Hsl]
  · iapply (comm_join c); iexact Hsl
  isplitl [HV]; · iexact HV
  isplitl [Ho]; · iexact Ho
  isplitl [Hout] <;> iassumption

end Cert.KernelIdealProof

end
-- ==== Proof.Ideal.Launch.lean ====
/-
# 01_k — `Ideal.Launch`, for the kernel with the named mask constant: the whole program's run

The launch hands every device its cells and its buffers; every device runs its body; every final state has each
device's result, its arguments unchanged and every semaphore at zero.
-/
module

public import proofs.«01_k».proof.Proof.Ideal.Deal
public import Idealize.ShloMosaic.Lib.Pipeline.CollectiveSegs

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## Contents -/

/-- What device `c`'s argument buffers are staged with. -/
def inp (c : Dev nD) (i : Fin 5) : (inRef i).ty.Contents (Elt F) :=
  match i with
  | 0 => (win0_0.blk (0 : Fin 1)).view.read (Elt F) ((s₀ m ρ).mem ((c : Thread nD τ).loc main_arg0))
  | 1 => (win0_1.blk (0 : Fin 1)).view.read (Elt F) ((s₀ m ρ).mem ((c : Thread nD τ).loc main_arg1))
  | 2 => (win0_2.blk (0 : Fin 1)).view.read (Elt F) ((s₀ m ρ).mem ((c : Thread nD τ).loc main_arg2))
  | 3 => (win0_3.blk (0 : Fin 1)).view.read (Elt F) ((s₀ m ρ).mem ((c : Thread nD τ).loc main_arg3))
  | 4 => (win0_4.blk (0 : Fin 1)).view.read (Elt F) ((s₀ m ρ).mem ((c : Thread nD τ).loc main_arg4))

/-- The chunks the devices pass on. -/
abbrev ys : Fin 8 → Vec F S1x128x1024 .bf16 := yA (inp m ρ)

/-- Device `c`'s result. -/
def res (c : Dev nD) : (cc0_stg5_0 : Ref sig .tc).ty.Contents (Elt F) := outF (resW (inp m ρ) c)

/-! ## The proof data -/

/-- What the launch hands device `c`. -/
def start (c : Dev nD) : sProp 𝕄 :=
  iprop((∃ K, record (ys m ρ) K ∗ linear (F := F) c) ∗ creds (F := F) c ∗ levAts L lv)

def Φ₀ (c : Dev nD) : sProp 𝕄 := iprop(start m ρ c ∗ comm (F := F) c)
def Φ₁ (c : Dev nD) : sProp 𝕄 := iprop(comm (F := F) c ∗ bigSep Finset.univ fun k : CK => semVal (cell c k) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => inp m ρ c 0
    | ⟨1, _⟩ => inp m ρ c 1
    | ⟨2, _⟩ => inp m ρ c 2
    | ⟨3, _⟩ => inp m ρ c 3
    | ⟨4, _⟩ => inp m ρ c 4
    | ⟨5, _⟩ => res m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev tt : Fin cfg0.N := t0_0

/-- Owning a whole buffer at contents `X` is holding all its elements at contents equal to `X`. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

section Body

/-- Staging buffer `b` of core `c` at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- A staging buffer at contents `X`, in the launch's words, is one in the body's words, -/
theorem stg_pts (c : Dev nD) (b : Ref sig .tc) (X : b.ty.Contents (Elt F)) : stg c b X ⊢ pts c b X := by
  unfold pts
  iintro ⟨%f, %h, H⟩
  subst h
  iexact H
/-- and the other way round. -/
theorem pts_stg (c : Dev nD) (b : Ref sig .tc) (X : b.ty.Contents (Elt F)) : pts c b X ⊢ stg c b X := by
  unfold pts
  iintro H
  iexists _
  isplitr; · (ipureintro; rfl)
  iexact H

/-- The five arguments are fetched into their staging buffers. -/
theorem fetch_in (w : Fin cfg0.W) (h : w.val < 5) (t : Fin cfg0.N) : (cfg0.win w).fetch t = true := by
  rw [fin_N0 t]
  revert h; revert w; decide

/-- The five staged arguments. -/
theorem stage_in (c : Dev nD) :
    iprop((∃ d, stg c cc0_stg0_0 ((dats m ρ 0 c).before (0 : Fin 6) tt d)) ∗ (∃ d, stg c cc0_stg1_0 ((dats m ρ 0 c).before (1 : Fin 6) tt d))
      ∗ (∃ d, stg c cc0_stg2_0 ((dats m ρ 0 c).before (2 : Fin 6) tt d)) ∗ (∃ d, stg c cc0_stg3_0 ((dats m ρ 0 c).before (3 : Fin 6) tt d))
      ∗ (∃ d, stg c cc0_stg4_0 ((dats m ρ 0 c).before (4 : Fin 6) tt d))) ⊢ ins c (inp m ρ c) := by
  have h0 : ∀ d, (dats m ρ 0 c).before (0 : Fin 6) tt d = inp m ρ c 0 := fun d => by unfold Dat.before; rw [if_pos (fetch_in 0 (by decide) tt)]; rfl
  have h1 : ∀ d, (dats m ρ 0 c).before (1 : Fin 6) tt d = inp m ρ c 1 := fun d => by unfold Dat.before; rw [if_pos (fetch_in 1 (by decide) tt)]; rfl
  have h2 : ∀ d, (dats m ρ 0 c).before (2 : Fin 6) tt d = inp m ρ c 2 := fun d => by unfold Dat.before; rw [if_pos (fetch_in 2 (by decide) tt)]; rfl
  have h3 : ∀ d, (dats m ρ 0 c).before (3 : Fin 6) tt d = inp m ρ c 3 := fun d => by unfold Dat.before; rw [if_pos (fetch_in 3 (by decide) tt)]; rfl
  have h4 : ∀ d, (dats m ρ 0 c).before (4 : Fin 6) tt d = inp m ρ c 4 := fun d => by unfold Dat.before; rw [if_pos (fetch_in 4 (by decide) tt)]; rfl
  show _ ⊢ iprop(pts c cc0_stg0_0 (inp m ρ c 0) ∗ pts c cc0_stg1_0 (inp m ρ c 1) ∗ pts c cc0_stg2_0 (inp m ρ c 2) ∗ pts c cc0_stg3_0 (inp m ρ c 3)
    ∗ pts c cc0_stg4_0 (inp m ρ c 4) ∗ emp)
  simp only [h0, h1, h2, h3, h4]
  iintro ⟨⟨%d0, H0⟩, ⟨%d1, H1⟩, ⟨%d2, H2⟩, ⟨%d3, H3⟩, ⟨%d4, H4⟩⟩
  isplitl [H0]; · iapply (stg_pts c cc0_stg0_0 _); iexact H0
  isplitl [H1]; · iapply (stg_pts c cc0_stg1_0 _); iexact H1
  isplitl [H2]; · iapply (stg_pts c cc0_stg2_0 _); iexact H2
  isplitl [H3]; · iapply (stg_pts c cc0_stg3_0 _); iexact H3
  isplitl [H4]; · iapply (stg_pts c cc0_stg4_0 _); iexact H4
  iempintro

/-- The five staged arguments, handed back as they were. -/
theorem stage_out (c : Dev nD) : ins c (inp m ρ c) ⊢
    iprop(stg c cc0_stg0_0 (inp m ρ c 0) ∗ stg c cc0_stg1_0 (inp m ρ c 1) ∗ stg c cc0_stg2_0 (inp m ρ c 2) ∗ stg c cc0_stg3_0 (inp m ρ c 3)
      ∗ stg c cc0_stg4_0 (inp m ρ c 4)) := by
  show iprop(pts c cc0_stg0_0 (inp m ρ c 0) ∗ pts c cc0_stg1_0 (inp m ρ c 1) ∗ pts c cc0_stg2_0 (inp m ρ c 2) ∗ pts c cc0_stg3_0 (inp m ρ c 3)
    ∗ pts c cc0_stg4_0 (inp m ρ c 4) ∗ emp) ⊢ _
  iintro ⟨H0, H1, H2, H3, H4, -⟩
  isplitl [H0]; · iapply (pts_stg c cc0_stg0_0 _); iexact H0
  isplitl [H1]; · iapply (pts_stg c cc0_stg1_0 _); iexact H1
  isplitl [H2]; · iapply (pts_stg c cc0_stg2_0 _); iexact H2
  isplitl [H3]; · iapply (pts_stg c cc0_stg3_0 _); iexact H3
  iapply (pts_stg c cc0_stg4_0 _); iexact H4

/-- The result buffer before the body, whatever it holds, -/
theorem result_in (xv : Fin 8 → Vec F S1x128x1024 .f32) (c : Dev nD) (X : (cc0_stg5_0 : Ref sig .tc).ty.Contents (Elt F)) : stg c cc0_stg5_0 X ⊢ outInv xv c 0 := by
  unfold outInv
  iintro H
  iexists X
  isplitr
  · ipureintro; exact outTo_zero xv X
  iapply (stg_pts c cc0_stg5_0 X); iexact H
/-- and after it. -/
theorem result_out (c : Dev nD) : outInv (resW (inp m ρ) c) c 8 ⊢ stg c cc0_stg5_0 (res m ρ c) := by
  unfold outInv res
  iintro ⟨%f, %h, H⟩
  have e := outTo_eight _ h
  subst e
  iapply (pts_stg c cc0_stg5_0 _); iexact H

def bodyPre (c : Dev nD) : sProp 𝕄 :=
  iprop(Φ₀ m ρ c ∗ (dats m ρ 0 c).owesAt () tt.castSucc
    ∗ (∃ d, stg c cc0_stg0_0 ((dats m ρ 0 c).before (0 : Fin 6) tt d)) ∗ (∃ d, stg c cc0_stg1_0 ((dats m ρ 0 c).before (1 : Fin 6) tt d))
    ∗ (∃ d, stg c cc0_stg2_0 ((dats m ρ 0 c).before (2 : Fin 6) tt d)) ∗ (∃ d, stg c cc0_stg3_0 ((dats m ρ 0 c).before (3 : Fin 6) tt d))
    ∗ (∃ d, stg c cc0_stg4_0 ((dats m ρ 0 c).before (4 : Fin 6) tt d)) ∗ (∃ d, stg c cc0_stg5_0 ((dats m ρ 0 c).before (5 : Fin 6) tt d)))

def bodyPost (c : Dev nD) : sProp 𝕄 :=
  iprop(Φ₁ (F := F) c ∗ (dats m ρ 0 c).owesAt () tt.succ
    ∗ stg c cc0_stg0_0 (inp m ρ c 0) ∗ stg c cc0_stg1_0 (inp m ρ c 1) ∗ stg c cc0_stg2_0 (inp m ρ c 2) ∗ stg c cc0_stg3_0 (inp m ρ c 3)
      ∗ stg c cc0_stg4_0 (inp m ρ c 4) ∗ stg c cc0_stg5_0 (res m ρ c))

/-- What a device holds as its body starts is what its run wants, for some names of the cells' invariants. -/
theorem pre_arm (c : Dev nD) : bodyPre m ρ c ⊢ iprop(∃ K, sA (yA (inp m ρ)) K 0 c (rem 0 c) (O₂ c chunks)
    iprop((cred (tallyAt (cell c (.inl 0)) () (nbrs c).card) ∗ atPos ER (cell c (.inl 0)) 0 ∅ 0) ∗ bring (inp m ρ) c)) := by
  unfold bodyPre Φ₀ start
  iintro ⟨⟨⟨⟨%K, #HR, Hlin⟩, Hcr, #Hlev⟩, Hcm⟩, Ho, H0, H1, H2, H3, H4, ⟨%d5, H5⟩⟩
  unfold Dat.owesAt Pipeline.owesWithin
  icases Ho with ⟨%W, %hW, HO⟩
  iexists K
  iapply (arm (inp m ρ) K c)
  isplitr
  · unfold ctx
    isplitr; · iexact HR
    iexact Hlev
  isplitl [HO]
  · unfold ow
    iexists W; iexact HO
  isplitl [Hlin]; · iexact Hlin
  isplitl [Hcr]; · iexact Hcr
  isplitl [Hcm]; · iexact Hcm
  isplitl [H5]
  · iapply (result_in (resW (inp m ρ) c) c _); iexact H5
  iapply (stage_in m ρ c)
  isplitl [H0]; · iexact H0
  isplitl [H1]; · iexact H1
  isplitl [H2]; · iexact H2
  isplitl [H3] <;> iassumption

/-- What the run leaves is what the launch wants back. -/
theorem post_disarm (K : Dev nD × CK → ℕ) (c : Dev nD) : bodyEnd (inp m ρ) K c ⊢ |={Set.univ}=> bodyPost m ρ c := by
  refine (disarm (inp m ρ) K c).trans (BI.fupd_mono ?_)
  unfold bodyPost Φ₁ ow
  iintro ⟨Hcm, HV, ⟨%W, HO⟩, Hout, Hin⟩
  ihave HS := (stage_out m ρ c) $$ Hin
  icases HS with ⟨H0, H1, H2, H3, H4⟩
  isplitl [Hcm HV]
  · isplitl [Hcm] <;> iassumption
  isplitl [HO]
  · unfold Dat.owesAt Pipeline.owesWithin
    iexists W
    isplitr
    · ipureintro; exact fun _ _ => Or.inl trivial
    iexact HO
  isplitl [H0]; · iexact H0
  isplitl [H1]; · iexact H1
  isplitl [H2]; · iexact H2
  isplitl [H3]; · iexact H3
  isplitl [H4]; · iexact H4
  iapply (result_out m ρ c); iexact Hout

/-- The body obligation on core `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ WP c (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _)
      (Memref.whole cc0_stg5_0) (Memref.isWhole_whole _) (Memref.whole cc0_scratch0) (Memref.isWhole_whole _) cc0_scratch1 cc0_scratch2 cc0_scratch3 cc0_scoped0) (fun _ => bodyPost m ρ c)
  refine (pre_arm m ρ c).trans ?_
  iintro ⟨%K, H⟩
  iapply (wp_fupd frame _ Set.univ)
  iapply (body_run (Q := fun _ => iprop(|={Set.univ}=> bodyPost m ρ c)) (post_disarm m ρ K c))
  iexact H

end Body

/-! ## The launch -/

/-- The kernel's own semaphores are the ones that the launch allocates, each once. -/
theorem ownSemFacts : Pipeline.OwnSemFacts cfg0.spec osem := by decide

/-- Every window is held whole. -/
theorem share_eq (c : Dev nD) (w : Fin cfg0.W) : (dats m ρ 0 c).share w = fullShare := by unfold Dat.share; split <;> rfl

def cells : Finset (GSem nD τ sig) := Finset.univ.map ⟨kcell, kcell_injective⟩

/-- Every duty's token, by its payer. -/
abbrev tokOf (x : Dev nD × (Dev nD × CK)) : GSem nD τ sig × ℕ × Dev nD := (kcell x.2, 0, x.1)
/-- Different duties have different tokens. -/
theorem tokOf_injective : Function.Injective tokOf := fun a b h =>
  Prod.ext (congrArg (fun x => x.2.2) h) (kcell_injective (congrArg Prod.fst h))
def toks : Finset (GSem nD τ sig × ℕ × Dev nD) := Finset.univ.map ⟨tokOf, tokOf_injective⟩

def u₀ : UU := (initOf (Pipeline.cells cfgs cellOf_inj) (Pipeline.launchToks cfgs cellOf_inj), initOf cells toks)

/-- What the launch deals device `c`. -/
def G (c : Dev nD) : sProp 𝕄 :=
  iprop((bigSep Finset.univ fun k : CK => roundState ER (Rd (ys m ρ)) (cell c k) 0)
    ∗ (bigSep Finset.univ fun k : CK => atPos ER (cell c k) 0 ∅ 0) ∗ (bigSep Finset.univ fun k : CK => reached ER (cell c k) 0)
    ∗ bigSep Finset.univ (tok (F := F) c))

/-- What the global step makes of it. -/
def G' (c : Dev nD) : sProp 𝕄 := iprop(∃ K, record (ys m ρ) K ∗ linear (F := F) c)

/-- The tree's resources at launch can be dealt out to the devices. -/
theorem fund_tree : BI.own (ER (initOf cells toks)) ⊢ (|==> bigSep Finset.univ (G m ρ) : sProp 𝕄) := by
  have hX (Φ : GSem nD τ sig → sProp 𝕄) : bigSep cells Φ = bigSep Finset.univ fun c : Dev nD => bigSep Finset.univ fun k : CK => Φ (cell c k) := by
    unfold cells; rw [bigSep_map, bigSep_univ_prod]; rfl
  have hT : bigSep toks (fun x => (dutyTok ER x.1 x.2.1 x.2.2 : sProp 𝕄)) = bigSep Finset.univ fun c : Dev nD => bigSep Finset.univ (tok (F := F) c) := by
    unfold toks; rw [bigSep_map, bigSep_univ_prod]; rfl
  iintro HX
  imod (Rounds.fund ER (Rd (ys m ρ)) cells toks) $$ HX with ⟨Hst, Hr, Hat, Htok⟩
  imodintro
  ihave Hst' := (Entails.of_eq (hX fun g => roundState ER (Rd (ys m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

/-! ### The semaphores -/

/-- Which cell the kernel's own semaphore `i` is. -/
def oidx (i : Fin 41) : CK := if h : i.val = 0 then .inl 1 else
  .inr (⟨(i.val - 1) / 8, by have := i.isLt; omega⟩, ⟨(i.val - 1) % 8, by omega⟩)
/-- The kernel's own semaphore `i` is the cell `oidx i`. -/
theorem osem_eq (i : Fin 41) : osem i = csem (oidx i) := by
  unfold osem oidx; split <;> rfl
/-- Different semaphores are different cells. -/
theorem oidx_injective : Function.Injective oidx := by decide
/-- The cells other than the barrier are the kernel's own semaphores. -/
theorem erase_bar : (Finset.univ : Finset CK).erase (.inl 0) = Finset.univ.map ⟨oidx, oidx_injective⟩ := by decide

/-- All of a device's cells are the barrier and the kernel's own. -/
theorem sems_eq (c : Dev nD) : (bigSep Finset.univ fun k : CK => (semVal (cell c k) 0 : sProp 𝕄))
    = iprop(unscopedSems0 c ∗ Pipeline.ownSems0 (Ix := Unit) (Name := ℕ) (U := UU) (Lvl := ℕ) (Val := Elt F) (τ := τ) osem c) := by
  rw [bigSep_erase (Finset.mem_univ (.inl 0 : CK)), erase_bar, bigSep_map]
  unfold unscopedSems0 Pipeline.ownSems0
  rw [bigSep_eq_bigSepL_of_eq [csem (.inl 0)] (by decide) (by decide)]
  refine congrArg (fun X => iprop(_ ∗ X)) (bigSep_congr fun i _ => ?_)
  rw [osem_eq]; rfl

/-- One device's semaphores become its cells, each with its schedule. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CK => iprop(∃ κ : ℕ, cellInv ER (Rd (ys m ρ)) κ (kcell (c, k))))
          ∗ (bigSep Finset.univ fun k : CK => reached ER (kcell (c, k)) 0) ∗ linear (F := F) c) := by
  unfold G linear
  iintro ⟨Hos, Hus, Hst, Hat, Hr, Htok⟩
  ihave Hv := (Entails.of_eq (sems_eq (F := F) c).symm) $$ [Hos Hus]
  · isplitl [Hus] <;> iassumption
  imod (show iprop((bigSep Finset.univ fun k : CK => semVal (cell c k) 0) ∗ bigSep Finset.univ fun k : CK => roundState ER (Rd (ys m ρ)) (cell c k) 0)
      ⊢ (|={Set.univ}=> bigSep Finset.univ fun k : CK => iprop(∃ κ : ℕ, cellInv ER (Rd (ys m ρ)) κ (kcell (c, k))) : sProp 𝕄) from by
        rw [← bigSep_sep']
        exact (bigSep_mono fun k _ => (Rounds.body_intro ER (Rd (ys m ρ)) (kcell (c, k))).trans inv_alloc).trans (bigSep_fupd _ _)) $$ [Hv Hst] with Hinv
  · isplitl [Hv] <;> iassumption
  imodintro
  isplitl [Hinv]; · iexact Hinv
  isplitl [Hr]; · iexact Hr
  isplitl [Hat]; · iexact Hat
  iexact Htok

/-- Each device may know the cells of all the others. -/
theorem regroup :
    (bigSep Finset.univ fun c : Dev nD => iprop((bigSep Finset.univ fun k : CK => iprop(∃ κ : ℕ, cellInv ER (Rd (ys m ρ)) κ (kcell (c, k))))
          ∗ (bigSep Finset.univ fun k : CK => reached ER (kcell (c, k)) 0) ∗ linear (F := F) c) : sProp 𝕄)
      ⊢ bigSep Finset.univ (G' m ρ) := by
  rw [bigSep_sep', bigSep_sep', ← bigSep_univ_prod (fun ck : Dev nD × CK => iprop(∃ κ : ℕ, cellInv ER (Rd (ys m ρ)) κ (kcell ck))),
    ← bigSep_univ_prod (fun ck : Dev nD × CK => (reached ER (kcell ck) 0 : sProp 𝕄))]
  iintro ⟨HI, HR, Hlin⟩
  ihave HK := (BI.bigSep_exists_pi Finset.univ (fun (ck : Dev nD × CK) (κ : ℕ) => (cellInv ER (Rd (ys m ρ)) κ (kcell ck) : sProp 𝕄))) $$ HI
  icases HK with ⟨%K, HI⟩
  iapply (bigSep_with (R := record (ys m ρ) K) (Φ := linear (F := F)) fun c _ => show iprop(record (ys m ρ) K ∗ linear (F := F) c) ⊢ G' m ρ c from by
    unfold G'; iintro H; iexists K; iexact H)
  isplitl [HI HR]
  · unfold record; rw [bigSep_sep']
    isplitl [HI] <;> iassumption
  iexact Hlin

/-- The global step: every device's semaphores at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch's side conditions -/

/-- What the launch gives a device is what its run starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

/-- With the communication buffer it is the state before the body. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ comm
  iintro ⟨Hs, -, Hr⟩
  isplitl [Hs]; · iexact Hs
  iexact Hr

/-- The state after the body gives back the semaphores, at zero, and the communication buffer. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ comm
  iintro ⟨Hr, HV⟩
  ihave HV' := (Entails.of_eq (sems_eq (F := F) c)) $$ HV
  icases HV' with ⟨Hu, Ho⟩
  isplitl [Hu]; · iexact Hu
  isplitl [Ho]; · iexact Ho
  iexact Hr

/-- The launch's own waits are below everything a device owes. -/
theorem waits (c : Dev nD) : (levAts L lv : sProp 𝕄) ⊢ Pipeline.cellsWaits cfgs (dats m ρ) () 0 c :=
  Pipeline.cellsWaits_intro cfgs (dats m ρ) () 0 c fun w s t =>
    mayWait (n := 0) (by
      rcases t with ⟨_ | _, ht⟩
      · exact above_O₀ c
      · exact above_zero 0) (by fin_cases w <;> fin_cases s <;> exact Nat.le_refl 0)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- Every fair execution of the eight devices ends, every argument and result array at its computed contents and every
    semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_tree m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- A window's one block is its whole array. -/
theorem read_out (f : (main_v1 : Ref sig .tc).ty.Contents (Elt F)) : (win0_5.blk t0_0).view.read (Elt F) f = f :=
  Memref.read_access_unit_zero (Elt F) main_v1
    (show (fun a => (win0_5.index t0_0) a * main_v1.ty.shape.size a) = fun _ => 0 from funext fun a => by fin_cases a <;> decide) (fun a => by fin_cases a <;> decide) f

/-- The result array ends at the computed contents. -/
theorem finalA_out (c : Dev nD) : finalA m ρ c (5 : Fin 6) = (res m ρ c : Buf (Elt F) ((c : Thread nD τ).loc main_v1)) := by
  have hw : ((cfg0.win (5 : Fin 6)).blk t0_0).view.read (Elt F) (finalA m ρ c (5 : Fin 6)) = res m ρ c := by
    unfold finalA
    rw [show cfg0.N = t0_0.val + 1 from rfl, (dats m ρ 0 c).arrAt_succ (5 : Fin 6) t0_0, if_pos (by decide)]
    exact View.read_write_univ _ _
  exact (read_out _).symm.trans hw

/-- What every run of the kernel ends in: each device's result and arguments, and every semaphore at zero. -/
theorem run_all : θ_run defs (onTc (τ := τ) (main (F := F))) ⟨m, fun _ => 0, ρ⟩ (fun r => (∀ c : Dev nD,
      r.2.mem ((c.tc : Thread nD τ).loc main_v1) = (res m ρ c : Buf (Elt F) ((c : Thread nD τ).loc main_v1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c 5).trans (finalA_out m ρ c),
      (h.1 c 0).trans ((dats m ρ 0 c).arrAt_in (0 : Fin 6) rfl _), (h.1 c 1).trans ((dats m ρ 0 c).arrAt_in (1 : Fin 6) rfl _),
      (h.1 c 2).trans ((dats m ρ 0 c).arrAt_in (2 : Fin 6) rfl _), (h.1 c 3).trans ((dats m ρ 0 c).arrAt_in (3 : Fin 6) rfl _),
      (h.1 c 4).trans ((dats m ρ 0 c).arrAt_in (4 : Fin 6) rfl _)⟩, h.2⟩) (run_main m ρ)

end Cert.KernelIdealProof

end
-- ==== Proof.Value.Soft.lean ====
/-
# 01_k — `Value.Soft`: attention over the extended reals, for both programs

One row of scores, masked with `⊥`: its maximum, the exponentials under it, and the two ways of weighting the values —
dividing each weight first, as the reference does, or multiplying the weighted sum by the reciprocal at the end, as the
kernel does. They agree when the visible scores are finite and one key is visible.
-/
module

public import Idealize.ShloMosaic.PureOps.Ideal.Laws

@[expose] public section

noncomputable section

namespace Cert.Value

open Idealize.ShloMosaic
open scoped BigOperators

/-- The largest of the scores. -/
def top {N : ℕ} (s : Fin N → EReal) : EReal := Finset.univ.fold max ⊥ s

/-- The weight of key `j` before normalization. -/
def wt {N : ℕ} (s : Fin N → EReal) (j : Fin N) : EReal := Ideal.exp (s j - top s)

/-- The reference's weighted values. -/
def ctxR {N : ℕ} (s v : Fin N → EReal) : EReal := ∑ j, v j * Ideal.div (wt s j) (∑ k, wt s k)

/-- The kernel's weighted values. -/
def ctxK {N : ℕ} (s v : Fin N → EReal) : EReal := (∑ j, wt s j * v j) * Ideal.div 1 (∑ k, wt s k)

/-- A sum over all keys is the sum over the first `w` when the others contribute nothing. -/
theorem sum_cut {w N : ℕ} (h : w ≤ N) (f : Fin N → EReal) (hf : ∀ j : Fin N, w ≤ j.val → f j = 0) :
    ∑ j, f j = ∑ j : Fin w, f (Fin.castLE h j) := by
  symm
  refine Finset.sum_of_injOn (Fin.castLE h) (fun a _ b _ e => Fin.castLE_injective h e) (fun _ _ => Finset.mem_coe.2 (Finset.mem_univ _)) ?_ (fun _ _ => rfl)
  intro j _ hj
  refine hf j (Nat.le_of_not_lt fun hlt => hj ?_)
  exact ⟨⟨j.val, hlt⟩, Finset.mem_coe.2 (Finset.mem_univ _), Fin.ext rfl⟩

/-- So is the maximum when the others are masked. -/
theorem top_cut {w N : ℕ} (h : w ≤ N) (s : Fin N → EReal) (hs : ∀ j : Fin N, w ≤ j.val → s j = ⊥) :
    top s = top fun j : Fin w => s (Fin.castLE h j) := by
  unfold top
  apply le_antisymm
  · rw [Finset.fold_max_le]
    refine ⟨bot_le, fun j _ => ?_⟩
    by_cases hj : w ≤ j.val
    · rw [hs j hj]; exact bot_le
    · rw [Finset.le_fold_max]
      exact .inr ⟨⟨j.val, by omega⟩, Finset.mem_univ _, le_refl _⟩
  · rw [Finset.fold_max_le]
    refine ⟨bot_le, fun j _ => ?_⟩
    rw [Finset.le_fold_max]
    exact .inr ⟨_, Finset.mem_univ _, le_refl _⟩

/-- The maximum of scores that are not `⊤`, one of them not `⊥`, is real. -/
theorem top_real {N : ℕ} (s : Fin N → EReal) (h1 : ∀ j, s j ≠ ⊤) (h0 : ∃ j, s j ≠ ⊥) : ∃ r : ℝ, top s = (r : EReal) := by
  have ht : top s ≠ ⊤ := by
    have : top s < ⊤ := by
      unfold top
      rw [Finset.fold_max_lt]
      exact ⟨bot_lt_top, fun j _ => lt_top_iff_ne_top.2 (h1 j)⟩
    exact this.ne
  have hb : top s ≠ ⊥ := by
    obtain ⟨j, hj⟩ := h0
    have : s j ≤ top s := by
      unfold top
      rw [Finset.le_fold_max]
      exact .inr ⟨j, Finset.mem_univ _, le_refl _⟩
    exact fun e => hj (le_bot_iff.1 (e ▸ this))
  exact ⟨(top s).toReal, (EReal.coe_toReal ht hb).symm⟩

/-- Under it a masked score weighs nothing. -/
theorem wt_bot {N : ℕ} (s : Fin N → EReal) (j : Fin N) (hj : s j = ⊥) : wt s j = 0 := by
  unfold wt
  rw [hj, EReal.bot_sub]
  rfl

/-- The weights are nonnegative reals, and a visible one is positive. -/
theorem wt_real {N : ℕ} (s : Fin N → EReal) (h1 : ∀ j, s j ≠ ⊤) (h0 : ∃ j, s j ≠ ⊥) (j : Fin N) :
    ∃ e : ℝ, wt s j = (e : EReal) ∧ 0 ≤ e ∧ (s j ≠ ⊥ → 0 < e) := by
  by_cases hj : s j = ⊥
  · exact ⟨0, wt_bot s j hj, le_refl _, fun h => absurd hj h⟩
  · obtain ⟨r, hr⟩ := top_real s h1 h0
    refine ⟨Real.exp ((s j).toReal - r), ?_, (Real.exp_pos _).le, fun _ => Real.exp_pos _⟩
    unfold wt
    rw [hr, ← EReal.coe_toReal (h1 j) hj, ← EReal.coe_sub]
    rfl

/-- A finite sum of reals is the real sum. -/
theorem sum_coe {ι : Type} [Fintype ι] (f : ι → ℝ) : ∑ j, ((f j : ℝ) : EReal) = ((∑ j, f j : ℝ) : EReal) := by
  classical
  induction (Finset.univ : Finset ι) using Finset.induction_on with
  | empty => simp
  | insert a s ha ih => rw [Finset.sum_insert ha, Finset.sum_insert ha, ih, EReal.coe_add]

/-- A finite sum of values that are real is real. -/
theorem sum_real {ι : Type} [Fintype ι] (f : ι → EReal) (hf : ∀ j, ∃ r : ℝ, f j = (r : EReal)) : ∃ r : ℝ, ∑ j, f j = (r : EReal) := by
  choose g hg using hf
  exact ⟨∑ j, g j, by rw [← sum_coe]; exact Finset.sum_congr rfl fun j _ => hg j⟩

/-- Multiplication by a nonnegative real distributes over any finite sum. -/
theorem sum_mul_coe {ι : Type} [Fintype ι] (f : ι → EReal) (c : ℝ) (hc : 0 ≤ c) : (∑ j, f j) * (c : EReal) = ∑ j, f j * (c : EReal) := by
  classical
  have hc' : (0 : EReal) ≤ (c : EReal) := EReal.coe_nonneg.2 hc
  induction (Finset.univ : Finset ι) using Finset.induction_on with
  | empty => simp
  | insert a s ha ih =>
    rw [Finset.sum_insert ha, Finset.sum_insert ha, EReal.right_distrib_of_nonneg_of_ne_top hc' (EReal.coe_ne_top _), ih]

/-- **The two orders agree**, the kernel's over the first `w` keys and the reference's over all. -/
theorem ctx_eq {w N : ℕ} (h : w ≤ N) (s v : Fin N → EReal) (hs : ∀ j : Fin N, w ≤ j.val → s j = ⊥) (h1 : ∀ j, s j ≠ ⊤)
    (h0 : ∃ j : Fin w, s (Fin.castLE h j) ≠ ⊥) :
    ctxK (fun j : Fin w => s (Fin.castLE h j)) (fun j => v (Fin.castLE h j)) = ctxR s v := by
  have hb : ∃ j, s j ≠ ⊥ := h0.elim fun j hj => ⟨_, hj⟩
  have e : ∀ j : Fin w, wt (fun j : Fin w => s (Fin.castLE h j)) j = wt s (Fin.castLE h j) := fun j => by
    unfold wt
    rw [top_cut h s hs]
  have z : ∀ j : Fin N, w ≤ j.val → wt s j = 0 := fun j hj => wt_bot s j (hs j hj)
  choose g hg hn hp using wt_real s h1 hb
  have hD : ∑ k, wt s k = ((∑ k, g k : ℝ) : EReal) := by rw [← sum_coe]; exact Finset.sum_congr rfl fun k _ => hg k
  have hpos : (0 : ℝ) < ∑ k, g k := by
    obtain ⟨j, hj⟩ := hb
    exact lt_of_lt_of_le (hp j hj) (Finset.single_le_sum (f := g) (fun k _ => hn k) (Finset.mem_univ j))
  have hDw : ∑ k : Fin w, wt s (Fin.castLE h k) = ((∑ k, g k : ℝ) : EReal) := by rw [← hD]; exact (sum_cut h _ z).symm
  unfold ctxK ctxR
  simp only [e]
  rw [hDw, hD, Ideal.div_coe hpos.ne', one_mul, sum_mul_coe _ _ (one_div_nonneg.2 hpos.le)]
  rw [sum_cut h (fun j => v j * Ideal.div (wt s j) _) fun j hj => by rw [z j hj, Ideal.div_coe hpos.ne', zero_mul, mul_zero]]
  refine Finset.sum_congr rfl fun j _ => ?_
  rw [Ideal.div_coe hpos.ne', mul_comm (wt s _) (v _), mul_assoc]

end Cert.Value

end
-- ==== Proof.Value.Mask.lean ====
/-
# 01_k — `Value.Mask`: which keys a query row sees

Both programs number the keys and the queries, divide by 64 rounding down, and compare. Here the printed words are read
as naturals: a key is visible when its block is not after the query's.
-/
module

public import proofs.«01_k».proof.Proof.Ideal.Values
public import proofs.«01_k».proof.Proof.Gen.ReferenceIdeal.Read
public import Idealize.ShloMosaic.Lib.Routing.Words

@[expose] public section

noncomputable section

namespace Cert.Value

open Idealize.ShloMosaic Idealize.ShloMosaic.ValueIdx Idealize.ShloMosaic.WordCmp

/-- The kernel's division, at the word of a natural. -/
theorem div64_ap {s : Shape} (v : IVec s 32) (i : s.Idx) {a : ℕ} (hv : v i = BitVec.ofNat 32 a) (ha : a < 2 ^ 31) :
    Cert.KernelIdealProof.div64 v i = BitVec.ofNat 32 (a / 64) := by
  have e64 : (64#32 : BitVec 32) = BitVec.ofNat 32 64 := rfl
  unfold Cert.KernelIdealProof.div64
  show Scalar.select (IntOp.andi (IntOp.cmpi .ne (IntOp.subi ((IntOp.cmpi .sgt (v i) 0#32).setWidth 32) ((IntOp.cmpi .slt (v i) 0#32).setWidth 32)) _)
      (IntOp.cmpi .ne (IntOp.remsi .vector (v i) 64#32) 0#32)) (IntOp.subi (IntOp.divsi .vector (v i) 64#32) 1#32) (IntOp.divsi .vector (v i) 64#32) = _
  rw [hv, e64, Routing.remsi_word _ ha (by decide) (by decide), Routing.divsi_word _ ha (by decide) (by decide)]
  rcases Nat.eq_zero_or_pos a with h | h
  · subst h
    rw [show IntOp.cmpi .ne (BitVec.ofNat 32 (0 % 64)) 0#32 = 0#1 by decide]
    show Scalar.select (_ &&& 0#1) _ _ = _
    rw [BitVec.and_zero]
    rfl
  · have h1 : IntOp.cmpi .sgt (BitVec.ofNat 32 a) 0#32 = 1#1 := by
      rw [show (0#32 : BitVec 32) = BitVec.ofNat 32 0 from rfl, cmpi_sgt_ofNat (w := 32) ha (by decide), decide_eq_true h]
      rfl
    have h2 : IntOp.cmpi .slt (BitVec.ofNat 32 a) 0#32 = 0#1 := by
      rw [show (0#32 : BitVec 32) = BitVec.ofNat 32 0 from rfl, cmpi_slt_ofNat (w := 32) ha (by decide), decide_eq_false (by omega)]
      rfl
    rw [h1, h2]
    show Scalar.select (0#1 &&& _) _ _ = _
    rw [BitVec.zero_and]
    rfl

/-- **The kernel's mask** of chunk `k`, at its row `r` and key `j`. -/
theorem maskK (k : Fin 8) (r : Fin 128) (j : Fin (128 * (k.val + 1))) :
    Cert.KernelIdealProof.maskW (Cert.KernelIdealProof.wd k) (BitVec.ofNat 32 (2 * k.val)) (ix2 r j)
      = BitVec.ofBool (decide (j.val / 64 ≤ (128 * k.val + r.val) / 64)) := by
  have hk := k.isLt
  have hr := r.isLt
  have hj := j.isLt
  unfold Cert.KernelIdealProof.maskW
  show IntOp.cmpi .sle (Cert.KernelIdealProof.div64 _ _) (IntOp.addi (Cert.KernelIdealProof.div64 _ _) (BitVec.ofNat 32 (2 * k.val))) = _
  rw [div64_ap _ (ix2 r j) (a := j.val) (iota_single_apply _ _ _ _ _ _) (by omega), div64_ap _ (ix2 r j) (a := r.val) (iota_single_apply _ _ _ _ _ _) (by omega)]
  show IntOp.cmpi .sle _ (BitVec.ofNat 32 (r.val / 64) + BitVec.ofNat 32 (2 * k.val)) = _
  rw [← BitVec.ofNat_add, cmpi_sle_ofNat (w := 32) (by omega) (by omega)]
  exact congrArg BitVec.ofBool (decide_eq_decide.2 (by omega))

open Cert.ReferenceIdeal Cert.ReferenceIdeal.Gen Cert.ReferenceIdeal.Read

/-- **The reference's mask**, at query `i` and key `j`. -/
theorem maskR (i : Fin 1024) (j : Fin 8192) :
    val_main_v14 (F := Ideal) (ix2 i j) = BitVec.ofBool (decide (j.val / 64 ≤ i.val / 64)) := by
  have hi := i.isLt
  have hj := j.isLt
  have e7 : val_main_v7 (F := Ideal) (ix1 i) = BitVec.ofNat 32 (i.val / 64) :=
    Routing.pyDiv_ap bcast_S_S1024 (val_main_v6 (F := Ideal)) (val_main_c (F := Ideal)) (ix1 i) rfl rfl (by omega) (by decide) (by decide)
  have e10 : val_main_v10 (F := Ideal) (ix1 j) = BitVec.ofNat 32 (j.val / 64) :=
    Routing.pyDiv_ap bcast_S_S8192 (val_main_v9 (F := Ideal)) (val_main_c_0 (F := Ideal)) (ix1 j) rfl rfl (by omega) (by decide) (by decide)
  rw [val_main_v14_apply, val_main_v12_apply, val_main_v11_apply, val_main_v13_apply, val_main_v8_apply]
  rw [show idx_main_v11 (idx_main_v12 (ix2 i j)) = ix1 j from eq_ix1 _, show idx_main_v8 (idx_main_v13 (ix2 i j)) = ix1 i from eq_ix1 _, e7, e10]
  exact cmpi_sle_ofNat (w := 32) (by omega) (by omega)

/-- A fold of bits by `or` is set when one of them is. -/
theorem fold_ori {N : ℕ} (b : BitVec 1) (f : Fin N → BitVec 1) (j : Fin N) (hj : f j = 1#1) :
    (Finset.univ : Finset (Fin N)).fold IntOp.ori b f = 1#1 := by
  rw [← Finset.insert_erase (Finset.mem_univ j), Finset.fold_insert (Finset.notMem_erase _ _), hj]
  exact (show ∀ x : BitVec 1, 1#1 ||| x = 1#1 by decide) _

/-- The reduction of the mask over the keys is well formed. -/
theorem redKeep : S1024x8192.Reduces [1] S1024 := by decide

/-- Every row sees a key: the reference keeps them all. -/
theorem keepR (i : S1024.Idx) : val_main_v28 (F := Ideal) i = 1#1 := by
  have e : redKeep.lift i (0 : Fin 8192) = ix2 (i 0 : Fin 1024) (0 : Fin 8192) :=
    funext fun a => match a with | ⟨0, _⟩ => rfl | ⟨1, _⟩ => rfl
  refine (Host.reduce_eq_fold_single _ _ _ _ redKeep _ i).trans (fold_ori _ _ (0 : Fin 8192) ?_)
  exact (congrArg (val_main_v14 (F := Ideal)) e).trans ((maskR (i 0) 0).trans (by rw [decide_eq_true (by simp)]; rfl))

end Cert.Value

end
-- ==== Proof.Value.Kernel.lean ====
/-
# 01_k — `Value.Kernel`: the kernel's result at an index, over the extended reals

The chunk of `Ideal.Values` read one element at a time: queries and scores as sums, each head as `ctxK` of its row of
masked scores, the output as a sum over the concatenated heads.
-/
module

public import proofs.«01_k».proof.Proof.Value.Soft
public import proofs.«01_k».proof.Proof.Value.Mask
public import Idealize.ShloMosaic.Lib.MatmulPlain
public import Idealize.ShloMosaic.Lib.IdealHost

@[expose] public section

noncomputable section

namespace Cert.Value

open Idealize.ShloMosaic Idealize.ShloMosaic.ValueIdx
open scoped BigOperators

/-- The scale of the scores. -/
def scl : EReal := Ideal.ofBits .f32 0x3DB504F3#32

/-- Column `d` of head `h`. -/
def col (h : Fin 8) (d : Fin 128) : Fin 1024 := ⟨128 * h.val + d.val, by have := h.isLt; have := d.isLt; omega⟩

/-- Query `i` of chunk `k`'s row `r`. -/
def row (k : Fin 8) (r : Fin 128) : Fin 1024 := ⟨128 * k.val + r.val, by have := k.isLt; have := r.isLt; omega⟩

/-- The queries. -/
def qv (X W : Fin 1024 → Fin 1024 → EReal) (i e : Fin 1024) : EReal := ∑ t, X i t * W t e

section Kernel
open Cert.KernelIdeal Cert.KernelIdeal.Gen Cert.KernelIdealProof

/-- The arguments by coordinates. -/
abbrev xM (x : Vec Ideal S1x1024x1024 .bf16) : Fin 1024 → Fin 1024 → EReal := fun i t => x (ix3 0 i t)
abbrev mM (m : Vec Ideal S1024x1024 .bf16) : Fin 1024 → Fin 1024 → EReal := fun i t => m (ix2 i t)

/-- An entry of a chunk's queries: the projected row, times the scale. -/
theorem qW_apply (wq : Vec Ideal S1024x1024 .bf16) (x : Vec Ideal S1x1024x1024 .bf16) (k : Fin 8) (r : Fin 128) (e : Fin 1024) :
    qW (F := Ideal) (matW wq) (rowOf x k) (ix2 r e) = qv (xM x) (mM wq) (row k r) e * scl := by
  unfold qW matW
  rw [shapeCast_self]
  show FloatOps.matmul (F := Ideal) (DotDims.plain 128 1024 1024) none (shapeCast S128x1024 (rowOf x k) _) wq _ (ix2 r e) * scl = _
  rw [Ideal.matmul_plain_apply]
  show (Ideal.ofBits .f32 0x00000000#32 + _) * scl = _
  rw [Ideal.ofBits_zero_f32, zero_add]
  refine congrArg (· * scl) (Finset.sum_congr rfl fun t _ => congrArg (· * wq (ix2 t e)) ?_)
  refine (shapeCast_apply (rowOf x k) _ (ix2 r t) (ix3 0 r t) ?_).trans (congrArg x ?_)
  · rw [Shape.rowMajor_val_three, Shape.rowMajor_val_two]
    show (0 * 128 + r.val) * 1024 + t.val = r.val * 1024 + t.val
    omega
  · funext a
    match a with
    | ⟨0, _⟩ => rfl
    | ⟨1, _⟩ => exact Fin.ext (by show 128 * k.val + 1 * r.val = 128 * k.val + r.val; omega)
    | ⟨2, _⟩ => exact Fin.ext (by show 0 + 1 * t.val = t.val; omega)

/-- An entry of the keys or values as a matrix: column `128 * h + d` is head `h`, coordinate `d`. -/
theorem kvW_apply (m : Vec Ideal S1x1024x8x128 .bf16) (j : Fin 1024) (h : Fin 8) (d : Fin 128) :
    kvW (F := Ideal) m (ix2 j (col h d)) = m (ix4 0 j h d) := by
  unfold kvW
  refine (shapeCast_apply _ _ (ix2 j (col h d)) (ix3 j h d) ?_).trans (shapeCast_apply _ _ (ix3 j h d) (ix4 0 j h d) ?_)
  · rw [Shape.rowMajor_val_three, Shape.rowMajor_val_two]
    show (j.val * 8 + h.val) * 128 + d.val = j.val * 1024 + (128 * h.val + d.val)
    omega
  · rw [Shape.rowMajor_val_three, Shape.rowMajor_val_four]
    show ((0 * 1024 + j.val) * 8 + h.val) * 128 + d.val = (j.val * 8 + h.val) * 128 + d.val
    omega

/-- A key of chunk `k`'s width. -/
def key {k : Fin 8} (j : Fin (128 * (k.val + 1))) : Fin 1024 := ⟨j.val, by have := k.isLt; have := j.isLt; omega⟩

/-- A row of masked scores, as the kernel computes it. -/
def srow (x : Vec Ideal S1x1024x1024 .bf16) (wq : Vec Ideal S1024x1024 .bf16) (kk : Vec Ideal S1x1024x8x128 .bf16)
    (k : Fin 8) (h : Fin 8) (r : Fin 128) (j : Fin (128 * (k.val + 1))) : EReal :=
  if j.val / 64 ≤ (128 * k.val + r.val) / 64 then ∑ d, (qv (xM x) (mM wq) (row k r) (col h d) * scl) * kk (ix4 0 (key j) h d) else ⊥

/-- The fill of the masked scores is −∞. -/
theorem negC_eq : (negC : Ideal .f32) = ⊥ := IdealRules.named_const.ideal_named_scalar _ _ _ _ rfl

/-- An entry of a chunk's scores: the row's score where the key is visible, else −∞. -/
theorem scoresW_apply (x : Vec Ideal S1x1024x1024 .bf16) (wq : Vec Ideal S1024x1024 .bf16) (kk : Vec Ideal S1x1024x8x128 .bf16)
    (k : Fin 8) (h : Fin 8) (r : Fin 128) (j : Fin (128 * (k.val + 1))) :
    scoresW (F := Ideal) (wd k) (qW (matW wq) (rowOf x k)) (kvW kk) (maskW (wd k) (BitVec.ofNat 32 (2 * k.val))) h (ix2 r j)
      = srow x wq kk k h r j := by
  unfold scoresW srow
  rw [select_apply, maskK]
  show (if BitVec.ofBool (decide _) = 1#1 then _ else (negC : Ideal .f32)) = _
  rw [negC_eq]
  by_cases hv : j.val / 64 ≤ (128 * k.val + r.val) / 64
  · rw [if_pos hv, decide_eq_true hv, if_pos (by decide)]
    show FloatOps.matmul (F := Ideal) (DotDims.transposedRhs 128 128 (128 * (k.val + 1))) none _ _ _ (ix2 r j) = _
    rw [Ideal.matmul_transposedRhs_apply]
    show Ideal.ofBits .f32 0x00000000#32 + _ = _
    rw [Ideal.ofBits_zero_f32, zero_add]
    refine Finset.sum_congr rfl fun d _ => congrArg₂ (· * ·) ?_ ?_
    · refine (extractStridedSlice_apply _ _ _ (ix2 r d) (ix2 r (col h d)) fun a => ?_).trans (qW_apply wq x k r (col h d))
      match a with
      | ⟨0, _⟩ => exact (Nat.zero_add _).symm
      | ⟨1, _⟩ => rfl
    · refine (extractStridedSlice_apply _ _ _ (ix2 j d) (ix2 (key j) (col h d)) fun a => ?_).trans (kvW_apply kk (key j) h d)
      match a with
      | ⟨0, _⟩ => exact (Nat.zero_add _).symm
      | ⟨1, _⟩ => rfl
  · rw [if_neg hv, decide_eq_false hv, if_neg (by decide)]

/-- A row's place in what a reduction over the keys reads. -/
theorem lift_row {w : ℕ} (H : Wd w) (r : Fin 128) (j : Fin w) : H.red.lift (ix1 r) j = ix2 r j :=
  funext fun a => match a with
    | ⟨0, _⟩ => rfl
    | ⟨1, _⟩ => rfl

/-- A column of row results is read at the row. -/
theorem row_cast {α : Type} (v : S128.Idx → α) (r : Fin 128) : shapeCast S128x1 v shapeCasts_S128_S128x1 (ix2 r (0 : Fin 1)) = v (ix1 r) := by
  refine shapeCast_apply v _ _ (ix1 r) ?_
  rw [Shape.rowMajor_val_two, Shape.rowMajor_val_one]
  show r.val = r.val * 1 + 0
  omega

/-- The float word of −∞ is −∞. -/
theorem ofBits_bot : Ideal.ofBits .f32 0xFF800000#32 = ⊥ := by
  simp [Ideal.ofBits, Ideal.ieee]

/-- A row's maximum. -/
theorem rowMax {w : ℕ} (H : Wd w) (sc : FVec Ideal (Sm w) .f32) (r : Fin 128) :
    multiReduction (F := Ideal) .maximumf [1] S128 sc 0xFF800000#32 H.red (.inl rfl) rfl (ix1 r) = top fun j : Fin w => sc (ix2 r j) := by
  refine (Ideal.multiReduction_maximumf_single _ _ H.red _ _ (ix1 r)).trans ?_
  show Finset.fold max (Ideal.ofBits .f32 0xFF800000#32) (sc ∘ H.red.lift (ix1 r)) (Finset.univ : Finset (Fin w)) = _
  rw [ofBits_bot]
  exact congrArg (fun f => Finset.fold max ⊥ f (Finset.univ : Finset (Fin w))) (funext fun j => congrArg sc (lift_row H r j))

/-- The exponentials of a row, whatever its scores. -/
theorem expW_apply {w : ℕ} (H : Wd w) (sc : FVec Ideal (Sm w) .f32) (r : Fin 128) (j : Fin w) :
    expW (F := Ideal) H sc (ix2 r j) = wt (fun j : Fin w => sc (ix2 r j)) j := by
  unfold expW wt
  show Ideal.exp (sc (ix2 r j) - broadcastTo (Sm w) _ H.br (ix2 r j)) = _
  refine congrArg (fun z => Ideal.exp (sc (ix2 r j) - z)) ?_
  refine (broadcastTo_apply _ H.br (ix2 r j) (ix2 r (0 : Fin 1)) fun a => ?_).trans ?_
  · match a with
    | ⟨0, _⟩ => rfl
    | ⟨1, _⟩ => rfl
  exact (row_cast _ r).trans (rowMax H sc r)

/-- A head's row, from its scores. -/
theorem headW_row {w : ℕ} (H : Wd w) (q : FVec Ideal S128x1024 .bf16) (kk vv : FVec Ideal S1024x1024 .bf16) (mask : IVec (Sm w) 1) (h : Fin 8)
    (r d : Fin 128) (hw : w ≤ 1024) :
    headW (F := Ideal) H q kk vv mask h (ix2 r d)
      = ctxK (fun j : Fin w => scoresW H q kk mask h (ix2 r j)) fun j => vv (ix2 (Fin.castLE hw j) (col h d)) := by
  unfold headW ctxK
  show FloatOps.matmul (F := Ideal) (DotDims.plain 128 w 128) none (expW H _) _ _ (ix2 r d) * broadcastTo S128x128 _ _ (ix2 r d) = _
  refine congrArg₂ (· * ·) ?_ ?_
  · rw [Ideal.matmul_plain_apply]
    show Ideal.ofBits .f32 0x00000000#32 + _ = _
    rw [Ideal.ofBits_zero_f32, zero_add]
    refine Finset.sum_congr rfl fun j _ => congrArg₂ (· * ·) (expW_apply H _ r j) ?_
    refine extractStridedSlice_apply _ _ _ (ix2 j d) (ix2 (Fin.castLE hw j) (col h d)) fun a => ?_
    match a with
    | ⟨0, _⟩ => exact (Nat.zero_add _).symm
    | ⟨1, _⟩ => rfl
  · refine (broadcastTo_apply _ _ (ix2 r d) (ix2 r (0 : Fin 1)) fun a => ?_).trans ?_
    · match a with
      | ⟨0, _⟩ => rfl
      | ⟨1, _⟩ => rfl
    show Ideal.div (Ideal.ofBits .f32 0x3F800000#32) _ = _
    rw [Ideal.ofBits_one_f32, row_cast]
    refine congrArg (Ideal.div 1) ((Ideal.multiReduction_add_single _ _ H.red _ _ (ix1 r)).trans (Finset.sum_congr rfl fun j _ => ?_))
    exact (congrArg _ (lift_row H r j)).trans (expW_apply H _ r j)

/-- **A head's row**, from the arguments. -/
theorem headW_apply (x : Vec Ideal S1x1024x1024 .bf16) (wq : Vec Ideal S1024x1024 .bf16) (kk vv : Vec Ideal S1x1024x8x128 .bf16)
    (k : Fin 8) (h : Fin 8) (r d : Fin 128) :
    headW (F := Ideal) (wd k) (qW (matW wq) (rowOf x k)) (kvW kk) (kvW vv) (maskW (wd k) (BitVec.ofNat 32 (2 * k.val))) h (ix2 r d)
      = ctxK (srow x wq kk k h r) fun j => vv (ix4 0 (key j) h d) := by
  rw [headW_row (wd k) _ _ _ _ h r d (by have := k.isLt; omega)]
  exact congrArg₂ ctxK (funext fun j => scoresW_apply x wq kk k h r j) (funext fun j => kvW_apply vv _ h d)

/-- Head and place of a column. -/
def hOf (e : Fin 1024) : Fin 8 := ⟨e.val / 128, by have := e.isLt; omega⟩
def dOf (e : Fin 1024) : Fin 128 := ⟨e.val % 128, by omega⟩

/-- An entry of a chunk of the result: the heads' contexts side by side, times the output matrix. -/
theorem mixW_apply (wo : FVec Ideal S1024x1024 .bf16) (hd : Fin 8 → FVec Ideal S128x128 .bf16) (r : Fin 128) (n : Fin 1024) :
    mixW (F := Ideal) wo hd (ix2 r n) = ∑ e : Fin 1024, hd (hOf e) (ix2 r (dOf e)) * wo (ix2 e n) := by
  unfold mixW
  show FloatOps.matmul (F := Ideal) (DotDims.plain 128 1024 1024) none (concatenate S128x1024 1 _ _) wo _ (ix2 r n) = _
  rw [Ideal.matmul_plain_apply]
  show Ideal.ofBits .f32 0x00000000#32 + _ = _
  rw [Ideal.ofBits_zero_f32, zero_add]
  refine Finset.sum_congr rfl fun e _ => congrArg (· * wo (ix2 e n)) ?_
  refine concatenate_ofFn_apply (s₁ := S128x128) 1 hd concatenates_S128x128_S128x128_S128x128_S128x128_S128x128_S128x128_S128x128_S128x128_S128x1024_d1
    rfl 128 rfl (ix2 r e) (hOf e) rfl (ix2 r (dOf e)) rfl fun b hb => ?_
  match b with
  | ⟨0, _⟩ => rfl
  | ⟨1, _⟩ => exact absurd rfl hb

/-- **A chunk's element.** -/
theorem chunkW_apply (x : Vec Ideal S1x1024x1024 .bf16) (wq : Vec Ideal S1024x1024 .bf16) (kk vv : Vec Ideal S1x1024x8x128 .bf16)
    (wo : Vec Ideal S1024x1024 .bf16) (k : Fin 8) (r : Fin 128) (n : Fin 1024) :
    chunkW (F := Ideal) x wq kk vv wo k (ix2 r n)
      = ∑ e : Fin 1024, ctxK (srow x wq kk k (hOf e) r) (fun j => vv (ix4 0 (key j) (hOf e) (dOf e))) * wo (ix2 e n) := by
  unfold chunkW
  rw [mixW_apply]
  refine Finset.sum_congr rfl fun e _ => congrArg₂ (· * ·) (headW_apply x wq kk vv k (hOf e) r (dOf e)) ?_
  unfold matW
  rw [shapeCast_self]

/-- What device 0 stores and what the others store are the same values. -/
theorem xW_apply (x : Vec Ideal S1x1024x1024 .bf16) (wq : Vec Ideal S1024x1024 .bf16) (kk vv : Vec Ideal S1x1024x8x128 .bf16)
    (wo : Vec Ideal S1024x1024 .bf16) (k : Fin 8) (r : Fin 128) (n : Fin 1024) :
    xW (F := Ideal) x wq kk vv wo k (ix3 0 r n) = chunkW x wq kk vv wo k (ix2 r n) := by
  unfold xW
  refine shapeCast_apply _ _ (ix3 0 r n) (ix2 r n) ?_
  rw [Shape.rowMajor_val_three, Shape.rowMajor_val_two]
  show r.val * 1024 + n.val = (0 * 128 + r.val) * 1024 + n.val
  omega

/-- What the other devices store after the trip through the communication buffer is what device 0 stores. -/
theorem zW_yW (x : Vec Ideal S1x1024x1024 .bf16) (wq : Vec Ideal S1024x1024 .bf16) (kk vv : Vec Ideal S1x1024x8x128 .bf16)
    (wo : Vec Ideal S1024x1024 .bf16) (k : Fin 8) :
    zW (F := Ideal) (yW x wq kk vv wo) k = xW x wq kk vv wo k := by
  unfold zW yW xW
  refine congrArg (fun z => shapeCast S1x128x1024 z _) ?_
  exact shapeCast_shapeCast (chunkW (F := Ideal) x wq kk vv wo k) _ _

end Kernel

end Cert.Value

end
-- ==== Proof.Value.Reference.lean ====
/-
# 01_k — `Value.Reference`: the reference's result at an index, over the extended reals

The printed operations chained one element at a time, down to the arguments: each query row's masked scores, their
weights, and the weighted values through the output matrix.
-/
module

public import proofs.«01_k».proof.Proof.Value.Kernel

@[expose] public section

noncomputable section

namespace Cert.Value

open Idealize.ShloMosaic Idealize.ShloMosaic.ValueIdx
open Cert.ReferenceIdeal Cert.ReferenceIdeal.Gen Cert.ReferenceIdeal.Read
open scoped BigOperators

section Reference

variable (x : FVec Ideal S1x1024x1024 .bf16) (wq : FVec Ideal S1024x1024 .bf16) (kk vv : FVec Ideal S1x8192x8x128 .bf16)
  (wo : FVec Ideal S1024x1024 .bf16)

/-- A row of masked scores, as the reference computes it. -/
def rrow (i : Fin 1024) (h : Fin 8) (j : Fin 8192) : EReal :=
  if j.val / 64 ≤ i.val / 64 then (∑ d, qv (fun i t => x (ix3 0 i t)) (fun i t => wq (ix2 i t)) i (col h d) * kk (ix4 0 j h d)) * scl else ⊥

/-- The queries, by head. -/
theorem v5_at (i : Fin 1024) (h : Fin 8) (d : Fin 128) :
    val_main_v5 (F := Ideal) x wq (ix4 0 i h d) = qv (fun i t => x (ix3 0 i t)) (fun i t => wq (ix2 i t)) i (col h d) := by
  have e : idx_main_v5 (ix4 (0 : Fin 1) i h d) = ix3 (0 : Fin 1) i (col h d) := funext fun a => Fin.ext (by
    have hi := i.isLt; have hh := h.isLt; have hd := d.isLt
    match a with
    | ⟨0, _⟩ => rfl
    | ⟨1, _⟩ => show (((0 * 1024 + i.val) * 8 + h.val) * 128 + d.val) / 1024 % 1024 = i.val; omega
    | ⟨2, _⟩ => show (((0 * 1024 + i.val) * 8 + h.val) * 128 + d.val) % 1024 = 128 * h.val + d.val; omega)
  rw [val_main_v5_apply, e, val_main_v4_apply, val_main_v3_apply]
  show val_main_v2 (F := Ideal) x wq (ix3 0 i (col h d)) = _
  rw [val_main_v2_apply]
  refine Finset.sum_congr rfl fun t _ => congrArg₂ (· * ·) ?_ ?_
  · exact congrArg x (eq_ix3 _)
  · exact congrArg wq (eq_ix2 _)

/-- The masked scores. -/
theorem v22_at (h : Fin 8) (i : Fin 1024) (j : Fin 8192) : val_main_v22 (F := Ideal) x wq kk (ix4 0 h i j) = rrow x wq kk i h j := by
  rw [val_main_v22_apply, val_main_call2_v1_apply, val_main_v21_apply, val_main_call2_v2_apply, val_main_call2_v0_apply, val_main_cst_1_apply,
    show idx_main_v21 (idx_main_call2_v1 (ix4 0 h i j)) = ix2 i j from eq_ix2 _, maskR]
  unfold rrow
  show (if BitVec.ofBool (decide _) = 1#1 then _ else Ideal.ofBits .f32 0xFF800000#32) = _
  rw [ofBits_bot]
  by_cases hv : j.val / 64 ≤ i.val / 64
  · rw [if_pos hv, decide_eq_true hv, if_pos (by decide), val_main_v20_apply, val_main_v19_apply, val_main_cst_apply, val_main_v18_apply, val_main_v17_apply]
    show val_main_v16 (F := Ideal) x wq kk (ix4 0 h i j) * scl = _
    rw [val_main_v16_apply]
    refine congrArg (· * scl) (Finset.sum_congr rfl fun d _ => congrArg₂ (· * ·) ?_ ?_)
    · exact (congrArg (val_main_v5 (F := Ideal) x wq) (eq_ix4 _)).trans (v5_at x wq i h d)
    · exact congrArg kk (eq_ix4 _)
  · rw [if_neg hv, decide_eq_false hv, if_neg (by decide)]

/-- The reduction of the scores over the keys is well formed. -/
theorem redRow : S1x8x1024x8192.Reduces [3] S1x8x1024 := by decide

/-- A row's maximum. -/
theorem v23_at (h : Fin 8) (i : Fin 1024) : val_main_v23 (F := Ideal) x wq kk (ix3 0 h i) = top (rrow x wq kk i h) := by
  refine (Host.reduce_eq_fold_single (FloatOps.maximumf (F := Ideal) (φ := .f32)) _ _ _ redRow _ (ix3 0 h i)).trans ?_
  show Finset.fold max (Ideal.ofBits .f32 0xFF800000#32) (val_main_v22 (F := Ideal) x wq kk ∘ redRow.lift (ix3 0 h i)) (Finset.univ : Finset (Fin 8192)) = _
  rw [ofBits_bot]
  refine congrArg (fun f => Finset.fold max ⊥ f (Finset.univ : Finset (Fin 8192))) (funext fun j => ?_)
  refine (congrArg (val_main_v22 (F := Ideal) x wq kk) (?_ : redRow.lift (ix3 0 h i) j = ix4 0 h i j)).trans (v22_at x wq kk h i j)
  exact funext fun a => match a with
    | ⟨0, _⟩ => rfl
    | ⟨1, _⟩ => rfl
    | ⟨2, _⟩ => rfl
    | ⟨3, _⟩ => rfl

/-- The weights, -/
theorem v27_at (h : Fin 8) (i : Fin 1024) (j : Fin 8192) : val_main_v27 (F := Ideal) x wq kk (ix4 0 h i j) = wt (rrow x wq kk i h) j := by
  rw [val_main_v27_apply, val_main_v26_apply, val_main_v25_apply, val_main_v24_apply,
    show idx_main_v24 (idx_main_v25 (ix4 0 h i j)) = ix3 0 h i from eq_ix3 _, v23_at, v22_at]
  rfl

/-- their sum, -/
theorem v30_at (h : Fin 8) (i : Fin 1024) : val_main_v30 (F := Ideal) x wq kk (ix3 0 h i) = ∑ j, wt (rrow x wq kk i h) j := by
  rw [val_main_v30_apply, val_main_cst_4_apply]
  show Ideal.ofBits .f32 0x00000000#32 + _ = _
  rw [Ideal.ofBits_zero_f32, zero_add]
  exact Finset.sum_congr rfl fun j _ => (congrArg (val_main_v27 (F := Ideal) x wq kk) (eq_ix4 _)).trans (v27_at x wq kk h i j)

/-- and the normalized weights. -/
theorem v36_at (h : Fin 8) (i : Fin 1024) (j : Fin 8192) :
    val_main_v36 (F := Ideal) x wq kk (ix4 0 h i j) = Ideal.div (wt (rrow x wq kk i h) j) (∑ k, wt (rrow x wq kk i h) k) := by
  rw [val_main_v36_apply, val_main_call4_v1_apply, val_main_v35_apply, keepR]
  show val_main_v34 (F := Ideal) x wq kk (ix4 0 h i j) = _
  rw [val_main_v34_apply, v27_at, val_main_v33_apply, val_main_v32_apply, val_main_call3_v1_apply, val_main_v29_apply, keepR]
  show Ideal.div _ (val_main_v31 (F := Ideal) x wq kk (idx_main_v33 (ix4 0 h i j))) = _
  rw [val_main_v31_apply, show idx_main_v31 (idx_main_v33 (ix4 0 h i j)) = ix3 0 h i from eq_ix3 _, v30_at]

/-- The weighted values. -/
theorem v38_at (h : Fin 8) (d : Fin 128) (i : Fin 1024) :
    val_main_v38 (F := Ideal) x wq kk vv (ix4 0 h d i) = ctxR (rrow x wq kk i h) fun j => vv (ix4 0 j h d) := by
  rw [val_main_v38_apply]
  refine Finset.sum_congr rfl fun j _ => congrArg₂ (· * ·) ?_ ?_
  · exact congrArg vv (eq_ix4 _)
  · exact (congrArg (val_main_v36 (F := Ideal) x wq kk) (eq_ix4 _)).trans (v36_at x wq kk h i j)

/-- **The result.** -/
theorem v42_at (i n : Fin 1024) :
    val_main_v42 (F := Ideal) x wq kk vv wo (ix3 0 i n)
      = ∑ e : Fin 1024, ctxR (rrow x wq kk i (hOf e)) (fun j => vv (ix4 0 j (hOf e) (dOf e))) * wo (ix2 e n) := by
  rw [val_main_v42_apply]
  refine Finset.sum_congr rfl fun e _ => congrArg₂ (· * ·) ?_ ?_
  · rw [val_main_v40_apply, val_main_v39_apply]
    refine (congrArg (val_main_v38 (F := Ideal) x wq kk vv) (?_ : _ = ix4 0 (hOf e) (dOf e) i)).trans (v38_at x wq kk vv (hOf e) (dOf e) i)
    have hi := i.isLt; have he := e.isLt
    exact funext fun a => Fin.ext (by
      match a with
      | ⟨0, _⟩ => rfl
      | ⟨1, _⟩ => show ((0 * 1024 + i.val) * 1024 + e.val) / 128 % 8 = e.val / 128; omega
      | ⟨2, _⟩ => show ((0 * 1024 + i.val) * 1024 + e.val) % 128 = e.val % 128; omega
      | ⟨3, _⟩ => show ((0 * 1024 + i.val) * 1024 + e.val) / 1024 % 1024 = i.val; omega)
  · exact congrArg wo (eq_ix2 _)

end Reference

end Cert.Value

end
-- ==== Proof.Value.Match.lean ====
/-
# 01_k — `Value.Match`: the kernel's result is the reference's

With finite inputs, queries and keys, every visible score is a real number; so each row of the kernel, over the first
keys and normalized last, is the reference's, over all keys and normalized first.
-/
module

public import proofs.«01_k».proof.Defs
public import proofs.«01_k».proof.Proof.Gen.Pre_finite_KernelIdeal
public import proofs.«01_k».proof.Proof.Value.Reference
public import proofs.«01_k».proof.Proof.Ideal.Launch
public import Idealize.ShloMosaic.Lib.ReduceAll

@[expose] public section

noncomputable section

namespace Cert.Value

open Idealize.ShloMosaic Idealize.ShloMosaic.ValueIdx
open scoped BigOperators

/-! ## What the precondition says -/

/-- The float word of +∞ is +∞. -/
theorem ofBits_inf : Ideal.ofBits .bf16 0x7F80#16 = ⊤ := by simp [Ideal.ofBits, Ideal.ieee]

/-- A value whose magnitude is below infinity is real. -/
theorem real_of_lt (z : EReal) (h : Ideal.cmp .olt (max z (-z)) ⊤ = 1#1) : ∃ r : ℝ, z = (r : EReal) := by
  have h' : max z (-z) < ⊤ := by
    by_contra hn
    unfold Ideal.cmp at h
    rw [decide_eq_false hn] at h
    exact absurd (show (0#1 : BitVec 1) = 1#1 from h) (by decide)
  have h1 : z ≠ ⊤ := ne_of_lt (lt_of_le_of_lt (le_max_left _ _) h')
  have h2 : z ≠ ⊥ := fun e => by
    subst e
    exact absurd (lt_of_le_of_lt (le_max_right _ _) h') (by simp)
  exact ⟨z.toReal, (EReal.coe_toReal h1 h2).symm⟩

section Pre
open Cert.Pre_finite_KernelIdeal Cert.Pre_finite_KernelIdeal.Facts

instance : Subsingleton S_.Idx := ⟨fun a b => funext fun i => i.elim0⟩

/-- The inputs, the query matrix and the keys are real. -/
theorem pre_real (x : FVec Ideal S1x1024x1024 .bf16) (wq : FVec Ideal S1024x1024 .bf16) (kk vv : FVec Ideal S1x1024x8x128 .bf16)
    (wo : FVec Ideal S1024x1024 .bf16) (h : Cert.Pre_finite_KernelIdeal.fn (F := Ideal) x wq kk vv wo = fun _ => 1#1) :
    (∀ i, ∃ r : ℝ, x i = (r : EReal)) ∧ (∀ i, ∃ r : ℝ, wq i = (r : EReal)) ∧ ∀ i, ∃ r : ℝ, kk i = (r : EReal) := by
  have h0 := congrFun h ix0
  unfold Cert.Pre_finite_KernelIdeal.fn at h0
  obtain ⟨h1, hk⟩ := IntOp.andi_eq_one.1 h0
  obtain ⟨hx, hw⟩ := IntOp.andi_eq_one.1 h1
  refine ⟨fun i => ?_, fun i => ?_, fun i => ?_⟩
  · have e := Host.reduce_andi_all _ _ _ _ _ hx i
    exact real_of_lt _ ((congrArg (Ideal.cmp .olt (max (x i) (-(x i)))) ofBits_inf.symm).trans e)
  · have e := Host.reduce_andi_all _ _ _ _ _ hw i
    exact real_of_lt _ ((congrArg (Ideal.cmp .olt (max (wq i) (-(wq i)))) ofBits_inf.symm).trans e)
  · have e := Host.reduce_andi_all _ _ _ _ _ hk i
    exact real_of_lt _ ((congrArg (Ideal.cmp .olt (max (kk i) (-(kk i)))) ofBits_inf.symm).trans e)

end Pre

/-! ## One row -/

/-- The scale is a nonnegative real. -/
theorem scl_real : ∃ c : ℝ, 0 ≤ c ∧ scl = (c : EReal) := by
  refine ⟨11863283 / 2 ^ 27, by norm_num, ?_⟩
  unfold scl
  simp [Ideal.ofBits, Ideal.ieee, -EReal.coe_mul]; norm_num

/-- A product of reals is real. -/
theorem mul_real {a b : EReal} (ha : ∃ r : ℝ, a = (r : EReal)) (hb : ∃ r : ℝ, b = (r : EReal)) : ∃ r : ℝ, a * b = (r : EReal) := by
  obtain ⟨p, rfl⟩ := ha
  obtain ⟨q, rfl⟩ := hb
  exact ⟨p * q, (EReal.coe_mul p q).symm⟩

section Rows
open Cert.KernelIdeal Cert.KernelIdealProof

variable (x : FVec Ideal S1x1024x1024 .bf16) (wq : FVec Ideal S1024x1024 .bf16) (k0 v0 : FVec Ideal S1x1024x8x128 .bf16)
  (kk vv : FVec Ideal Cert.ReferenceIdeal.S1x8192x8x128 .bf16) (wo : FVec Ideal S1024x1024 .bf16)

/-- The first block of keys or values. -/
def IsHead (a : FVec Ideal S1x1024x8x128 .bf16) (b : FVec Ideal Cert.ReferenceIdeal.S1x8192x8x128 .bf16) : Prop :=
  ∀ (j : Fin 1024) (h : Fin 8) (d : Fin 128), a (ix4 0 j h d) = b (ix4 0 (Fin.castLE (by decide) j) h d)

/-- Finite inputs, queries and keys. -/
structure Finite : Prop where
  hx : ∀ i, ∃ r : ℝ, x i = (r : EReal)
  hw : ∀ i, ∃ r : ℝ, wq i = (r : EReal)
  hk : ∀ i, ∃ r : ℝ, k0 i = (r : EReal)

variable {x wq k0 v0 kk vv}

/-- A visible key is in the first block. -/
theorem vis_lt {i : Fin 1024} {j : Fin 8192} (hv : j.val / 64 ≤ i.val / 64) : j.val < 1024 := by
  have := i.isLt
  omega

/-- The kernel's row of scores is the beginning of the reference's, -/
theorem srow_eq (hk : IsHead k0 kk) (k h : Fin 8) (r : Fin 128) (hw : 128 * (k.val + 1) ≤ 8192) (j : Fin (128 * (k.val + 1))) :
    srow x wq k0 k h r j = rrow x wq kk (row k r) h (Fin.castLE hw j) := by
  obtain ⟨c, hc, ec⟩ := scl_real
  unfold srow rrow
  show (if j.val / 64 ≤ (128 * k.val + r.val) / 64 then _ else _) = (if j.val / 64 ≤ (128 * k.val + r.val) / 64 then _ else _)
  by_cases hv : j.val / 64 ≤ (128 * k.val + r.val) / 64
  · rw [if_pos hv, if_pos hv, ec, sum_mul_coe _ c hc]
    refine Finset.sum_congr rfl fun d _ => ?_
    rw [hk (key j) h d, mul_right_comm]
    rfl
  · rw [if_neg hv, if_neg hv]

/-- whose scores are masked beyond it, -/
theorem rrow_bot (k h : Fin 8) (r : Fin 128) (j : Fin 8192) (hj : 128 * (k.val + 1) ≤ j.val) : rrow x wq kk (row k r) h j = ⊥ := by
  unfold rrow
  rw [if_neg]
  show ¬ j.val / 64 ≤ (128 * k.val + r.val) / 64
  have := r.isLt
  omega

/-- and real where visible. -/
theorem rrow_real (hf : Finite x wq k0) (hk : IsHead k0 kk) (i : Fin 1024) (h : Fin 8) (j : Fin 8192) (hv : j.val / 64 ≤ i.val / 64) :
    ∃ s : ℝ, rrow x wq kk i h j = (s : EReal) := by
  obtain ⟨c, hc, ec⟩ := scl_real
  unfold rrow
  rw [if_pos hv]
  refine mul_real (sum_real _ fun d => mul_real (sum_real _ fun t => mul_real (hf.hx _) (hf.hw _)) ?_) ⟨c, ec⟩
  obtain ⟨s, hs⟩ := hf.hk (ix4 0 ⟨j.val, vis_lt hv⟩ h d)
  exact ⟨s, (hk ⟨j.val, vis_lt hv⟩ h d).symm.trans hs⟩

/-- **A head's row of the kernel is the reference's.** -/
theorem row_eq (hf : Finite x wq k0) (hk : IsHead k0 kk) (hv : IsHead v0 vv) (k h : Fin 8) (r d : Fin 128) :
    ctxK (srow x wq k0 k h r) (fun j => v0 (ix4 0 (key j) h d)) = ctxR (rrow x wq kk (row k r) h) fun j => vv (ix4 0 j h d) := by
  have hw : 128 * (k.val + 1) ≤ 8192 := by have := k.isLt; omega
  have e1 : srow x wq k0 k h r = fun j => rrow x wq kk (row k r) h (Fin.castLE hw j) := funext fun j => srow_eq hk k h r hw j
  have e2 : (fun j : Fin (128 * (k.val + 1)) => v0 (ix4 0 (key j) h d)) = fun j => (fun j => vv (ix4 0 j h d)) (Fin.castLE hw j) :=
    funext fun j => hv (key j) h d
  rw [e1, e2]
  refine ctx_eq hw _ (fun j => vv (ix4 0 j h d)) (fun j hj => rrow_bot k h r j hj) (fun j => ?_) ⟨⟨0, by omega⟩, ?_⟩
  · by_cases hj : j.val / 64 ≤ (row k r).val / 64
    · obtain ⟨s, hs⟩ := rrow_real hf hk (row k r) h j hj
      rw [hs]; exact EReal.coe_ne_top s
    · unfold rrow
      rw [if_neg hj]; exact bot_ne_top
  · obtain ⟨s, hs⟩ := rrow_real hf hk (row k r) h (Fin.castLE hw ⟨0, by omega⟩) (by show 0 / 64 ≤ _; omega)
    rw [hs]; exact EReal.coe_ne_bot s

/-- The results agree at each place, -/
theorem out_at (hf : Finite x wq k0) (hk : IsHead k0 kk) (hv : IsHead v0 vv) (b c : Fin 1024) :
    outF (xW (F := Ideal) x wq k0 v0 wo) (ix3 (0 : Fin 1) b c) = Cert.ReferenceIdeal.Read.val_main_v42 (F := Ideal) x wq kk vv wo (ix3 0 b c) := by
  have hb := b.isLt
  refine (congrArg (xW (F := Ideal) x wq k0 v0 wo ⟨b.val / 128, by omega⟩)
    (eq_ix3 (n0 := 1) (n1 := 128) (n2 := 1024) _ : _ = ix3 0 (⟨b.val % 128, by omega⟩ : Fin 128) c)).trans ?_
  rw [xW_apply, chunkW_apply, v42_at]
  have hr : row ⟨b.val / 128, by omega⟩ ⟨b.val % 128, by omega⟩ = b := Fin.ext (by show 128 * (b.val / 128) + b.val % 128 = b.val; omega)
  refine Finset.sum_congr rfl fun e _ => congrArg (· * wo (ix2 e c)) ?_
  rw [row_eq hf hk hv, hr]

/-- **so they are equal.** -/
theorem out_eq (hf : Finite x wq k0) (hk : IsHead k0 kk) (hv : IsHead v0 vv) :
    outF (xW (F := Ideal) x wq k0 v0 wo) = Cert.ReferenceIdeal.Read.val_main_v42 (F := Ideal) x wq kk vv wo := by
  funext i
  have e : i = ix3 (0 : Fin 1) (i 1 : Fin 1024) (i 2 : Fin 1024) := funext fun a => match a with
    | ⟨0, _⟩ => Subsingleton.elim (α := Fin 1) _ _
    | ⟨1, _⟩ => rfl
    | ⟨2, _⟩ => rfl
  exact ((congrArg (outF (xW (F := Ideal) x wq k0 v0 wo)) e).trans (out_at wo hf hk hv (i 1) (i 2))).trans
    (congrArg (Cert.ReferenceIdeal.Read.val_main_v42 (F := Ideal) x wq kk vv wo) e).symm

end Rows

end Cert.Value

end
-- ==== Proof.Value.Final.lean ====
/-
# 01_k — `Value.Final`: every device's result from the arguments

Each window's one block is its whole array, so the contents the launch computes with are the arguments; every device's
result is device 0's; and the keys and values device 0 holds are the first block of the whole arrays.
-/
module

public import proofs.«01_k».proof.Proof.Value.Match

@[expose] public section

noncomputable section

namespace Cert.Value

open Idealize.ShloMosaic Idealize.ShloMosaic.ValueIdx Idealize.ShloMosaic.TcCoe Idealize.SL.Sem
open Cert.KernelIdeal Cert.KernelIdeal.Gen Cert.KernelIdealProof

variable (m : (ℓ : Loc nD τ sig) → Buf (Elt Ideal) ℓ) (ρ : Dev nD → PrngReg)

/-- The run's argument 0 of a device is what its memory holds at the start. -/
theorem inp0 (c : Dev nD) : inp (F := Ideal) m ρ c 0 = m ((c.tc : Thread nD τ).loc main_arg0) :=
  Memref.read_access_unit_zero (Elt Ideal) main_arg0
    (show (fun a => (win0_0.index t0_0) a * main_arg0.ty.shape.size a) = fun _ => 0 from funext fun a => by fin_cases a <;> decide) (fun a => by fin_cases a <;> decide) _
/-- The run's argument 1 of a device is what its memory holds at the start. -/
theorem inp1 (c : Dev nD) : inp (F := Ideal) m ρ c 1 = m ((c.tc : Thread nD τ).loc main_arg1) :=
  Memref.read_access_unit_zero (Elt Ideal) main_arg1
    (show (fun a => (win0_1.index t0_0) a * main_arg1.ty.shape.size a) = fun _ => 0 from funext fun a => by fin_cases a <;> decide) (fun a => by fin_cases a <;> decide) _
/-- The run's argument 2 of a device is what its memory holds at the start. -/
theorem inp2 (c : Dev nD) : inp (F := Ideal) m ρ c 2 = m ((c.tc : Thread nD τ).loc main_arg2) :=
  Memref.read_access_unit_zero (Elt Ideal) main_arg2
    (show (fun a => (win0_2.index t0_0) a * main_arg2.ty.shape.size a) = fun _ => 0 from funext fun a => by fin_cases a <;> decide) (fun a => by fin_cases a <;> decide) _
/-- The run's argument 3 of a device is what its memory holds at the start. -/
theorem inp3 (c : Dev nD) : inp (F := Ideal) m ρ c 3 = m ((c.tc : Thread nD τ).loc main_arg3) :=
  Memref.read_access_unit_zero (Elt Ideal) main_arg3
    (show (fun a => (win0_3.index t0_0) a * main_arg3.ty.shape.size a) = fun _ => 0 from funext fun a => by fin_cases a <;> decide) (fun a => by fin_cases a <;> decide) _
/-- The run's argument 4 of a device is what its memory holds at the start. -/
theorem inp4 (c : Dev nD) : inp (F := Ideal) m ρ c 4 = m ((c.tc : Thread nD τ).loc main_arg4) :=
  Memref.read_access_unit_zero (Elt Ideal) main_arg4
    (show (fun a => (win0_4.index t0_0) a * main_arg4.ty.shape.size a) = fun _ => 0 from funext fun a => by fin_cases a <;> decide) (fun a => by fin_cases a <;> decide) _

/-- **Every device's result**, from device 0's arguments. -/
theorem res_eq (c : Dev nD) : res (F := Ideal) m ρ c
    = outF (xW (F := Ideal) (m (((0 : Dev nD).tc : Thread nD τ).loc main_arg0)) (m (((0 : Dev nD).tc : Thread nD τ).loc main_arg1))
        (m (((0 : Dev nD).tc : Thread nD τ).loc main_arg2)) (m (((0 : Dev nD).tc : Thread nD τ).loc main_arg3)) (m (((0 : Dev nD).tc : Thread nD τ).loc main_arg4))) := by
  rw [← inp0 m ρ, ← inp1 m ρ, ← inp2 m ρ, ← inp3 m ρ, ← inp4 m ρ]
  unfold res resW
  refine congrArg outF ?_
  by_cases hc : c = 0
  · rw [if_pos hc]
  · rw [if_neg hc]
    unfold yA
    exact funext fun k => zW_yW _ _ _ _ _ k

/-- Device 0's block of the keys or values is their beginning. -/
theorem isHead_block (b : FVec Ideal Cert.ReferenceIdeal.S1x8192x8x128 .bf16) :
    IsHead (Layout.block ⟨4, ![1, 1024, 8, 128]⟩ ⟨4, ![1, 8192, 8, 128]⟩ 1 8 0 b) b := fun j h d => by
  refine congrArg b (funext fun a => Fin.ext ?_)
  match a with
  | ⟨0, _⟩ => rfl
  | ⟨1, _⟩ => show 0 * 1024 + j.val = j.val; omega
  | ⟨2, _⟩ => rfl
  | ⟨3, _⟩ => rfl

end Cert.Value

end
-- ==== Proof.lean ====
/-
# 01_k — the claims

Each program runs to its end, leaving its arguments and its counters as they were; the idealized kernel differs from the
printed one by the fill of the masked scores; and the two compute the same result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_KernelIdeal
public import proofs.«01_k».proof.Proof.Gen.Pre_finite_ReferenceIdeal
public import proofs.«01_k».proof.Proof.Launch
public import proofs.«01_k».proof.Proof.Ideal.Launch
public import proofs.«01_k».proof.Proof.Value.Final
public import Idealize.ShloMosaic.Adequacy
public import Idealize.ShloMosaic.Init

@[expose] public section

noncomputable section

namespace Cert.Proof

open Idealize.ShloMosaic Idealize.SL.Sem Cert.Kernel

/-- The printed kernel ends, its arguments as they were and every counter at zero. -/
theorem frame_kernel : Cert.quiescent_Kernel := fun m ρ _ =>
  (θ_run Cert.Kernel.defs _ _).mono (fun _ h => ⟨fun c => (h.1 c).2, h.2⟩) (Cert.KernelProof.run_all (F := Bits) m ρ)

/-- So does the idealized kernel, -/
theorem frame_ideal : Cert.quiescent_KernelIdeal := fun m ρ _ =>
  (θ_run Cert.KernelIdeal.defs _ _).mono (fun _ h => ⟨fun c => (h.1 c).2, h.2⟩) (Cert.KernelIdealProof.run_all (F := Ideal) m ρ)

/-- and the reference, which has no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The fill of the masked scores is −∞ in the idealized kernel. -/
theorem preserves : Cert.preserves_Kernel_KernelIdeal := IdealRules.named_const.statement Cert.KernelIdeal.κ "mask" .f32 0xCE6E6B28#32 ⊥ rfl

/-- Under the precondition the frames hold as they do without it. -/
theorem frame_ideal_pre : Cert.quiescent_KernelIdeal_pre_finite_KernelIdeal := fun m ρ _ => frame_ideal m ρ trivial
/-- The reference's frame under the precondition is its frame. -/
theorem frame_reference_pre : Cert.quiescent_ReferenceIdeal_pre_finite_ReferenceIdeal := fun m ρ _ => frame_reference m ρ trivial

/-- **The idealized kernel computes the reference**: with finite inputs, query matrix and keys, every run of either ends,
    and every device's result is the reference's. -/
theorem algebraic : Cert.algebraic_KernelIdeal_ReferenceIdeal_pre_finite_KernelIdeal := fun m g m' g' hp ha => by
  obtain ⟨e0, e1, e2, e3, e4⟩ := ha 0
  obtain ⟨hx, hw, hk⟩ := Cert.Value.pre_real _ _ _ _ _ (hp 0)
  have hout : ∀ c, Cert.KernelIdealProof.res (F := Ideal) m g c = Cert.ReferenceIdeal.Value.res_main_v42 m' 0 := fun c => by
    rw [Cert.Value.res_eq, Cert.ReferenceIdeal.Read.val_main_v42_eq, ← e0, ← e1, ← e4]
    refine Cert.Value.out_eq _ ⟨hx, hw, hk⟩ ?_ ?_
    · rw [e2]; exact Cert.Value.isHead_block _
    · rw [e3]; exact Cert.Value.isHead_block _
  exact ⟨Cert.ReferenceIdeal.Value.res_main_v42 m' 0,
    (θ_run Cert.KernelIdeal.defs _ _).mono (fun _ h c => ⟨(h.1 c).1.trans (hout c), (h.1 c).2⟩) (Cert.KernelIdealProof.run_all (F := Ideal) m g),
    (θ_run Cert.ReferenceIdeal.defs _ _).mono (fun _ h => h 0) (Cert.ReferenceIdeal.Value.run (F := Ideal) m' g')⟩

/-- The certificate's claims. -/
theorem claim : Cert.Claim :=
  ⟨Cert.Kernel.Gen.facts, Cert.KernelIdeal.Gen.facts, Cert.ReferenceIdeal.Gen.facts, Cert.Pre_finite_KernelIdeal.Gen.facts,
    Cert.Pre_finite_ReferenceIdeal.Gen.facts, frame_kernel, frame_ideal, frame_ideal_pre, frame_reference, frame_reference_pre, preserves, algebraic⟩

end Cert.Proof

end
